-- ==== Defs.lean ====
def Pre_Kernel [hPre_indices_in_range : Cert.Pre_indices_in_range.Facts] (m : (ℓ : Loc Cert.Kernel.nD Cert.Kernel.τ Cert.Kernel.sig) → Buf (Elt Bits) ℓ) : Prop :=
  ∀ c : Dev Cert.Kernel.nD,
    (Cert.Pre_indices_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_indices_in_range : Cert.Pre_indices_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_indices_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_distinct_scores [hPre_distinct_scores : Cert.Pre_distinct_scores.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.1 = (fun _ => 1#1)
    ∧ (Cert.Pre_distinct_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_scores [hPre_distinct_scores : Cert.Pre_distinct_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.1 = (fun _ => 1#1)
    ∧ (Cert.Pre_distinct_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2.2 = (fun _ => 1#1)

def quiescent_Kernel [hKernel : Cert.Kernel.Facts] [hPre_indices_in_range : Cert.Pre_indices_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_indices_in_range : Cert.Pre_indices_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_distinct_scores [hKernelIdeal : Cert.KernelIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_distinct_scores [hReferenceIdeal : Cert.ReferenceIdeal.Facts] [hPre_distinct_scores : Cert.Pre_distinct_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_distinct_scores [hKernelIdeal : Cert.KernelIdeal.Facts] [hReferenceIdeal : Cert.ReferenceIdeal.Facts] [hPre_distinct_scores : Cert.Pre_distinct_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_indices_in_range : Cert.Pre_indices_in_range.Facts) (hPre_distinct_scores : Cert.Pre_distinct_scores.Facts),
    quiescent_Kernel (hKernel := hKernel) (hPre_indices_in_range := hPre_indices_in_range)
    ∧ quiescent_KernelIdeal (hKernelIdeal := hKernelIdeal) (hPre_indices_in_range := hPre_indices_in_range)
    ∧ quiescent_KernelIdeal_pre_distinct_scores (hKernelIdeal := hKernelIdeal) (hPre_distinct_scores := hPre_distinct_scores)
    ∧ quiescent_ReferenceIdeal (hReferenceIdeal := hReferenceIdeal)
    ∧ quiescent_ReferenceIdeal_pre_distinct_scores (hReferenceIdeal := hReferenceIdeal) (hPre_distinct_scores := hPre_distinct_scores)
    ∧ preserves_Kernel_KernelIdeal
    ∧ algebraic_KernelIdeal_ReferenceIdeal_pre_distinct_scores (hKernelIdeal := hKernelIdeal) (hReferenceIdeal := hReferenceIdeal) (hPre_distinct_scores := hPre_distinct_scores)
-- ==== Pre_distinct_scores.lean ====
abbrev S10000x128 : Shape := ⟨2, ![10000, 128]⟩
abbrev S320000x16 : Shape := ⟨2, ![320000, 16]⟩
abbrev S272x4 : Shape := ⟨2, ![272, 4]⟩
abbrev S128x128 : Shape := ⟨2, ![128, 128]⟩
abbrev S128 : Shape := ⟨1, ![128]⟩
abbrev S16x128 : Shape := ⟨2, ![16, 128]⟩
abbrev S2x320000 : Shape := ⟨2, ![2, 320000]⟩
abbrev S10000 : Shape := ⟨1, ![10000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S320000x272 : Shape := ⟨2, ![320000, 272]⟩
abbrev S320000x4 : Shape := ⟨2, ![320000, 4]⟩
abbrev S319999 : Shape := ⟨1, ![319999]⟩

class Facts : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S320000 : S_.BroadcastsInDim S320000 (![] : Fin 0 → Fin S320000.rank)
  bcast_S320000_S320000x1_0 : S320000.BroadcastsInDim S320000x1 (![0] : Fin 1 → Fin S320000x1.rank)
  concatenates_S320000x128_S320000x128_S320000x16_S320000x272_d1 : Shape.Concatenates [S320000x128, S320000x128, S320000x16] S320000x272 1
  bcast_S_S320000x4 : S_.BroadcastsInDim S320000x4 (![] : Fin 0 → Fin S320000x4.rank)
  reducesTo_S320000x4_S320000_d1 : S320000x4.ReducesTo [1] S320000
  h_S_ : 0 < S_.numel
  bcast_S_S2x320000 : S_.BroadcastsInDim S2x320000 (![] : Fin 0 → Fin S2x320000.rank)
  bcast_S_S10000 : S_.BroadcastsInDim S10000 (![] : Fin 0 → Fin S10000.rank)
  slices_S320000_S319999_1 : S320000.Slices ![1] S319999
  slices_S320000_S319999_0 : S320000.Slices ![0] S319999
  gather_S10000x128_S320000x1_S320000x128_1_0_n_n_0_1_1128_wf : GatherDims.WF S10000x128 S320000x1 S320000x128 [1] [0] [] [0] [] 1 ![1, 128]
  dot_S320000x272_S272x4_S320000x4_1_0_0_1_n_n_wf : DotDims.WF S320000x272 S272x4 S320000x4 [1] [0] [0] [1] [] []

variable [Facts]

variable {F : FTy → Type} [FloatOps F]
def gather_S10000x128_S320000x1_S320000x128_1_0_n_n_0_1_1128 : GatherDims S10000x128 S320000x1 S320000x128 where
  offsetDims := [1]
  collapsedSliceDims := [0]
  operandBatchingDims := []
  startIndicesBatchingDims := []
  startIndexMap := [0]
  indexVectorDim := 1
  sliceSizes := ![1, 128]
  wf := gather_S10000x128_S320000x1_S320000x128_1_0_n_n_0_1_1128_wf
def dot_S320000x272_S272x4_S320000x4_1_0_0_1_n_n : DotDims S320000x272 S272x4 S320000x4 where
  lhsContracting := [1]
  rhsContracting := [0]
  lhsNonContracting := [0]
  rhsNonContracting := [1]
  lhsBatch := []
  rhsBatch := []
  wf := dot_S320000x272_S272x4_S320000x4_1_0_0_1_n_n_wf
def comparator_i32_f32_d0 : BitVec 32 × F .f32 → BitVec 32 × F .f32 → BitVec 1 :=
  fun l r =>
    let cst_9 := FloatOps.ofBits .f32 0x00000000#32
    let v42 := FloatOps.cmpf .oeq l.2 cst_9
    let cst_10 := FloatOps.ofBits .f32 0x00000000#32
    let v43 := Scalar.select v42 cst_10 l.2
    let v44 := FloatOps.cmpf .une l.2 l.2
    let cst_11 := FloatOps.ofBits .f32 0x7FC00000#32
    let v45 := Scalar.select v44 cst_11 v43
    let cst_12 := FloatOps.ofBits .f32 0x00000000#32
    let v46 := FloatOps.cmpf .oeq r.2 cst_12
    let cst_13 := FloatOps.ofBits .f32 0x00000000#32
    let v47 := Scalar.select v46 cst_13 r.2
    let v48 := FloatOps.cmpf .une r.2 r.2
    let cst_14 := FloatOps.ofBits .f32 0x7FC00000#32
    let v49 := Scalar.select v48 cst_14 v47
    let v50 := FloatOps.cmpfTotal .lt v45 v49
    let v51 := IntOp.cmpi .slt l.1 r.1
    let v52 := IntOp.cmpi .eq l.1 r.1
    let v53 := IntOp.andi v52 v50
    let v54 := IntOp.ori v51 v53
    v54

def fn_where {F : FTy → Type} [FloatOps F] (arg0 : IVec S320000x4 1) (arg1 : FVec F S320000x4 .f32) (arg2 : FVec F S320000x4 .f32) : FVec F S320000x4 .f32 :=
  let v0 : FVec F S320000x4 .f32 := select arg0 arg1 arg2
  v0

def fn_leaky_relu {F : FTy → Type} [FloatOps F] (arg0 : FVec F S320000x4 .f32) (arg1 : FVec F S_ .f32) : FVec F S320000x4 .f32 :=
  let cst : FVec F S_ .f32 := constant S_ .f32 0x00000000#32
  let v0 : FVec F S320000x4 .f32 := broadcastInDim S320000x4 ![] bcast_S_S320000x4 cst
  let v1 : IVec S320000x4 1 := cmpf .oge arg0 v0
  let v2 : FVec F S_ .f32 := id arg1
  let v3 : FVec F S320000x4 .f32 := broadcastInDim S320000x4 ![] bcast_S_S320000x4 v2
  let v4 : FVec F S320000x4 .f32 := mulf v3 arg0
  let v5 : FVec F S320000x4 .f32 := fn_where (F := F) v1 arg0 v4
  v5

def fn_part2 {F : FTy → Type} [FloatOps F] (main_v28 : IVec S2x320000 1) (main_v30 : IVec S10000 1) (main_v33 : IVec S320000 1) (main_v34_0 : IVec S320000 32) (main_v34_1 : FVec F S320000 .f32) (main_v35 : IVec S319999 32) : IVec S2x320000 1 × IVec S10000 1 × IVec S320000 1 × IVec S319999 1 :=
  let main_v36 : IVec S319999 32 := (extractStridedSlice S319999 ![0] · slices_S320000_S319999_0) main_v34_0
  let main_v37 : IVec S319999 1 := cmpi .ne main_v35 main_v36
  let main_v38 : FVec F S319999 .f32 := (extractStridedSlice S319999 ![1] · slices_S320000_S319999_1) main_v34_1
  let main_v39 : FVec F S319999 .f32 := (extractStridedSlice S319999 ![0] · slices_S320000_S319999_0) main_v34_1
  let main_v40 : IVec S319999 1 := cmpf .une main_v38 main_v39
  let main_v41 : IVec S319999 1 := ori main_v37 main_v40
  (main_v28, main_v30, main_v33, main_v41)

def fn_part1 {F : FTy → Type} [FloatOps F] (main_arg7 : IVec S2x320000 32) (main_arg8 : IVec S10000 32) (main_v3 : IVec S320000 32) (main_v19 : FVec F S320000x4 .f32) : IVec S2x320000 1 × IVec S10000 1 × IVec S320000 1 × IVec S319999 1 :=
  let main_cst : FVec F S_ .f32 := constant S_ .f32 0x3E4CCCCD#32
  let main_v20 : FVec F S320000x4 .f32 := fn_leaky_relu (F := F) main_v19 main_cst
  let main_cst_3 : FVec F S_ .f32 := constant S_ .f32 0x00000000#32
  let main_v21 : FVec F S320000 .f32 := (fun x v => Host.reduceAdd x v reducesTo_S320000x4_S320000_d1 h_S_) main_v20 main_cst_3
  let main_cst_4 : FVec F S_ .f32 := constant S_ .f32 0x40800000#32
  let main_v22 : FVec F S320000 .f32 := broadcastInDim S320000 ![] bcast_S_S320000 main_cst_4
  let main_v23 : FVec F S320000 .f32 := Host.divf main_v21 main_v22
  let main_c_5 : IVec S_ 32 := constantI S_ 32 0#32
  let main_v24 : IVec S2x320000 32 := broadcastInDim S2x320000 ![] bcast_S_S2x320000 main_c_5
  let main_v25 : IVec S2x320000 1 := cmpi .sge main_arg7 main_v24
  let main_c_6 : IVec S_ 32 := constantI S_ 32 10000#32
  let main_v26 : IVec S2x320000 32 := broadcastInDim S2x320000 ![] bcast_S_S2x320000 main_c_6
  let main_v27 : IVec S2x320000 1 := cmpi .slt main_arg7 main_v26
  let main_v28 : IVec S2x320000 1 := andi main_v25 main_v27
  let main_c_7 : IVec S_ 32 := constantI S_ 32 0#32
  let main_v29 : IVec S10000 32 := broadcastInDim S10000 ![] bcast_S_S10000 main_c_7
  let main_v30 : IVec S10000 1 := cmpi .sge main_arg8 main_v29
  let main_v31 : FVec F S320000 .f32 := Host.absf main_v23
  let main_cst_8 : FVec F S_ .f32 := constant S_ .f32 0x7F800000#32
  let main_v32 : FVec F S320000 .f32 := broadcastInDim S320000 ![] bcast_S_S320000 main_cst_8
  let main_v33 : IVec S320000 1 := cmpf .olt main_v31 main_v32
  let main_v34_0 : IVec S320000 32 := (fun x y => (Host.sort2 S320000 0 comparator_i32_f32_d0 x y).1) main_v3 main_v23
  let main_v34_1 : FVec F S320000 .f32 := (fun x y => (Host.sort2 S320000 0 comparator_i32_f32_d0 x y).2) main_v3 main_v23
  let main_v35 : IVec S319999 32 := (extractStridedSlice S319999 ![1] · slices_S320000_S319999_1) main_v34_0
  fn_part2 (F := F) main_v28 main_v30 main_v33 main_v34_0 main_v34_1 main_v35

def fn {F : FTy → Type} [FloatOps F] (main_arg0 : FVec F S10000x128 .f32) (main_arg1 : FVec F S320000x16 .f32) (main_arg2 : FVec F S272x4 .f32) (main_arg3 : FVec F S128x128 .f32) (main_arg4 : FVec F S128 .f32) (main_arg5 : FVec F S16x128 .f32) (main_arg6 : FVec F S128 .f32) (main_arg7 : IVec S2x320000 32) (main_arg8 : IVec S10000 32) : IVec S2x320000 1 × IVec S10000 1 × IVec S320000 1 × IVec S319999 1 :=
  let main_v0 : IVec S1x320000 32 := (extractStridedSlice S1x320000 ![0, 0] · slices_S2x320000_S1x320000_0_0) main_arg7
  let main_v1 : IVec S320000 32 := shapeCast S320000 main_v0 shapeCasts_S1x320000_S320000
  let main_v2 : IVec S1x320000 32 := (extractStridedSlice S1x320000 ![1, 0] · slices_S2x320000_S1x320000_1_0) main_arg7
  let main_v3 : IVec S320000 32 := shapeCast S320000 main_v2 shapeCasts_S1x320000_S320000
  let main_c : IVec S_ 32 := constantI S_ 32 0#32
  let main_v4 : IVec S320000 32 := broadcastInDim S320000 ![] bcast_S_S320000 main_c
  let main_v5 : IVec S320000 1 := cmpi .slt main_v1 main_v4
  let main_c_0 : IVec S_ 32 := constantI S_ 32 10000#32
  let main_v6 : IVec S320000 32 := broadcastInDim S320000 ![] bcast_S_S320000 main_c_0
  let main_v7 : IVec S320000 32 := addi main_v1 main_v6
  let main_v8 : IVec S320000 32 := select main_v5 main_v7 main_v1
  let main_v9 : IVec S320000x1 32 := broadcastInDim S320000x1 ![0] bcast_S320000_S320000x1_0 main_v8
  let main_v10 : FVec F S320000x128 .f32 := (fun x i => Host.gather gather_S10000x128_S320000x1_S320000x128_1_0_n_n_0_1_1128 x i) main_arg0 main_v9
  let main_c_1 : IVec S_ 32 := constantI S_ 32 0#32
  let main_v11 : IVec S320000 32 := broadcastInDim S320000 ![] bcast_S_S320000 main_c_1
  let main_v12 : IVec S320000 1 := cmpi .slt main_v3 main_v11
  let main_c_2 : IVec S_ 32 := constantI S_ 32 10000#32
  let main_v13 : IVec S320000 32 := broadcastInDim S320000 ![] bcast_S_S320000 main_c_2
  let main_v14 : IVec S320000 32 := addi main_v3 main_v13
  let main_v15 : IVec S320000 32 := select main_v12 main_v14 main_v3
  let main_v16 : IVec S320000x1 32 := broadcastInDim S320000x1 ![0] bcast_S320000_S320000x1_0 main_v15
  let main_v17 : FVec F S320000x128 .f32 := (fun x i => Host.gather gather_S10000x128_S320000x1_S320000x128_1_0_n_n_0_1_1128 x i) main_arg0 main_v16
  let main_v18 : FVec F S320000x272 .f32 := concatenate S320000x272 1 [⟨S320000x128, main_v10⟩, ⟨S320000x128, main_v17⟩, ⟨S320000x16, main_arg1⟩] concatenates_S320000x128_S320000x128_S320000x16_S320000x272_d1
  let main_v19 : FVec F S320000x4 .f32 := (fun l r => Host.dotGeneral dot_S320000x272_S272x4_S320000x4_1_0_0_1_n_n none l r) main_v18 main_arg2
  fn_part1 (F := F) main_arg7 main_arg8 main_v3 main_v19
-- ==== Pre_indices_in_range.lean ====
abbrev S10000x128 : Shape := ⟨2, ![10000, 128]⟩
abbrev S320000x16 : Shape := ⟨2, ![320000, 16]⟩
abbrev S272x4 : Shape := ⟨2, ![272, 4]⟩
abbrev S128x128 : Shape := ⟨2, ![128, 128]⟩
abbrev S128 : Shape := ⟨1, ![128]⟩
abbrev S16x128 : Shape := ⟨2, ![16, 128]⟩
abbrev S2x320000 : Shape := ⟨2, ![2, 320000]⟩
abbrev S10000 : Shape := ⟨1, ![10000]⟩
abbrev S_ : Shape := ⟨0, ![]⟩

class Facts : Prop where
  bcast_S_S2x320000 : S_.BroadcastsInDim S2x320000 (![] : Fin 0 → Fin S2x320000.rank)

variable [Facts]

def fn {F : FTy → Type} [FloatOps F] (main_arg0 : FVec F S10000x128 .f32) (main_arg1 : FVec F S320000x16 .f32) (main_arg2 : FVec F S272x4 .f32) (main_arg3 : FVec F S128x128 .f32) (main_arg4 : FVec F S128 .f32) (main_arg5 : FVec F S16x128 .f32) (main_arg6 : FVec F S128 .f32) (main_arg7 : IVec S2x320000 32) (main_arg8 : IVec S10000 32) : IVec S2x320000 1 :=
  let main_c : IVec S_ 32 := constantI S_ 32 0#32
  let main_v0 : IVec S2x320000 32 := broadcastInDim S2x320000 ![] bcast_S_S2x320000 main_c
  let main_v1 : IVec S2x320000 1 := cmpi .sge main_arg7 main_v0
  let main_c_0 : IVec S_ 32 := constantI S_ 32 10000#32
  let main_v2 : IVec S2x320000 32 := broadcastInDim S2x320000 ![] bcast_S_S2x320000 main_c_0
  let main_v3 : IVec S2x320000 1 := cmpi .slt main_arg7 main_v2
  let main_v4 : IVec S2x320000 1 := andi main_v1 main_v3
  main_v4
-- ==== Kernel.lean ====
abbrev S10000x128 : Shape := ⟨2, ![10000, 128]⟩
abbrev S320000x16 : Shape := ⟨2, ![320000, 16]⟩
abbrev S272x4 : Shape := ⟨2, ![272, 4]⟩
abbrev S128x128 : Shape := ⟨2, ![128, 128]⟩
abbrev S128 : Shape := ⟨1, ![128]⟩
abbrev S16x128 : Shape := ⟨2, ![16, 128]⟩
abbrev S2x320000 : Shape := ⟨2, ![2, 320000]⟩
abbrev S10000 : Shape := ⟨1, ![10000]⟩
abbrev S1x320000 : Shape := ⟨2, ![1, 320000]⟩
abbrev S320000 : Shape := ⟨1, ![320000]⟩
abbrev S320x1x1000 : Shape := ⟨3, ![320, 1, 1000]⟩
abbrev S1x10000 : Shape := ⟨2, ![1, 10000]⟩
abbrev S1x128 : Shape := ⟨2, ![1, 128]⟩
abbrev S10000x4 : Shape := ⟨2, ![10000, 4]⟩
abbrev S128x4 : Shape := ⟨2, ![128, 4]⟩
abbrev S320000x1 : Shape := ⟨2, ![320000, 1]⟩
abbrev S10000x1 : Shape := ⟨2, ![10000, 1]⟩
abbrev S10000x16 : Shape := ⟨2, ![10000, 16]⟩
abbrev S1x1x1000 : Shape := ⟨3, ![1, 1, 1000]⟩
abbrev S1000x16 : Shape := ⟨2, ![1000, 16]⟩
abbrev S1000x1 : Shape := ⟨2, ![1000, 1]⟩
abbrev S1000x4 : Shape := ⟨2, ![1000, 4]⟩
abbrev S16x4 : Shape := ⟨2, ![16, 4]⟩
abbrev S1x16 : Shape := ⟨2, ![1, 16]⟩
abbrev S1x1x1 : Shape := ⟨3, ![1, 1, 1]⟩
abbrev S1x4 : Shape := ⟨2, ![1, 4]⟩
abbrev S1 : Shape := ⟨1, ![1]⟩
abbrev S1x1 : Shape := ⟨2, ![1, 1]⟩
abbrev S1x15 : Shape := ⟨2, ![1, 15]⟩
abbrev S20000x128 : Shape := ⟨2, ![20000, 128]⟩
abbrev S1000x128 : Shape := ⟨2, ![1000, 128]⟩
abbrev S10000x256 : Shape := ⟨2, ![10000, 256]⟩
abbrev S_ : Shape := ⟨0, ![]⟩
abbrev S10000x384 : Shape := ⟨2, ![10000, 384]⟩

abbrev nBuf : Space → Nat
  | .hbm => 30
  | .vmem => 28
  | .smem => 9
  | _ => 0

abbrev bufTy : (tb : Table) → Fin (tcTables nBuf tb) → BufTy
  | .hbm, ⟨0, _⟩ => ⟨S10000x128, .f32⟩
  | .hbm, ⟨1, _⟩ => ⟨S320000x16, .f32⟩
  | .hbm, ⟨2, _⟩ => ⟨S272x4, .f32⟩
  | .hbm, ⟨3, _⟩ => ⟨S128x128, .f32⟩
  | .hbm, ⟨4, _⟩ => ⟨S128, .f32⟩
  | .hbm, ⟨5, _⟩ => ⟨S16x128, .f32⟩
  | .hbm, ⟨6, _⟩ => ⟨S128, .f32⟩
  | .hbm, ⟨7, _⟩ => ⟨S2x320000, .i32⟩
  | .hbm, ⟨8, _⟩ => ⟨S10000, .i32⟩
  | .hbm, ⟨9, _⟩ => ⟨S1x320000, .i32⟩
  | .hbm, ⟨10, _⟩ => ⟨S320000, .i32⟩
  | .hbm, ⟨11, _⟩ => ⟨S320x1x1000, .i32⟩
  | .hbm, ⟨12, _⟩ => ⟨S1x320000, .i32⟩
  | .hbm, ⟨13, _⟩ => ⟨S320000, .i32⟩
  | .hbm, ⟨14, _⟩ => ⟨S320x1x1000, .i32⟩
  | .hbm, ⟨15, _⟩ => ⟨S1x10000, .i32⟩
  | .hbm, ⟨16, _⟩ => ⟨S1x128, .f32⟩
  | .hbm, ⟨17, _⟩ => ⟨S10000x128, .f32⟩
  | .hbm, ⟨18, _⟩ => ⟨S10000x4, .f32⟩
  | .hbm, ⟨19, _⟩ => ⟨S10000x4, .f32⟩
  | .hbm, ⟨20, _⟩ => ⟨S320000x1, .f32⟩
  | .hbm, ⟨21, _⟩ => ⟨S10000x1, .f32⟩
  | .hbm, ⟨22, _⟩ => ⟨S10000x16, .f32⟩
  | .hbm, ⟨23, _⟩ => ⟨S10000x1, .f32⟩
  | .hbm, ⟨24, _⟩ => ⟨S1x128, .f32⟩
  | .hbm, ⟨25, _⟩ => ⟨S20000x128, .f32⟩
  | .hbm, ⟨26, _⟩ => ⟨S10000x256, .f32⟩
  | .hbm, ⟨27, _⟩ => ⟨S_, .f32⟩
  | .hbm, ⟨28, _⟩ => ⟨S10000x128, .f32⟩
  | .hbm, ⟨29, _⟩ => ⟨S10000x384, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S272x4, .f32⟩
  | .local _ .vmem, ⟨4, _⟩ => ⟨S10000x128, .f32⟩
  | .local _ .vmem, ⟨5, _⟩ => ⟨S10000x4, .f32⟩
  | .local _ .vmem, ⟨6, _⟩ => ⟨S10000x4, .f32⟩
  | .local _ .vmem, ⟨7, _⟩ => ⟨S1000x16, .f32⟩
  | .local _ .vmem, ⟨8, _⟩ => ⟨S1000x16, .f32⟩
  | .local _ .vmem, ⟨9, _⟩ => ⟨S272x4, .f32⟩
  | .local _ .vmem, ⟨10, _⟩ => ⟨S10000x4, .f32⟩
  | .local _ .vmem, ⟨11, _⟩ => ⟨S10000x4, .f32⟩
  | .local _ .vmem, ⟨12, _⟩ => ⟨S1000x1, .f32⟩
  | .local _ .vmem, ⟨13, _⟩ => ⟨S1000x1, .f32⟩
  | .local _ .vmem, ⟨14, _⟩ => ⟨S10000x1, .f32⟩
  | .local _ .vmem, ⟨15, _⟩ => ⟨S10000x16, .f32⟩
  | .local _ .vmem, ⟨16, _⟩ => ⟨S1000x4, .f32⟩
  | .local _ .vmem, ⟨17, _⟩ => ⟨S1000x16, .f32⟩
  | .local _ .vmem, ⟨18, _⟩ => ⟨S1000x16, .f32⟩
  | .local _ .vmem, ⟨19, _⟩ => ⟨S16x128, .f32⟩
  | .local _ .vmem, ⟨20, _⟩ => ⟨S1x128, .f32⟩
  | .local _ .vmem, ⟨21, _⟩ => ⟨S10000x128, .f32⟩
  | .local _ .vmem, ⟨22, _⟩ => ⟨S1000x1, .f32⟩
  | .local _ .vmem, ⟨23, _⟩ => ⟨S1000x1, .f32⟩
  | .local _ .vmem, ⟨24, _⟩ => ⟨S10000x1, .f32⟩
  | .local _ .vmem, ⟨25, _⟩ => ⟨S10000x1, .f32⟩
  | .local _ .vmem, ⟨26, _⟩ => ⟨S20000x128, .f32⟩
  | .local _ .vmem, ⟨27, _⟩ => ⟨S1000x128, .f32⟩
  | .local _ .smem, ⟨0, _⟩ => ⟨S1x1x1000, .i32⟩
  | .local _ .smem, ⟨1, _⟩ => ⟨S1x1x1000, .i32⟩
  | .local _ .smem, ⟨2, _⟩ => ⟨S1x1x1000, .i32⟩
  | .local _ .smem, ⟨3, _⟩ => ⟨S1x1x1000, .i32⟩
  | .local _ .smem, ⟨4, _⟩ => ⟨S1x1x1000, .i32⟩
  | .local _ .smem, ⟨5, _⟩ => ⟨S1x1x1000, .i32⟩
  | .local _ .smem, ⟨6, _⟩ => ⟨S1x1x1000, .i32⟩
  | .local _ .smem, ⟨7, _⟩ => ⟨S1x1x1000, .i32⟩
  | .local _ .smem, ⟨8, _⟩ => ⟨S1x10000, .i32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg2_0 : Ref sig .tc := ⟨.vmem, 7, rfl⟩
abbrev cc1_stg2_1 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg5_0 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg8_0 : Ref sig .tc := ⟨.vmem, 15, rfl⟩
abbrev cc1_scratch0 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_scratch0 : Ref sig .tc := ⟨.vmem, 27, rfl⟩
abbrev cc1_stg0_0 : Ref sig .tc := ⟨.smem, 0, rfl⟩
abbrev cc1_stg0_1 : Ref sig .tc := ⟨.smem, 1, rfl⟩
abbrev cc1_stg1_0 : Ref sig .tc := ⟨.smem, 2, rfl⟩
abbrev cc1_stg1_1 : Ref sig .tc := ⟨.smem, 3, rfl⟩
abbrev cc2_stg0_0 : Ref sig .tc := ⟨.smem, 4, rfl⟩
abbrev cc2_stg0_1 : Ref sig .tc := ⟨.smem, 5, rfl⟩
abbrev cc2_stg1_0 : Ref sig .tc := ⟨.smem, 6, rfl⟩
abbrev cc2_stg1_1 : Ref sig .tc := ⟨.smem, 7, rfl⟩
abbrev cc2_stg2_0 : Ref sig .tc := ⟨.smem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem8_0 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc2_sem8_0 : DmaSem sig := 32
abbrev cc2_sem9_0 : DmaSem sig := 33
abbrev cc2_sem10_0 : DmaSem sig := 34

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S272x4 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S10000x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S10000x4 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev grid1 : Pipeline.Grid := ⟨1, ![320], ![false]⟩

@[reducible] def k1_t1_loop : Scf.Loop 32 :=
  let c0_i32_8 : BitVec 32 := 0#32
  let c1000_i32 : BitVec 32 := 1000#32
  let v15 : BitVec 32 := Scalar.addi c0_i32_8 c1000_i32
  let c1_i32 : BitVec 32 := 1#32
  ⟨c0_i32_8, v15, c1_i32⟩
def k1_off1 (k1_t1 : Fin k1_t1_loop.trips) : Fin 3 → Nat :=
  let c0_10 : Index := 0#32
  let c0_11 : Index := 0#32
  let c0_i32_8 : BitVec 32 := 0#32
  let c1_i32 : BitVec 32 := 1#32
  let arg11 : BitVec 32 := Scf.iv c0_i32_8 c1_i32 k1_t1
  let v16 : Index := Scalar.indexCast arg11
  ![0, 0, v16.toNat]
def k1_off2 (v17 : BitVec 32) : Fin 2 → Nat :=
  let v20 : Index := Scalar.indexCast v17
  let c0_14 : Index := 0#32
  ![v20.toNat, 0]

def k1_chk1 (v17 : BitVec 32) : Prop :=
  (∀ a, (k1_off2 v17) a + S1x4.size a ≤ S10000x4.size a)
theorem k1_off2_inb : ∀ (v17 : BitVec 32) (k1_hw1 : k1_chk1 v17), ∀ a, (k1_off2 v17) a + S1x4.size a ≤ S10000x4.size a := fun v17 k1_hw1 => k1_hw1

def k1_off3 (v19 : BitVec 32) : Fin 2 → Nat :=
  let v23 : Index := Scalar.indexCast v19
  let c0_15 : Index := 0#32
  ![v23.toNat, 0]

def k1_off4 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v27 : Index := Scalar.indexCast arg11
  let c0_16 : Index := 0#32
  ![v27.toNat, 0]
def k1_off5 (k1_t1 : Fin k1_t1_loop.trips) : Fin 2 → Nat :=
  let c0_i32_8 : BitVec 32 := 0#32
  let c1_i32 : BitVec 32 := 1#32
  let arg11 : BitVec 32 := Scf.iv c0_i32_8 c1_i32 k1_t1
  let v40 : Index := Scalar.indexCast arg11
  let c0_21 : Index := 0#32
  ![v40.toNat, 0]
def k1_off6 (v19 : BitVec 32) : Fin 2 → Nat :=
  let v42 : Index := Scalar.indexCast v19
  let c0_22 : Index := 0#32
  ![v42.toNat, 0]
def k1_off7 (v19 : BitVec 32) : Fin 2 → Nat :=
  let v48 : Index := Scalar.indexCast v19
  let c0_24 : Index := 0#32
  ![v48.toNat, 0]

def k1_chk2 (v19 : BitVec 32) : Prop :=
  (∀ a, (k1_off3 v19) a + S1x4.size a ≤ S10000x4.size a) ∧
  (∀ a, (k1_off6 v19) a + S1x1.size a ≤ S10000x1.size a) ∧
  (∀ a, (k1_off7 v19) a + S1x16.size a ≤ S10000x16.size a)
theorem k1_off3_inb : ∀ (v19 : BitVec 32) (k1_hw2 : k1_chk2 v19), ∀ a, (k1_off3 v19) a + S1x4.size a ≤ S10000x4.size a := fun v19 k1_hw2 => k1_hw2.1
theorem k1_off6_inb : ∀ (v19 : BitVec 32) (k1_hw2 : k1_chk2 v19), ∀ a, (k1_off6 v19) a + S1x1.size a ≤ S10000x1.size a := fun v19 k1_hw2 => k1_hw2.2.1
theorem k1_off7_inb : ∀ (v19 : BitVec 32) (k1_hw2 : k1_chk2 v19), ∀ a, (k1_off7 v19) a + S1x16.size a ≤ S10000x16.size a := fun v19 k1_hw2 => k1_hw2.2.2

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .smem S1x1x1000 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .smem S1x1x1000 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S272x4 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S10000x4 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10000x4 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1000x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S10000x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S10000x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev grid2 : Pipeline.Grid := ⟨1, ![320], ![false]⟩

@[reducible] def k2_t1_loop : Scf.Loop 32 :=
  let c0_i32_8 : BitVec 32 := 0#32
  let c1000_i32 : BitVec 32 := 1000#32
  let v13 : BitVec 32 := Scalar.addi c0_i32_8 c1000_i32
  let c1_i32 : BitVec 32 := 1#32
  ⟨c0_i32_8, v13, c1_i32⟩
def k2_off1 (k2_t1 : Fin k2_t1_loop.trips) : Fin 3 → Nat :=
  let c0_10 : Index := 0#32
  let c0_11 : Index := 0#32
  let c0_i32_8 : BitVec 32 := 0#32
  let c1_i32 : BitVec 32 := 1#32
  let arg13 : BitVec 32 := Scf.iv c0_i32_8 c1_i32 k2_t1
  let v14 : Index := Scalar.indexCast arg13
  ![0, 0, v14.toNat]
def k2_off2 (k2_t1 : Fin k2_t1_loop.trips) : Fin 2 → Nat :=
  let c0_i32_8 : BitVec 32 := 0#32
  let c1_i32 : BitVec 32 := 1#32
  let arg13 : BitVec 32 := Scf.iv c0_i32_8 c1_i32 k2_t1
  let v18 : Index := Scalar.indexCast arg13
  let c0_14 : Index := 0#32
  ![v18.toNat, 0]
def k2_off3 (v17 : BitVec 32) : Fin 2 → Nat :=
  let v21 : Index := Scalar.indexCast v17
  let c0_15 : Index := 0#32
  ![v21.toNat, 0]

def k2_off4 (v15 : BitVec 32) : Fin 2 → Nat :=
  let v31 : Index := Scalar.indexCast v15
  let c0_18 : Index := 0#32
  ![v31.toNat, 0]

def k2_off5 (k2_t1 : Fin k2_t1_loop.trips) : Fin 2 → Nat :=
  let c0_i32_8 : BitVec 32 := 0#32
  let c1_i32 : BitVec 32 := 1#32
  let arg13 : BitVec 32 := Scf.iv c0_i32_8 c1_i32 k2_t1
  let v34 : Index := Scalar.indexCast arg13
  let c0_19 : Index := 0#32
  ![v34.toNat, 0]
def k2_off6 (v15 : BitVec 32) : Fin 2 → Nat :=
  let c0_21 : Index := 0#32
  let v39 : Index := Scalar.indexCast v15
  ![0, v39.toNat]

def k2_chk2 (v15 : BitVec 32) : Prop :=
  (∀ a, (k2_off4 v15) a + S1x128.size a ≤ S10000x128.size a) ∧
  (∀ a, (k2_off6 v15) a + S1x1.size a ≤ S1x10000.size a)
theorem k2_off4_inb : ∀ (v15 : BitVec 32) (k2_hw2 : k2_chk2 v15), ∀ a, (k2_off4 v15) a + S1x128.size a ≤ S10000x128.size a := fun v15 k2_hw2 => k2_hw2.1
theorem k2_off6_inb : ∀ (v15 : BitVec 32) (k2_hw2 : k2_chk2 v15), ∀ a, (k2_off6 v15) a + S1x1.size a ≤ S1x10000.size a := fun v15 k2_hw2 => k2_hw2.2

def k2_off7 (v17 : BitVec 32) : Fin 2 → Nat :=
  let c0_22 : Index := 0#32
  let v41 : Index := Scalar.indexCast v17
  ![0, v41.toNat]

def k2_chk1 (v17 : BitVec 32) : Prop :=
  (∀ a, (k2_off3 v17) a + S1x1.size a ≤ S10000x1.size a) ∧
  (∀ a, (k2_off7 v17) a + S1x1.size a ≤ S1x10000.size a)
theorem k2_off3_inb : ∀ (v17 : BitVec 32) (k2_hw1 : k2_chk1 v17), ∀ a, (k2_off3 v17) a + S1x1.size a ≤ S10000x1.size a := fun v17 k2_hw1 => k2_hw1.1
theorem k2_off7_inb : ∀ (v17 : BitVec 32) (k2_hw1 : k2_chk1 v17), ∀ a, (k2_off7 v17) a + S1x1.size a ≤ S1x10000.size a := fun v17 k2_hw1 => k2_hw1.2

def k2_off8 (v17 : BitVec 32) (v40 : BitVec 32) (v42 : BitVec 32) : Fin 2 → Nat :=
  let c2_i32 : BitVec 32 := 2#32
  let v45 : BitVec 32 := Scalar.muli c2_i32 v17
  let v43 : BitVec 1 := Scalar.cmpi .ne v40 v42
  let c1_i32_23 : BitVec 32 := 1#32
  let c0_i32_24 : BitVec 32 := 0#32
  let v44 : BitVec 32 := Scalar.select v43 c1_i32_23 c0_i32_24
  let v46 : BitVec 32 := Scalar.addi v45 v44
  let v47 : Index := Scalar.indexCast v46
  let c0_25 : Index := 0#32
  ![v47.toNat, 0]

def k2_chk3 (v17 : BitVec 32) (v40 : BitVec 32) (v42 : BitVec 32) : Prop :=
  (∀ a, (k2_off8 v17 v40 v42) a + S1x128.size a ≤ S20000x128.size a)
theorem k2_off8_inb : ∀ (v17 : BitVec 32) (v40 : BitVec 32) (v42 : BitVec 32) (k2_hw3 : k2_chk3 v17 v40 v42), ∀ a, (k2_off8 v17 v40 v42) a + S1x128.size a ≤ S20000x128.size a := fun v17 v40 v42 k2_hw3 => k2_hw3

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .smem S1x1x1000 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .smem S1x1x1000 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .smem S1x10000 .i32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1000x16 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S16x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S10000x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S1000x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 1 → Memref sig .tc .vmem S10000x1 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S10000x1 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S20000x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]
-- ==== ReferenceIdeal.lean ====
abbrev S10000x128 : Shape := ⟨2, ![10000, 128]⟩
abbrev S320000x16 : Shape := ⟨2, ![320000, 16]⟩
abbrev S272x4 : Shape := ⟨2, ![272, 4]⟩
abbrev S128x128 : Shape := ⟨2, ![128, 128]⟩
abbrev S128 : Shape := ⟨1, ![128]⟩
abbrev S16x128 : Shape := ⟨2, ![16, 128]⟩
abbrev S2x320000 : Shape := ⟨2, ![2, 320000]⟩
abbrev S10000 : Shape := ⟨1, ![10000]⟩
abbrev S1x320000 : Shape := ⟨2, ![1, 320000]⟩
abbrev S320000 : Shape := ⟨1, ![320000]⟩
abbrev S_ : Shape := ⟨0, ![]⟩
abbrev S320000x1 : Shape := ⟨2, ![320000, 1]⟩
abbrev S320000x128 : Shape := ⟨2, ![320000, 128]⟩
abbrev S1x128 : Shape := ⟨2, ![1, 128]⟩
abbrev S320000x272 : Shape := ⟨2, ![320000, 272]⟩
abbrev S320000x4 : Shape := ⟨2, ![320000, 4]⟩
abbrev S10000x1 : Shape := ⟨2, ![10000, 1]⟩
abbrev S10000x320000 : Shape := ⟨2, ![10000, 320000]⟩
abbrev S1 : Shape := ⟨1, ![1]⟩
abbrev S9999 : Shape := ⟨1, ![9999]⟩
abbrev S10000x384 : Shape := ⟨2, ![10000, 384]⟩

abbrev nBuf : Space → Nat
  | .hbm => 238
  | .vmem => 0
  | .smem => 0
  | _ => 0

abbrev hbmTy0_0 (i : Nat) : BufTy := match i % 128 with
  | 0 => ⟨S10000x128, .f32⟩
  | 1 => ⟨S320000x16, .f32⟩
  | 2 => ⟨S272x4, .f32⟩
  | 3 => ⟨S128x128, .f32⟩
  | 4 => ⟨S128, .f32⟩
  | 5 => ⟨S16x128, .f32⟩
  | 6 => ⟨S128, .f32⟩
  | 7 => ⟨S2x320000, .i32⟩
  | 8 => ⟨S10000, .i32⟩
  | 9 => ⟨S1x320000, .i32⟩
  | 10 => ⟨S320000, .i32⟩
  | 11 => ⟨S1x320000, .i32⟩
  | 12 => ⟨S320000, .i32⟩
  | 13 => ⟨S_, .i32⟩
  | 14 => ⟨S320000, .i32⟩
  | 15 => ⟨S320000, .i1⟩
  | 16 => ⟨S_, .i32⟩
  | 17 => ⟨S320000, .i32⟩
  | 18 => ⟨S320000, .i32⟩
  | 19 => ⟨S320000, .i32⟩
  | 20 => ⟨S320000x1, .i32⟩
  | 21 => ⟨S320000x128, .f32⟩
  | 22 => ⟨S320000x128, .f32⟩
  | 23 => ⟨S1x128, .f32⟩
  | 24 => ⟨S320000x128, .f32⟩
  | 25 => ⟨S320000x128, .f32⟩
  | 26 => ⟨S320000x128, .f32⟩
  | 27 => ⟨S1x128, .f32⟩
  | 28 => ⟨S320000x128, .f32⟩
  | 29 => ⟨S320000x128, .f32⟩
  | 30 => ⟨S320000x128, .f32⟩
  | 31 => ⟨S_, .f32⟩
  | 32 => ⟨S320000x128, .f32⟩
  | 33 => ⟨S320000x128, .f32⟩
  | 34 => ⟨S_, .i32⟩
  | 35 => ⟨S320000, .i32⟩
  | 36 => ⟨S320000, .i1⟩
  | 37 => ⟨S_, .i32⟩
  | 38 => ⟨S320000, .i32⟩
  | 39 => ⟨S320000, .i32⟩
  | 40 => ⟨S320000, .i32⟩
  | 41 => ⟨S320000x1, .i32⟩
  | 42 => ⟨S320000x128, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000x128, .f32⟩
  | 52 => ⟨S320000x272, .f32⟩
  | 53 => ⟨S320000x4, .f32⟩
  | 54 => ⟨S_, .f32⟩
  | 55 => ⟨S_, .f32⟩
  | 56 => ⟨S320000x4, .f32⟩
  | 57 => ⟨S320000x4, .i1⟩
  | 58 => ⟨S_, .f32⟩
  | 59 => ⟨S320000x4, .f32⟩
  | 60 => ⟨S320000x4, .f32⟩
  | 61 => ⟨S320000x4, .f32⟩
  | 62 => ⟨S_, .f32⟩
  | 63 => ⟨S320000, .f32⟩
  | 64 => ⟨S_, .f32⟩
  | 65 => ⟨S320000, .f32⟩
  | 66 => ⟨S320000, .f32⟩
  | 67 => ⟨S1x320000, .i32⟩
  | 68 => ⟨S10000, .i32⟩
  | 69 => ⟨S10000x1, .i32⟩
  | 70 => ⟨S10000x320000, .i32⟩
  | 71 => ⟨S10000x320000, .i32⟩
  | 72 => ⟨S10000x320000, .i1⟩
  | 73 => ⟨S1x320000, .f32⟩
  | 74 => ⟨S_, .f32⟩
  | 75 => ⟨S_, .f32⟩
  | 76 => ⟨S10000x320000, .f32⟩
  | 77 => ⟨S10000x320000, .f32⟩
  | 78 => ⟨S10000x320000, .f32⟩
  | 79 => ⟨S_, .f32⟩
  | 80 => ⟨S10000, .f32⟩
  | 81 => ⟨S_, .i32⟩
  | 82 => ⟨S320000, .i32⟩
  | 83 => ⟨S320000, .i1⟩
  | 84 => ⟨S_, .i32⟩
  | 85 => ⟨S320000, .i32⟩
  | 86 => ⟨S320000, .i32⟩
  | 87 => ⟨S320000, .i32⟩
  | 88 => ⟨S320000x1, .i32⟩
  | 89 => ⟨S320000, .f32⟩
  | 90 => ⟨S320000, .f32⟩
  | 91 => ⟨S320000, .f32⟩
  | 92 => ⟨S_, .f32⟩
  | 93 => ⟨S10000, .f32⟩
  | 94 => ⟨S320000x1, .i32⟩
  | 95 => ⟨S10000, .f32⟩
  | 96 => ⟨S_, .i32⟩
  | 97 => ⟨S320000, .i32⟩
  | 98 => ⟨S320000, .i1⟩
  | 99 => ⟨S_, .i32⟩
  | 100 => ⟨S320000, .i32⟩
  | 101 => ⟨S320000, .i32⟩
  | 102 => ⟨S320000, .i32⟩
  | 103 => ⟨S320000x1, .i32⟩
  | 104 => ⟨S320000, .f32⟩
  | 105 => ⟨S320000, .f32⟩
  | 106 => ⟨S320000, .f32⟩
  | 107 => ⟨S320000, .i32⟩
  | 108 => ⟨S320000, .i32⟩
  | 109 => ⟨S320000, .f32⟩
  | 110 => ⟨S320000, .i32⟩
  | 111 => ⟨S_, .i32⟩
  | 112 => ⟨S10000, .i32⟩
  | 113 => ⟨S_, .i32⟩
  | 114 => ⟨S_, .i32⟩
  | 115 => ⟨S320000, .i32⟩
  | 116 => ⟨S320000, .i32⟩
  | 117 => ⟨S_, .i32⟩
  | 118 => ⟨S320000, .i32⟩
  | 119 => ⟨S320000, .i1⟩
  | 120 => ⟨S_, .i32⟩
  | 121 => ⟨S320000, .i32⟩
  | 122 => ⟨S320000, .i32⟩
  | 123 => ⟨S320000, .i32⟩
  | 124 => ⟨S320000x1, .i32⟩
  | 125 => ⟨S_, .i32⟩
  | 126 => ⟨S320000, .i32⟩
  | 127 => ⟨S10000, .i32⟩
  | _ => ⟨S10000x128, .f32⟩

abbrev hbmTy0_1 (i : Nat) : BufTy := match i % 128 with
  | 0 => ⟨S_, .i32⟩
  | 1 => ⟨S1, .i32⟩
  | 2 => ⟨S_, .i32⟩
  | 3 => ⟨S_, .i32⟩
  | 4 => ⟨S10000, .i32⟩
  | 5 => ⟨S9999, .i32⟩
  | 6 => ⟨S10000, .i32⟩
  | 7 => ⟨S320000, .i32⟩
  | 8 => ⟨S_, .i32⟩
  | 9 => ⟨S320000, .i32⟩
  | 10 => ⟨S320000, .i1⟩
  | 11 => ⟨S_, .i32⟩
  | 12 => ⟨S320000, .i32⟩
  | 13 => ⟨S320000, .i32⟩
  | 14 => ⟨S320000, .i32⟩
  | 15 => ⟨S320000x1, .i32⟩
  | 16 => ⟨S320000, .i32⟩
  | 17 => ⟨S_, .i32⟩
  | 18 => ⟨S320000, .i32⟩
  | 19 => ⟨S320000, .i1⟩
  | 20 => ⟨S_, .i32⟩
  | 21 => ⟨S320000, .i32⟩
  | 22 => ⟨S320000, .i32⟩
  | 23 => ⟨S320000, .i32⟩
  | 24 => ⟨S320000x1, .i32⟩
  | 25 => ⟨S320000, .i32⟩
  | 26 => ⟨S320000, .i32⟩
  | 27 => ⟨S_, .i1⟩
  | 28 => ⟨S320000, .i1⟩
  | 29 => ⟨S_, .i32⟩
  | 30 => ⟨S320000, .i32⟩
  | 31 => ⟨S320000, .i1⟩
  | 32 => ⟨S_, .i32⟩
  | 33 => ⟨S320000, .i32⟩
  | 34 => ⟨S320000, .i1⟩
  | 35 => ⟨S_, .i32⟩
  | 36 => ⟨S320000, .i32⟩
  | 37 => ⟨S320000, .i32⟩
  | 38 => ⟨S320000, .i32⟩
  | 39 => ⟨S320000x1, .i32⟩
  | 40 => ⟨S320000, .i1⟩
  | 41 => ⟨S320000, .f32⟩
  | 42 => ⟨S320000, .f32⟩
  | 43 => ⟨S_, .i32⟩
  | 44 => ⟨S320000, .i32⟩
  | 45 => ⟨S320000, .i1⟩
  | 46 => ⟨S_, .i32⟩
  | 47 => ⟨S320000, .i32⟩
  | 48 => ⟨S320000, .i32⟩
  | 49 => ⟨S320000, .i32⟩
  | 50 => ⟨S320000x1, .i32⟩
  | 51 => ⟨S320000, .i32⟩
  | 52 => ⟨S_, .i32⟩
  | 53 => ⟨S320000, .i32⟩
  | 54 => ⟨S320000, .i1⟩
  | 55 => ⟨S_, .i32⟩
  | 56 => ⟨S320000, .i32⟩
  | 57 => ⟨S320000, .i32⟩
  | 58 => ⟨S320000, .i32⟩
  | 59 => ⟨S320000x1, .i32⟩
  | 60 => ⟨S320000, .i32⟩
  | 61 => ⟨S320000, .i1⟩
  | 62 => ⟨S_, .i32⟩
  | 63 => ⟨S320000, .i32⟩
  | 64 => ⟨S320000, .i1⟩
  | 65 => ⟨S320000, .i1⟩
  | 66 => ⟨S320000, .i1⟩
  | 67 => ⟨S_, .i32⟩
  | 68 => ⟨S320000, .i32⟩
  | 69 => ⟨S320000, .i1⟩
  | 70 => ⟨S320000, .i1⟩
  | 71 => ⟨S_, .i32⟩
  | 72 => ⟨S320000, .i32⟩
  | 73 => ⟨S320000, .i1⟩
  | 74 => ⟨S320000, .i1⟩
  | 75 => ⟨S_, .i32⟩
  | 76 => ⟨S320000, .i32⟩
  | 77 => ⟨S320000, .i1⟩
  | 78 => ⟨S_, .i32⟩
  | 79 => ⟨S320000, .i32⟩
  | 80 => ⟨S320000, .i1⟩
  | 81 => ⟨S320000, .i1⟩
  | 82 => ⟨S320000, .f32⟩
  | 83 => ⟨S320000, .f32⟩
  | 84 => ⟨S320000x1, .f32⟩
  | 85 => ⟨S320000x128, .f32⟩
  | 86 => ⟨S320000x128, .f32⟩
  | 87 => ⟨S_, .f32⟩
  | 88 => ⟨S10000x128, .f32⟩
  | 89 => ⟨S320000x1, .i32⟩
  | 90 => ⟨S10000x128, .f32⟩
  | 91 => ⟨S320000, .f32⟩
  | 92 => ⟨S320000, .f32⟩
  | 93 => ⟨S320000x1, .f32⟩
  | 94 => ⟨S320000x128, .f32⟩
  | 95 => ⟨S320000x128, .f32⟩
  | 96 => ⟨S_, .f32⟩
  | 97 => ⟨S10000x128, .f32⟩
  | 98 => ⟨S320000x1, .i32⟩
  | 99 => ⟨S10000x128, .f32⟩
  | 100 => ⟨S320000, .f32⟩
  | 101 => ⟨S320000, .f32⟩
  | 102 => ⟨S320000x1, .f32⟩
  | 103 => ⟨S320000x128, .f32⟩
  | 104 => ⟨S320000x128, .f32⟩
  | 105 => ⟨S_, .f32⟩
  | 106 => ⟨S10000x128, .f32⟩
  | 107 => ⟨S320000x1, .i32⟩
  | 108 => ⟨S10000x128, .f32⟩
  | 109 => ⟨S10000x384, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_cst : Ref sig .tc := ⟨.hbm, 31, rfl⟩
abbrev main_call0_v0 : Ref sig .tc := ⟨.hbm, 32, rfl⟩
abbrev main_v20 : Ref sig .tc := ⟨.hbm, 33, rfl⟩
abbrev main_c_1 : Ref sig .tc := ⟨.hbm, 34, rfl⟩
abbrev main_v21 : Ref sig .tc := ⟨.hbm, 35, rfl⟩
abbrev main_v22 : Ref sig .tc := ⟨.hbm, 36, rfl⟩
abbrev main_c_2 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_3 : Ref sig .tc := ⟨.hbm, 43, rfl⟩
abbrev main_v28 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_call1_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v37 : Ref sig .tc := ⟨.hbm, 61, rfl⟩
abbrev main_cst_5 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_7 : Ref sig .tc := ⟨.hbm, 74, rfl⟩
abbrev main_call2_v0 : Ref sig .tc := ⟨.hbm, 75, rfl⟩
abbrev main_call2_v1 : Ref sig .tc := ⟨.hbm, 76, rfl⟩
abbrev main_call2_v2 : Ref sig .tc := ⟨.hbm, 77, rfl⟩
abbrev main_v48 : Ref sig .tc := ⟨.hbm, 78, rfl⟩
abbrev main_cst_8 : Ref sig .tc := ⟨.hbm, 79, rfl⟩
abbrev main_v49 : Ref sig .tc := ⟨.hbm, 80, rfl⟩
abbrev main_c_9 : Ref sig .tc := ⟨.hbm, 81, rfl⟩
abbrev main_v50 : Ref sig .tc := ⟨.hbm, 82, rfl⟩
abbrev main_v51 : Ref sig .tc := ⟨.hbm, 83, rfl⟩
abbrev main_c_10 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_cst_11 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c_12 : Ref sig .tc := ⟨.hbm, 96, rfl⟩
abbrev main_v62 : Ref sig .tc := ⟨.hbm, 97, rfl⟩
abbrev main_v63 : Ref sig .tc := ⟨.hbm, 98, rfl⟩
abbrev main_c_13 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_call3_v0 : Ref sig .tc := ⟨.hbm, 107, rfl⟩
abbrev main_call3_v1_0 : Ref sig .tc := ⟨.hbm, 108, rfl⟩
abbrev main_call3_v1_1 : Ref sig .tc := ⟨.hbm, 109, rfl⟩
abbrev main_v71 : Ref sig .tc := ⟨.hbm, 110, rfl⟩
abbrev main_c_14 : Ref sig .tc := ⟨.hbm, 111, rfl⟩
abbrev main_v72 : Ref sig .tc := ⟨.hbm, 112, rfl⟩
abbrev main_c_15 : Ref sig .tc := ⟨.hbm, 113, rfl⟩
abbrev main_call4_v0 : Ref sig .tc := ⟨.hbm, 114, rfl⟩
abbrev main_call4_v1 : Ref sig .tc := ⟨.hbm, 115, rfl⟩
abbrev main_v73 : Ref sig .tc := ⟨.hbm, 116, rfl⟩
abbrev main_c_16 : Ref sig .tc := ⟨.hbm, 117, rfl⟩
abbrev main_v74 : Ref sig .tc := ⟨.hbm, 118, rfl⟩
abbrev main_v75 : Ref sig .tc := ⟨.hbm, 119, rfl⟩
abbrev main_c_17 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_c_18 : Ref sig .tc := ⟨.hbm, 125, rfl⟩
abbrev main_v80 : Ref sig .tc := ⟨.hbm, 126, rfl⟩
abbrev main_v81 : Ref sig .tc := ⟨.hbm, 127, rfl⟩
abbrev main_c_19 : Ref sig .tc := ⟨.hbm, 128, rfl⟩
abbrev main_v82 : Ref sig .tc := ⟨.hbm, 129, rfl⟩
abbrev main_call5_call0_c : Ref sig .tc := ⟨.hbm, 130, rfl⟩
abbrev main_call5_call0_v0 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_c_20 : Ref sig .tc := ⟨.hbm, 136, rfl⟩
abbrev main_v87 : Ref sig .tc := ⟨.hbm, 137, rfl⟩
abbrev main_v88 : Ref sig .tc := ⟨.hbm, 138, rfl⟩
abbrev main_c_21 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_c_22 : Ref sig .tc := ⟨.hbm, 145, rfl⟩
abbrev main_v94 : Ref sig .tc := ⟨.hbm, 146, rfl⟩
abbrev main_v95 : Ref sig .tc := ⟨.hbm, 147, rfl⟩
abbrev main_c_23 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_c_24 : Ref sig .tc := ⟨.hbm, 155, rfl⟩
abbrev main_v102 : Ref sig .tc := ⟨.hbm, 156, rfl⟩
abbrev main_c_25 : Ref sig .tc := ⟨.hbm, 157, rfl⟩
abbrev main_v103 : Ref sig .tc := ⟨.hbm, 158, rfl⟩
abbrev main_v104 : Ref sig .tc := ⟨.hbm, 159, rfl⟩
abbrev main_c_26 : Ref sig .tc := ⟨.hbm, 160, rfl⟩
abbrev main_v105 : Ref sig .tc := ⟨.hbm, 161, rfl⟩
abbrev main_v106 : Ref sig .tc := ⟨.hbm, 162, rfl⟩
abbrev main_c_27 : Ref sig .tc := ⟨.hbm, 163, rfl⟩
abbrev main_v107 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_c_28 : Ref sig .tc := ⟨.hbm, 171, rfl⟩
abbrev main_v114 : Ref sig .tc := ⟨.hbm, 172, rfl⟩
abbrev main_v115 : Ref sig .tc := ⟨.hbm, 173, rfl⟩
abbrev main_c_29 : Ref sig .tc := ⟨.hbm, 174, rfl⟩
abbrev main_v116 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_c_30 : Ref sig .tc := ⟨.hbm, 180, rfl⟩
abbrev main_v121 : Ref sig .tc := ⟨.hbm, 181, rfl⟩
abbrev main_v122 : Ref sig .tc := ⟨.hbm, 182, rfl⟩
abbrev main_c_31 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_c_32 : Ref sig .tc := ⟨.hbm, 190, rfl⟩
abbrev main_v129 : Ref sig .tc := ⟨.hbm, 191, rfl⟩
abbrev main_v130 : Ref sig .tc := ⟨.hbm, 192, rfl⟩
abbrev main_v131 : Ref sig .tc := ⟨.hbm, 193, rfl⟩
abbrev main_v132 : Ref sig .tc := ⟨.hbm, 194, rfl⟩
abbrev main_c_33 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_c_34 : Ref sig .tc := ⟨.hbm, 199, rfl⟩
abbrev main_v136 : Ref sig .tc := ⟨.hbm, 200, rfl⟩
abbrev main_v137 : Ref sig .tc := ⟨.hbm, 201, rfl⟩
abbrev main_v138 : Ref sig .tc := ⟨.hbm, 202, rfl⟩
abbrev main_c_35 : Ref sig .tc := ⟨.hbm, 203, rfl⟩
abbrev main_v139 : Ref sig .tc := ⟨.hbm, 204, rfl⟩
abbrev main_v140 : Ref sig .tc := ⟨.hbm, 205, rfl⟩
abbrev main_c_36 : Ref sig .tc := ⟨.hbm, 206, rfl⟩
abbrev main_v141 : Ref sig .tc := ⟨.hbm, 207, rfl⟩
abbrev main_v142 : Ref sig .tc := ⟨.hbm, 208, rfl⟩
abbrev main_v143 : Ref sig .tc := ⟨.hbm, 209, rfl⟩
abbrev main_v144 : Ref sig .tc := ⟨.hbm, 210, rfl⟩
abbrev main_v145 : Ref sig .tc := ⟨.hbm, 211, rfl⟩
abbrev main_v146 : Ref sig .tc := ⟨.hbm, 212, rfl⟩
abbrev main_v147 : Ref sig .tc := ⟨.hbm, 213, rfl⟩
abbrev main_v148 : Ref sig .tc := ⟨.hbm, 214, rfl⟩
abbrev main_cst_37 : Ref sig .tc := ⟨.hbm, 215, rfl⟩
abbrev main_v149 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_cst_38 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_v160 : Ref sig .tc := ⟨.hbm, 228, rfl⟩
abbrev main_v161 : Ref sig .tc := ⟨.hbm, 229, rfl⟩
abbrev main_v162 : Ref sig .tc := ⟨.hbm, 230, rfl⟩
abbrev main_v163 : Ref sig .tc := ⟨.hbm, 231, rfl⟩
abbrev main_v164 : Ref sig .tc := ⟨.hbm, 232, rfl⟩
abbrev main_cst_39 : Ref sig .tc := ⟨.hbm, 233, rfl⟩
abbrev main_v165 : Ref sig .tc := ⟨.hbm, 234, rfl⟩
abbrev main_v166 : Ref sig .tc := ⟨.hbm, 235, rfl⟩
abbrev main_v167 : Ref sig .tc := ⟨.hbm, 236, rfl⟩
abbrev main_v168 : Ref sig .tc := ⟨.hbm, 237, rfl⟩

abbrev nD : Nat := 1
abbrev τ : Topo := Topo.v7x

variable {F : FTy → Type} [FloatOps F]
-- ==== Proof.Held.lean ====
/- Buffers held by what they read, and the rows and words that a loop's trip loads and stores. -/
module

public import Idealize.ShloMosaic.Lib.VecWindow
public import Idealize.ShloMosaic.Lib.Pointwise
public import Idealize.ShloMosaic.Lib.Tactic

@[expose] public section

set_option maxRecDepth 16384

noncomputable section

namespace Cert.Held

open Idealize.ShloMosaic Idealize.ShloMosaic.TcCoe

variable {α : Type} {A B : ℕ}

/-- Row `n` of a rank-2 array, as a one-row array. -/
def row (X : (⟨2, ![A, B]⟩ : Shape).Idx → α) (n : Fin A) : (⟨2, ![1, B]⟩ : Shape).Idx → α := fun y => X (ix2 n (y 1))

/-- A rank-2 array with its row `n` replaced. -/
def putRow (X : (⟨2, ![A, B]⟩ : Shape).Idx → α) (n : Fin A) (w : (⟨2, ![1, B]⟩ : Shape).Idx → α) : (⟨2, ![A, B]⟩ : Shape).Idx → α :=
  fun y => if (y 0).val = n.val then w (ix2 0 (y 1)) else X y

/-- The row that a word names, among `N`. -/
def wix (N : ℕ) [NeZero N] (w : BitVec 32) : Fin N := Fin.ofNat N w.toNat

/-- In range, the row that a word names is the word's number. -/
theorem wix_val {N : ℕ} [NeZero N] {w : BitVec 32} (h : w.toNat < N) : (wix N w).val = w.toNat := Nat.mod_eq_of_lt h

variable {sig : RefSig} {κ : Kind} {sp : Space} {e : EltTy} {Val : EltTy → Type} [∀ e, Nonempty (Val e)]

/-- A load of one row of a buffer that reads `X`: that row of `X`. -/
theorem readAt_row (v : View sig κ sp ⟨2, ![A, B]⟩ e) (X : (⟨2, ![A, B]⟩ : Shape).Idx → Val e) {off : Fin 2 → ℕ}
    (inb : ∀ a, off a + (![1, B] : Fin 2 → ℕ) a ≤ (![A, B] : Fin 2 → ℕ) a) (n : Fin A) (h : off = ![n.val, 0]) :
    v.readAt Val (Rect.unit (s := ⟨2, ![A, B]⟩) off ![1, B] inb).toLoadRect (v.rep X) = row X n := by
  subst h
  rw [View.readAt_rep_unit v X inb rfl inb]
  funext y
  refine congrArg X (funext fun a => Fin.ext ?_)
  have h0 : (y 0).val < 1 := (y 0).isLt
  show (![n.val, 0] : Fin 2 → ℕ) a + 1 * (y a).val = _
  fin_cases a
  · show n.val + 1 * (y 0).val = n.val
    omega
  · show 0 + 1 * (y 1).val = (y 1).val
    omega

/-- A store of one row over a buffer that reads `X`: `X` with that row replaced. -/
theorem read_writes_row (v : View sig κ sp ⟨2, ![A, B]⟩ e) (X : (⟨2, ![A, B]⟩ : Shape).Idx → Val e) {off : Fin 2 → ℕ}
    (inb : ∀ a, off a + (![1, B] : Fin 2 → ℕ) a ≤ (![A, B] : Fin 2 → ℕ) a) (w : (⟨2, ![1, B]⟩ : Shape).Idx → Val e) (n : Fin A)
    (h : off = ![n.val, 0]) :
    v.read Val (v.writes Val (v.rep X) [⟨Rect.unit (s := ⟨2, ![A, B]⟩) off ![1, B] inb, w⟩]) = putRow X n w := by
  subst h
  rw [View.read_writes_rep_unit v X inb w rfl]
  funext y
  have hb : (y 1).val < B := (y 1).isLt
  unfold VecWindow.put putRow
  by_cases hn : (y 0).val = n.val
  · rw [if_pos hn, dif_pos (by
      intro a
      fin_cases a
      · show n.val ≤ (y 0).val ∧ (y 0).val < n.val + 1
        omega
      · show 0 ≤ (y 1).val ∧ (y 1).val < 0 + B
        omega)]
    refine congrArg w (funext fun a => Fin.ext ?_)
    show (y a).val - (![n.val, 0] : Fin 2 → ℕ) a = _
    fin_cases a
    · show (y 0).val - n.val = 0
      omega
    · show (y 1).val - 0 = (y 1).val
      omega
  · rw [if_neg hn, dif_neg]
    intro hh
    have h0 : n.val ≤ (y 0).val ∧ (y 0).val < n.val + 1 := hh 0
    exact hn (by omega)

/-- Rows `o`, …, `o + N - 1` of a rank-2 array. -/
def slab (X : (⟨2, ![A, B]⟩ : Shape).Idx → α) (o N : ℕ) (h : o + N ≤ A) : (⟨2, ![N, B]⟩ : Shape).Idx → α :=
  fun y => X (ix2 ⟨o + (y 0).val, Nat.lt_of_lt_of_le (Nat.add_lt_add_left (y 0).isLt o) h⟩ (y 1))

/-- A load of `N` rows of a buffer that reads `X`: those rows of `X`. -/
theorem readAt_slab (v : View sig κ sp ⟨2, ![A, B]⟩ e) (X : (⟨2, ![A, B]⟩ : Shape).Idx → Val e) (o N : ℕ)
    (inb : ∀ a, (![o, 0] : Fin 2 → ℕ) a + (![N, B] : Fin 2 → ℕ) a ≤ (![A, B] : Fin 2 → ℕ) a) (h : o + N ≤ A) :
    v.readAt Val (Rect.unit (s := ⟨2, ![A, B]⟩) ![o, 0] ![N, B] inb).toLoadRect (v.rep X) = slab X o N h := by
  rw [View.readAt_rep_unit v X inb rfl inb]
  funext y
  refine congrArg X (funext fun a => Fin.ext ?_)
  show (![o, 0] : Fin 2 → ℕ) a + 1 * (y a).val = _
  fin_cases a
  · show o + 1 * (y 0).val = o + (y 0).val
    omega
  · show 0 + 1 * (y 1).val = (y 1).val
    omega

/-- A load of one word of a block of `B` words that reads `X`: that word. -/
theorem readAt_word3 (v : View sig κ sp ⟨3, ![1, 1, B]⟩ e) (X : (⟨3, ![1, 1, B]⟩ : Shape).Idx → Val e) {off : Fin 3 → ℕ}
    (inb : ∀ a, off a + (![1, 1, 1] : Fin 3 → ℕ) a ≤ (![1, 1, B] : Fin 3 → ℕ) a) (n : Fin B) (h : off = ![0, 0, n.val])
    (y : (⟨3, ![1, 1, 1]⟩ : Shape).Idx) :
    v.readAt Val (Rect.unit (s := ⟨3, ![1, 1, B]⟩) off ![1, 1, 1] inb).toLoadRect (v.rep X) y = X (ix3 0 0 n) := by
  subst h
  rw [View.readAt_rep_unit v X inb rfl inb]
  refine congrArg X (funext fun a => Fin.ext ?_)
  have h0 : (y 0).val < 1 := (y 0).isLt
  have h1 : (y 1).val < 1 := (y 1).isLt
  have h2 : (y 2).val < 1 := (y 2).isLt
  show (![0, 0, n.val] : Fin 3 → ℕ) a + 1 * (y a).val = _
  fin_cases a
  · show 0 + 1 * (y 0).val = 0
    omega
  · show 0 + 1 * (y 1).val = 0
    omega
  · show n.val + 1 * (y 2).val = n.val
    omega

/-- A load of one word of a row of `B` words that reads `X`: that word. -/
theorem readAt_word2 (v : View sig κ sp ⟨2, ![1, B]⟩ e) (X : (⟨2, ![1, B]⟩ : Shape).Idx → Val e) {off : Fin 2 → ℕ}
    (inb : ∀ a, off a + (![1, 1] : Fin 2 → ℕ) a ≤ (![1, B] : Fin 2 → ℕ) a) (n : Fin B) (h : off = ![0, n.val])
    (y : (⟨2, ![1, 1]⟩ : Shape).Idx) :
    v.readAt Val (Rect.unit (s := ⟨2, ![1, B]⟩) off ![1, 1] inb).toLoadRect (v.rep X) y = X (ix2 0 n) := by
  subst h
  rw [View.readAt_rep_unit v X inb rfl inb]
  refine congrArg X (funext fun a => Fin.ext ?_)
  have h0 : (y 0).val < 1 := (y 0).isLt
  have h1 : (y 1).val < 1 := (y 1).isLt
  show (![0, n.val] : Fin 2 → ℕ) a + 1 * (y a).val = _
  fin_cases a
  · show 0 + 1 * (y 0).val = 0
    omega
  · show n.val + 1 * (y 1).val = n.val
    omega

/-- A load of a whole buffer that reads `X`: `X`. -/
theorem readAt_whole {S : Shape} (v : View sig κ sp S e) (X : S.Idx → Val e) {off : Fin S.rank → ℕ}
    (inb : ∀ a, off a + S.size a ≤ S.size a) : v.readAt Val (Rect.unit off S.size inb).toLoadRect (v.rep X) = X := by
  rw [View.readAt_full, View.read_rep]

/-- A state carried through `n` trips of a loop, trip `k` changing it by `f k`. -/
def iter {σ : Type} (f : ℕ → σ → σ) (s : σ) : ℕ → σ
  | 0 => s
  | n + 1 => f n (iter f s n)

end Cert.Held

end
-- ==== Proof.Dense.lean ====
/- The dense node kernel: what it leaves in its three result buffers. -/
module

public import proofs.«01_k».proof.Proof.Gen.KernelIdeal.Loops
public import proofs.«01_k».proof.Proof.Gen.KernelIdeal.Launch
public import proofs.«01_k».proof.Proof.Held

@[expose] public section

set_option maxRecDepth 16384

noncomputable section

namespace Cert.KernelIdeal.Dense

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the regions' proofs. -/
local notation "𝕄" => MT nD τ sig Unit (Elt F) ℕ (UR sig nD τ) ℕ

/-- Memref `M` of core `c` held whole, reading `X`. -/
abbrev pt (c : Dev nD) {sp : Space} {S : Shape} {e : EltTy} (M : Memref sig .tc sp S e) (X : S.Idx → Elt F e) : sProp 𝕄 :=
  M.view.loc (c : Thread nD τ) ↦[M.view.set]{fullShare} M.view.rep X

/-- The rows it stores, of equal arrays. -/
theorem pay1_congr {a a' : Vec F S10000x128 .f32} {w w' : Vec F S128x128 .f32} {b b' : Vec F S1x128 .f32} (ha : a = a') (hw : w = w') (hb : b = b') :
    k0_pay1 a w b = k0_pay1 a' w' b' := by
  rw [ha, hw, hb]

/-- The source scores it stores, of equal arrays. -/
theorem pay2_congr {a a' : Vec F S10000x128 .f32} {w w' : Vec F S128x4 .f32} (ha : a = a') (hw : w = w') : k0_pay2 a w = k0_pay2 a' w' := by
  rw [ha, hw]

/-- The destination scores it stores, of equal arrays. -/
theorem pay3_congr {a a' : Vec F S10000x128 .f32} {w w' : Vec F S128x4 .f32} (ha : a = a') (hw : w = w') : k0_pay3 a w = k0_pay3 a' w' := by
  rw [ha, hw]

set_option maxHeartbeats 8000000 in
/-- The kernel: the node rows, and their two score arrays against the first and the second 128 rows of the weights. -/
theorem body (c : Dev nD) (arg0 : Memref sig .tc .vmem S10000x128 .f32) (harg0 : arg0.IsWhole) (arg1 : Memref sig .tc .vmem S128x128 .f32) (harg1 : arg1.IsWhole) (arg2 : Memref sig .tc .vmem S1x128 .f32) (harg2 : arg2.IsWhole) (arg3 : Memref sig .tc .vmem S272x4 .f32) (harg3 : arg3.IsWhole) (arg4 : Memref sig .tc .vmem S10000x128 .f32) (harg4 : arg4.IsWhole) (arg5 : Memref sig .tc .vmem S10000x4 .f32) (harg5 : arg5.IsWhole) (arg6 : Memref sig .tc .vmem S10000x4 .f32) (harg6 : arg6.IsWhole)
    (X : S10000x128.Idx → F .f32) (Wh : S128x128.Idx → F .f32) (b : S1x128.Idx → F .f32) (W : S272x4.Idx → F .f32)
    (Y4 : S10000x128.Idx → F .f32) (Y5 Y6 : S10000x4.Idx → F .f32) (E : Set ℕ) :
    iprop(pt c arg0 X ∗ pt c arg1 Wh ∗ pt c arg2 b ∗ pt c arg3 W ∗ pt c arg4 Y4 ∗ pt c arg5 Y5 ∗ pt c arg6 Y6)
      ⊢ wp frame (wpE (defs₀ (F := F)) Variants.none (c : Thread nD τ) none) E (cc0__dense_node_kernel (F := F) arg0 harg0 arg1 harg1 arg2 harg2 arg3 harg3 arg4 harg4 arg5 harg5 arg6 harg6)
          (fun _ => iprop(pt c arg0 X ∗ pt c arg1 Wh ∗ pt c arg2 b ∗ pt c arg3 W ∗ pt c arg4 (k0_pay1 X Wh b)
            ∗ pt c arg5 (k0_pay2 X (slab W 0 128 (by omega))) ∗ pt c arg6 (k0_pay3 X (slab W 128 128 (by omega))))) := by
  rw [cc0__dense_node_kernel_eq_skeleton]
  unfold cc0__dense_node_kernel_skel
  iintro ⟨H0, H1, H2, H3, H4, H5, H6⟩
  sl_exec
  sl_step
  have e4 := (View.read_writes_full (Val := Elt F) arg4.view (arg4.view.rep Y4) inb_S10000x128_S10000x128_0_0 _ []).trans
    (pay1_congr (readAt_whole (Val := Elt F) arg0.view X inb_S10000x128_S10000x128_0_0) (readAt_whole (Val := Elt F) arg1.view Wh inb_S128x128_S128x128_0_0)
      (readAt_whole (Val := Elt F) arg2.view b inb_S1x128_S1x128_0_0))
  have e5 := (View.read_writes_full (Val := Elt F) arg5.view (arg5.view.rep Y5) inb_S10000x4_S10000x4_0_0 _ []).trans
    (pay2_congr (readAt_whole (Val := Elt F) arg0.view X inb_S10000x128_S10000x128_0_0)
      (readAt_slab (A := 272) (B := 4) (Val := Elt F) arg3.view W 0 128 inb_S272x4_S128x4_0_0 (by omega)))
  have e6 := (View.read_writes_full (Val := Elt F) arg6.view (arg6.view.rep Y6) inb_S10000x4_S10000x4_0_0 _ []).trans
    (pay3_congr (readAt_whole (Val := Elt F) arg0.view X inb_S10000x128_S10000x128_0_0)
      (readAt_slab (A := 272) (B := 4) (Val := Elt F) arg3.view W 128 128 inb_S272x4_S128x4_128_0 (by omega)))
  isplitl [H0]; · iexact H0
  isplitl [H1]; · iexact H1
  isplitl [H2]; · iexact H2
  isplitl [H3]; · iexact H3
  isplitl [H4]
  · iapply (pointsTo_rep_of_read (c : Thread nD τ) arg4 _ fullShare (k0_pay1 X Wh b) e4)
    iexact H4
  isplitl [H5]
  · iapply (pointsTo_rep_of_read (c : Thread nD τ) arg5 _ fullShare (k0_pay2 X (slab W 0 128 (by omega))) e5)
    iexact H5
  iapply (pointsTo_rep_of_read (c : Thread nD τ) arg6 _ fullShare (k0_pay3 X (slab W 128 128 (by omega))) e6)
  iexact H6

end Cert.KernelIdeal.Dense

end
-- ==== Proof.Loop1.lean ====
/- The first edge pass: one trip of its loop, and the loop. -/
module

public import proofs.«01_k».proof.Proof.Gen.KernelIdeal.Loops
public import proofs.«01_k».proof.Proof.Gen.KernelIdeal.Launch
public import proofs.«01_k».proof.Proof.Held

@[expose] public section

set_option maxRecDepth 16384

noncomputable section

namespace Cert.KernelIdeal.Pass1

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the regions' proofs. -/
local notation "𝕄" => MT nD τ sig Unit (Elt F) ℕ (UR sig nD τ) ℕ

/-- Memref `M` of core `c` held whole, reading `X`. -/
abbrev pt (c : Dev nD) {sp : Space} {S : Shape} {e : EltTy} (M : Memref sig .tc sp S e) (X : S.Idx → Elt F e) : sProp 𝕄 :=
  M.view.loc (c : Thread nD τ) ↦[M.view.set]{fullShare} M.view.rep X

/-- What one trip of the first pass's loop reads: the words of the point's edge blocks, the nodes' two score rows, and the edges' score rows. -/
structure In1 (F : FTy → Type) where
  /-- the edges' source words -/
  R : S1x1x1000.Idx → BitVec 32
  /-- the edges' destination words -/
  C : S1x1x1000.Idx → BitVec 32
  /-- the nodes' score rows as sources -/
  Sr : S10000x4.Idx → F .f32
  /-- the nodes' score rows as destinations -/
  Sc : S10000x4.Idx → F .f32
  /-- the edges' score rows -/
  Ej : S1000x4.Idx → F .f32

/-- What the loop changes: the edges' exponentials, the nodes' sums, the nodes' sorted tables. -/
structure St1 (F : FTy → Type) where
  /-- the edges' exponentials -/
  ex : S1000x1.Idx → F .f32
  /-- the nodes' sums of exponentials -/
  dn : S10000x1.Idx → F .f32
  /-- the nodes' sorted tables -/
  tb : S10000x16.Idx → F .f32

/-- Every word of the point's edge blocks names a node. -/
def In1.Ok (x : In1 F) : Prop := ∀ k : Fin 1000, (x.R (ix3 0 0 k)).toNat < 10000 ∧ (x.C (ix3 0 0 k)).toNat < 10000

/-- Edge `k`'s exponential. -/
def In1.e (x : In1 F) (k : Fin 1000) : FVec F S1x1 .f32 :=
  k1_pay5 (row x.Sr (wix 10000 (x.R (ix3 0 0 k)))) (row x.Sc (wix 10000 (x.C (ix3 0 0 k)))) (row x.Ej k)

/-- A node's sum with an exponential added. -/
def addTo (e d : FVec F S1x1 .f32) : FVec F S1x1 .f32 := addf d e

/-- A node's table with an exponential inserted. -/
def insTo (e : FVec F S1x1 .f32) (v : FVec F S1x16 .f32) : FVec F S1x16 .f32 :=
  k1_pay4 e v (cmpf .oge v (broadcastTo S1x16 e broadcasts_S1x1_S1x16)) (Scalar.ofBits .f32 0x00000000#32) (k1_pay9 (F := F))

/-- What is held after trip `k`. -/
def In1.step (x : In1 F) (k : Fin 1000) (s : St1 F) : St1 F :=
  ⟨putRow s.ex k (x.e k),
    putRow s.dn (wix 10000 (x.C (ix3 0 0 k))) (addTo (x.e k) (row s.dn (wix 10000 (x.C (ix3 0 0 k))))),
    putRow s.tb (wix 10000 (x.C (ix3 0 0 k))) (insTo (x.e k) (row s.tb (wix 10000 (x.C (ix3 0 0 k)))))⟩

theorem off2_eq {w : BitVec 32} (h : w.toNat < 10000) : k1_off2 w = ![(wix 10000 w).val, 0] := by rw [wix_val h]; rfl
theorem off3_eq {w : BitVec 32} (h : w.toNat < 10000) : k1_off3 w = ![(wix 10000 w).val, 0] := by rw [wix_val h]; rfl
theorem off6_eq {w : BitVec 32} (h : w.toNat < 10000) : k1_off6 w = ![(wix 10000 w).val, 0] := by rw [wix_val h]; rfl
theorem off7_eq {w : BitVec 32} (h : w.toNat < 10000) : k1_off7 w = ![(wix 10000 w).val, 0] := by rw [wix_val h]; rfl

theorem chk1_of {w : BitVec 32} (h : w.toNat < 10000) : k1_chk1 w := by
  unfold k1_chk1
  rw [off2_eq h, wix_val h]
  intro a; fin_cases a <;> simp <;> omega

theorem chk2_of {w : BitVec 32} (h : w.toNat < 10000) : k1_chk2 w := by
  unfold k1_chk2
  rw [off3_eq h, off6_eq h, off7_eq h, wix_val h]
  refine ⟨?_, ?_, ?_⟩ <;> intro a <;> fin_cases a <;> simp <;> omega

/-- The exponential, of equal rows. -/
theorem pay5_congr {a a' b b' d d' : Vec F S1x4 .f32} (ha : a = a') (hb : b = b') (hd : d = d') : k1_pay5 a b d = k1_pay5 a' b' d' := by
  rw [ha, hb, hd]

/-- The sum, of an equal exponential and an equal sum before. -/
theorem pay6_eq {a b d : Vec F S1x4 .f32} {v v' e : Vec F S1x1 .f32} (he : k1_pay5 a b d = e) (hv : v = v') : k1_pay6 a b d v = addTo e v' := by
  subst he hv
  show addf (shapeCast S1x1 v shapeCasts_S1x1_S1x1) (k1_pay5 a b d) = _
  rw [shapeCast_self]; rfl

/-- The table, of an equal exponential and an equal table before. -/
theorem pay4_eq {a b d : Vec F S1x4 .f32} {v v' : Vec F S1x16 .f32} {e : Vec F S1x1 .f32} (he : k1_pay5 a b d = e) (hv : v = v') :
    k1_pay4 (k1_pay5 a b d) (k1_pay7 v) (k1_pay8 a b d v) (Scalar.ofBits .f32 0x00000000#32) (k1_pay9 (F := F)) = insTo e v' := by
  subst he hv
  have h7 : k1_pay7 v = v := shapeCast_self _ _
  unfold k1_pay8 insTo
  rw [h7]

/-- The edges' score rows, of equal arrays. -/
theorem pay3_congr {a a' : Vec F S1000x16 .f32} {w w' : Vec F S16x4 .f32} (ha : a = a') (hw : w = w') : k1_pay3 a w = k1_pay3 a' w' := by
  rw [ha, hw]

theorem trips : k1_t1_loop.trips = 1000 := by decide +kernel

set_option maxHeartbeats 4000000 in
/-- One trip of the loop: what is held changes as `In1.step` says, everything else stays. -/
theorem trip (c : Dev nD) (i : grid1.Coords) (arg1 : Memref sig .tc .smem S1x1x1000 .i32) (harg1 : arg1.IsWhole) (arg2 : Memref sig .tc .smem S1x1x1000 .i32) (harg2 : arg2.IsWhole) (arg3 : Memref sig .tc .vmem S1000x16 .f32) (harg3 : arg3.IsWhole) (arg4 : Memref sig .tc .vmem S272x4 .f32) (harg4 : arg4.IsWhole) (arg5 : Memref sig .tc .vmem S10000x4 .f32) (harg5 : arg5.IsWhole) (arg6 : Memref sig .tc .vmem S10000x4 .f32) (harg6 : arg6.IsWhole) (arg7 : Memref sig .tc .vmem S1000x1 .f32) (harg7 : arg7.IsWhole) (arg8 : Memref sig .tc .vmem S10000x1 .f32) (harg8 : arg8.IsWhole) (arg9 : Memref sig .tc .vmem S10000x16 .f32) (harg9 : arg9.IsWhole) (arg10 : Memref sig .tc .vmem S1000x4 .f32) (harg10 : arg10.IsWhole)
    (x : In1 F) (hx : x.Ok) (s : St1 F) (k : Fin k1_t1_loop.trips) (E : Set ℕ) :
    iprop(pt c arg1 x.R ∗ pt c arg2 x.C ∗ pt c arg5 x.Sr ∗ pt c arg6 x.Sc ∗ pt c arg10 x.Ej ∗ pt c arg7 s.ex ∗ pt c arg8 s.dn ∗ pt c arg9 s.tb)
      ⊢ wp frame (wpE (defs₀ (F := F)) Variants.none (c : Thread nD τ) none) E (k1_t1_body (F := F) i arg1 harg1 arg2 harg2 arg3 harg3 arg4 harg4 arg5 harg5 arg6 harg6 arg7 harg7 arg8 harg8 arg9 harg9 arg10 harg10 k PUnit.unit)
          (fun _ => iprop(pt c arg1 x.R ∗ pt c arg2 x.C ∗ pt c arg5 x.Sr ∗ pt c arg6 x.Sc ∗ pt c arg10 x.Ej ∗ pt c arg7 (x.step (k.cast trips) s).ex
            ∗ pt c arg8 (x.step (k.cast trips) s).dn ∗ pt c arg9 (x.step (k.cast trips) s).tb)) := by
  have e1 : ∀ y, arg1.view.readAt (Elt F) (Rect.unit (s := S1x1x1000) (k1_off1 k) S1x1x1.size (k1_off1_inb k)).toLoadRect (arg1.view.rep x.R) y
      = x.R (ix3 0 0 (k.cast trips)) := readAt_word3 _ _ _ _ (k1_off1_eq k)
  have e2 : ∀ y, arg2.view.readAt (Elt F) (Rect.unit (s := S1x1x1000) (k1_off1 k) S1x1x1.size (k1_off1_inb k)).toLoadRect (arg2.view.rep x.C) y
      = x.C (ix3 0 0 (k.cast trips)) := readAt_word3 _ _ _ _ (k1_off1_eq k)
  obtain ⟨hr, hc⟩ := hx (k.cast trips)
  have h1 : ∀ y, k1_chk1 (arg1.view.readAt (Elt F) (Rect.unit (s := S1x1x1000) (k1_off1 k) S1x1x1.size (k1_off1_inb k)).toLoadRect (arg1.view.rep x.R) y) :=
    fun y => by rw [e1]; exact chk1_of hr
  have h2 : ∀ y, k1_chk2 (arg2.view.readAt (Elt F) (Rect.unit (s := S1x1x1000) (k1_off1 k) S1x1x1.size (k1_off1_inb k)).toLoadRect (arg2.view.rep x.C) y) :=
    fun y => by rw [e2]; exact chk2_of hc
  unfold k1_t1_body
  iintro ⟨H1, H2, H5, H6, H10, H7, H8, H9⟩
  sl_exec (disch := first | exact h1 _ | exact h2 _ | assumption)
  sl_step
  have er0 : trip.sl.r arg1 x k = x.R (ix3 0 0 (k.cast trips)) := e1 _
  have er1 : trip.sl.r_1 arg2 x k = x.C (ix3 0 0 (k.cast trips)) := e2 _
  have ea := readAt_row (A := 10000) (B := 4) (Val := Elt F) arg5.view x.Sr (k1_off2_inb (trip.sl.r arg1 x k) (h1 _)) (wix 10000 (x.R (ix3 0 0 (k.cast trips)))) (by rw [er0, off2_eq hr])
  have eb := readAt_row (A := 10000) (B := 4) (Val := Elt F) arg6.view x.Sc (k1_off3_inb (trip.sl.r_1 arg2 x k) (h2 _)) (wix 10000 (x.C (ix3 0 0 (k.cast trips)))) (by rw [er1, off3_eq hc])
  have ed := readAt_row (A := 1000) (B := 4) (Val := Elt F) arg10.view x.Ej (k1_off4_inb k) (k.cast trips) (k1_off4_eq k)
  have ev := readAt_row (A := 10000) (B := 1) (Val := Elt F) arg8.view s.dn (k1_off6_inb (trip.sl.r_1 arg2 x k) (h2 _)) (wix 10000 (x.C (ix3 0 0 (k.cast trips)))) (by rw [er1, off6_eq hc])
  have ew := readAt_row (A := 10000) (B := 16) (Val := Elt F) arg9.view s.tb (k1_off7_inb (trip.sl.r_1 arg2 x k) (h2 _)) (wix 10000 (x.C (ix3 0 0 (k.cast trips)))) (by rw [er1, off7_eq hc])
  have ee := pay5_congr ea eb ed
  have hw7 := (read_writes_row (A := 1000) (B := 1) (e := .f32) (Val := Elt F) arg7.view s.ex (k1_off5_inb k) _ (k.cast trips) (k1_off5_eq k)).trans
    (congrArg (putRow s.ex (k.cast trips)) ee)
  have hw8 := (read_writes_row (A := 10000) (B := 1) (e := .f32) (Val := Elt F) arg8.view s.dn (k1_off6_inb (trip.sl.r_1 arg2 x k) (h2 _)) _
    (wix 10000 (x.C (ix3 0 0 (k.cast trips)))) (by rw [er1, off6_eq hc])).trans (congrArg (putRow s.dn _) (pay6_eq ee ev))
  have hw9 := (read_writes_row (A := 10000) (B := 16) (e := .f32) (Val := Elt F) arg9.view s.tb (k1_off7_inb (trip.sl.r_1 arg2 x k) (h2 _)) _
    (wix 10000 (x.C (ix3 0 0 (k.cast trips)))) (by rw [er1, off7_eq hc])).trans (congrArg (putRow s.tb _) (pay4_eq ee ew))
  isplitl [H1]; · iexact H1
  isplitl [H2]; · iexact H2
  isplitl [H5]; · iexact H5
  isplitl [H6]; · iexact H6
  isplitl [H10]; · iexact H10
  isplitl [H7]
  · iapply (pointsTo_rep_of_read (c : Thread nD τ) arg7 _ fullShare (x.step (k.cast trips) s).ex hw7)
    iexact H7
  isplitl [H8]
  · iapply (pointsTo_rep_of_read (c : Thread nD τ) arg8 _ fullShare (x.step (k.cast trips) s).dn hw8)
    iexact H8
  iapply (pointsTo_rep_of_read (c : Thread nD τ) arg9 _ fullShare (x.step (k.cast trips) s).tb hw9)
  iexact H9

/-- What is held after the first `n` trips of a point's loop. -/
def In1.run (x : In1 F) (s : St1 F) (n : ℕ) : St1 F := iter (fun k => x.step (Fin.ofNat 1000 k)) s n

set_option maxHeartbeats 4000000 in
/-- The loop and what follows it: what is held after all the trips. -/
theorem loop (c : Dev nD) (i : grid1.Coords) (arg1 : Memref sig .tc .smem S1x1x1000 .i32) (harg1 : arg1.IsWhole) (arg2 : Memref sig .tc .smem S1x1x1000 .i32) (harg2 : arg2.IsWhole) (arg3 : Memref sig .tc .vmem S1000x16 .f32) (harg3 : arg3.IsWhole) (arg4 : Memref sig .tc .vmem S272x4 .f32) (harg4 : arg4.IsWhole) (arg5 : Memref sig .tc .vmem S10000x4 .f32) (harg5 : arg5.IsWhole) (arg6 : Memref sig .tc .vmem S10000x4 .f32) (harg6 : arg6.IsWhole) (arg7 : Memref sig .tc .vmem S1000x1 .f32) (harg7 : arg7.IsWhole) (arg8 : Memref sig .tc .vmem S10000x1 .f32) (harg8 : arg8.IsWhole) (arg9 : Memref sig .tc .vmem S10000x16 .f32) (harg9 : arg9.IsWhole) (arg10 : Memref sig .tc .vmem S1000x4 .f32) (harg10 : arg10.IsWhole)
    (x : In1 F) (hx : x.Ok) (s : St1 F) (E : Set ℕ) :
    iprop(pt c arg1 x.R ∗ pt c arg2 x.C ∗ pt c arg5 x.Sr ∗ pt c arg6 x.Sc ∗ pt c arg10 x.Ej ∗ pt c arg7 (s).ex ∗ pt c arg8 (s).dn ∗ pt c arg9 (s).tb)
      ⊢ wp frame (wpE (defs₀ (F := F)) Variants.none (c : Thread nD τ) none) E
          (do Scf.Loop.for k1_t1_loop k1_t1_ok ⟨⟩ (k1_t1_body (F := F) i arg1 harg1 arg2 harg2 arg3 harg3 arg4 harg4 arg5 harg5 arg6 harg6 arg7 harg7 arg8 harg8 arg9 harg9 arg10 harg10)
              pure PUnit.unit)
          (fun _ => iprop(pt c arg1 x.R ∗ pt c arg2 x.C ∗ pt c arg5 x.Sr ∗ pt c arg6 x.Sc ∗ pt c arg10 x.Ej ∗ pt c arg7 (x.run s 1000).ex ∗ pt c arg8 (x.run s 1000).dn ∗ pt c arg9 (x.run s 1000).tb)) := by
  iintro H
  sl_for (fun k _ => iprop(pt c arg1 x.R ∗ pt c arg2 x.C ∗ pt c arg5 x.Sr ∗ pt c arg6 x.Sc ∗ pt c arg10 x.Ej ∗ pt c arg7 (x.run s k).ex ∗ pt c arg8 (x.run s k).dn ∗ pt c arg9 (x.run s k).tb)) $$ [H]
  case region =>
    intro k acc
    have hk : k.val < 1000 := trips ▸ k.isLt
    have e : x.run s (k.val + 1) = x.step (k.cast trips) (x.run s k.val) :=
      congrArg (fun j => x.step j (x.run s k.val)) (Fin.ext (Nat.mod_eq_of_lt hk))
    rw [e]
    exact trip c i arg1 harg1 arg2 harg2 arg3 harg3 arg4 harg4 arg5 harg5 arg6 harg6 arg7 harg7 arg8 harg8 arg9 harg9 arg10 harg10 x hx (x.run s k.val) k E
  · iexact H
  iintro %_ H
  sl_step
  rw [← trips]
  iexact H

/-- The inputs of one point's loop, the edges' score rows as the point computes them from their attributes `EA` and the weights `W`. -/
def In1.ofBlocks (R C : S1x1x1000.Idx → BitVec 32) (EA : S1000x16.Idx → F .f32) (W : S272x4.Idx → F .f32) (Sr Sc : S10000x4.Idx → F .f32) : In1 F :=
  ⟨R, C, Sr, Sc, k1_pay3 EA (slab W 256 16 (by omega))⟩

/-- What a point's loop starts from: at the first point the sums are zero and the tables are all minus infinity. -/
def start (i : ℕ) (X : S1000x1.Idx → F .f32) (s : St1 F) : St1 F :=
  ⟨X, if i = 0 then k1_pay1 else s.dn, if i = 0 then k1_pay2 else s.tb⟩

set_option maxHeartbeats 8000000 in
/-- The body at one point: the sums and tables restart at the first point, then the loop runs over the point's edges. -/
theorem body (c : Dev nD) (i : grid1.Coords) (arg1 : Memref sig .tc .smem S1x1x1000 .i32) (harg1 : arg1.IsWhole) (arg2 : Memref sig .tc .smem S1x1x1000 .i32) (harg2 : arg2.IsWhole) (arg3 : Memref sig .tc .vmem S1000x16 .f32) (harg3 : arg3.IsWhole) (arg4 : Memref sig .tc .vmem S272x4 .f32) (harg4 : arg4.IsWhole) (arg5 : Memref sig .tc .vmem S10000x4 .f32) (harg5 : arg5.IsWhole) (arg6 : Memref sig .tc .vmem S10000x4 .f32) (harg6 : arg6.IsWhole) (arg7 : Memref sig .tc .vmem S1000x1 .f32) (harg7 : arg7.IsWhole) (arg8 : Memref sig .tc .vmem S10000x1 .f32) (harg8 : arg8.IsWhole) (arg9 : Memref sig .tc .vmem S10000x16 .f32) (harg9 : arg9.IsWhole) (arg10 : Memref sig .tc .vmem S1000x4 .f32) (harg10 : arg10.IsWhole)
    (R C : S1x1x1000.Idx → BitVec 32) (EA : S1000x16.Idx → F .f32) (W : S272x4.Idx → F .f32) (Sr Sc : S10000x4.Idx → F .f32)
    (hx : (In1.ofBlocks R C EA W Sr Sc).Ok) (X : S1000x1.Idx → F .f32) (s : St1 F) (Z : S1000x4.Idx → F .f32) (E : Set ℕ) :
    iprop(pt c arg1 R ∗ pt c arg2 C ∗ pt c arg3 EA ∗ pt c arg4 W ∗ pt c arg5 Sr ∗ pt c arg6 Sc ∗ pt c arg7 X ∗ pt c arg8 s.dn ∗ pt c arg9 s.tb ∗ pt c arg10 Z)
      ⊢ wp frame (wpE (defs₀ (F := F)) Variants.none (c : Thread nD τ) none) E (cc1__edge_pass1_kernel (F := F) i arg1 harg1 arg2 harg2 arg3 harg3 arg4 harg4 arg5 harg5 arg6 harg6 arg7 harg7 arg8 harg8 arg9 harg9 arg10 harg10)
          (fun _ => iprop(pt c arg1 R ∗ pt c arg2 C ∗ pt c arg3 EA ∗ pt c arg4 W ∗ pt c arg5 Sr ∗ pt c arg6 Sc
            ∗ pt c arg7 ((In1.ofBlocks R C EA W Sr Sc).run (start (i 0).val X s) 1000).ex
            ∗ pt c arg8 ((In1.ofBlocks R C EA W Sr Sc).run (start (i 0).val X s) 1000).dn
            ∗ pt c arg9 ((In1.ofBlocks R C EA W Sr Sc).run (start (i 0).val X s) 1000).tb ∗ pt c arg10 (In1.ofBlocks R C EA W Sr Sc).Ej)) := by
  have hcond : (Scalar.cmpi .ne (Scalar.extui (Scalar.cmpi .eq (BitVec.ofNat 32 (i 0).val) 0#32)) 0#32 = 1#1) ↔ (i 0).val = 0 := by
    have h : ∀ n : Fin 320, (Scalar.cmpi .ne (Scalar.extui (Scalar.cmpi .eq (BitVec.ofNat 32 n.val) 0#32)) 0#32 = 1#1) ↔ n.val = 0 := by decide +kernel
    exact h (i 0)
  rw [cc1__edge_pass1_kernel_eq_skeleton]
  unfold cc1__edge_pass1_kernel_skel
  iintro ⟨H1, H2, H3, H4, H5, H6, H7, H8, H9, H10⟩
  sl_exec
  have e8 : arg8.view.read (Elt F) (if hc : body.sl.v2 i = 1#1 then
      arg8.view.writes (Elt F) (arg8.view.rep s.dn) [⟨Rect.unit ![0, 0] S10000x1.size inb_S10000x1_S10000x1_0_0, k1_pay1⟩]
      else arg8.view.rep s.dn) = if (i 0).val = 0 then k1_pay1 else s.dn := by
    by_cases h0 : (i 0).val = 0
    · rw [if_pos h0, dif_pos (show body.sl.v2 i = 1#1 from hcond.mpr h0)]; exact View.read_writes_full _ _ _ _ _
    · rw [if_neg h0, dif_neg (show ¬ body.sl.v2 i = 1#1 from fun h => h0 (hcond.mp h))]; exact View.read_rep _ _
  have e9 : arg9.view.read (Elt F) (if hc : body.sl.v2 i = 1#1 then
      arg9.view.writes (Elt F) (arg9.view.rep s.tb) [⟨Rect.unit ![0, 0] S10000x16.size inb_S10000x16_S10000x16_0_0, k1_pay2⟩]
      else arg9.view.rep s.tb) = if (i 0).val = 0 then k1_pay2 else s.tb := by
    by_cases h0 : (i 0).val = 0
    · rw [if_pos h0, dif_pos (show body.sl.v2 i = 1#1 from hcond.mpr h0)]; exact View.read_writes_full _ _ _ _ _
    · rw [if_neg h0, dif_neg (show ¬ body.sl.v2 i = 1#1 from fun h => h0 (hcond.mp h))]; exact View.read_rep _ _
  have e10 : arg10.view.read (Elt F) (arg10.view.writes (Elt F) arg10.view.junk (body.sl.H10_1 arg3 arg4 EA W)) = (In1.ofBlocks R C EA W Sr Sc).Ej := by
    refine (View.read_writes_full _ _ _ _ _).trans ?_
    exact pay3_congr (readAt_whole (Val := Elt F) arg3.view EA _) (readAt_slab (A := 272) (B := 4) (Val := Elt F) arg4.view W 256 16 _ _)
  ihave H8 := (pointsTo_rep_of_read (c : Thread nD τ) arg8 _ fullShare (start (i 0).val X s).dn e8) $$ H8
  ihave H9 := (pointsTo_rep_of_read (c : Thread nD τ) arg9 _ fullShare (start (i 0).val X s).tb e9) $$ H9
  ihave H10 := (pointsTo_rep_of_read (c : Thread nD τ) arg10 _ fullShare (In1.ofBlocks R C EA W Sr Sc).Ej e10) $$ H10
  iapply (wp_wand_r Idealize.ShloMosaic.frame (wpE (defs₀ (F := F)) Variants.none (c : Thread nD τ) none) E)
  isplitl [H1 H2 H5 H6 H7 H8 H9 H10]
  · iapply (loop c i arg1 harg1 arg2 harg2 arg3 harg3 arg4 harg4 arg5 harg5 arg6 harg6 arg7 harg7 arg8 harg8 arg9 harg9 arg10 harg10 (In1.ofBlocks R C EA W Sr Sc) hx (start (i 0).val X s) E)
    isplitl [H1]; · iexact H1
    isplitl [H2]; · iexact H2
    isplitl [H5]; · iexact H5
    isplitl [H6]; · iexact H6
    isplitl [H10]; · iexact H10
    isplitl [H7]; · iexact H7
    isplitl [H8]; · iexact H8
    iexact H9
  · iintro %_ ⟨H1, H2, H5, H6, H10, H7, H8, H9⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The sums after the first `n` trips of a point's loop. -/
def In1.dnRun (x : In1 F) (d : S10000x1.Idx → F .f32) (n : ℕ) : S10000x1.Idx → F .f32 :=
  iter (fun k d => putRow d (wix 10000 (x.C (ix3 0 0 (Fin.ofNat 1000 k)))) (addTo (x.e (Fin.ofNat 1000 k)) (row d (wix 10000 (x.C (ix3 0 0 (Fin.ofNat 1000 k))))))) d n

/-- The tables after the first `n` trips of a point's loop. -/
def In1.tbRun (x : In1 F) (t : S10000x16.Idx → F .f32) (n : ℕ) : S10000x16.Idx → F .f32 :=
  iter (fun k t => putRow t (wix 10000 (x.C (ix3 0 0 (Fin.ofNat 1000 k)))) (insTo (x.e (Fin.ofNat 1000 k)) (row t (wix 10000 (x.C (ix3 0 0 (Fin.ofNat 1000 k))))))) t n

/-- The exponentials of a point's edges. -/
def In1.exAll (x : In1 F) : S1000x1.Idx → F .f32 := fun y => x.e (y 0) (ix2 0 (y 1))

theorem run_dn (x : In1 F) (s : St1 F) (n : ℕ) : (x.run s n).dn = x.dnRun s.dn n := by
  induction n with
  | zero => rfl
  | succ n ih => exact congrArg (fun d => putRow d _ (addTo _ (row d _))) ih

theorem run_tb (x : In1 F) (s : St1 F) (n : ℕ) : (x.run s n).tb = x.tbRun s.tb n := by
  induction n with
  | zero => rfl
  | succ n ih => exact congrArg (fun t => putRow t _ (insTo _ (row t _))) ih

theorem run_ex (x : In1 F) (s : St1 F) (n : ℕ) (hn : n ≤ 1000) (y : S1000x1.Idx) (hy : (y 0).val < n) : (x.run s n).ex y = x.exAll y := by
  induction n with
  | zero => exact absurd hy (Nat.not_lt_zero _)
  | succ n ih =>
    have hm : (Fin.ofNat 1000 n).val = n := Nat.mod_eq_of_lt (by omega)
    show putRow (x.run s n).ex (Fin.ofNat 1000 n) (x.e (Fin.ofNat 1000 n)) y = _
    unfold putRow
    split
    · next h =>
      rw [hm] at h
      have : y 0 = Fin.ofNat 1000 n := Fin.ext (by rw [hm]; exact h)
      show _ = x.e (y 0) (ix2 0 (y 1))
      rw [this]
    · next h =>
      rw [hm] at h
      exact ih (by omega) (by omega)

/-- After all the trips the exponentials are those of the point's edges, whatever was there before. -/
theorem run_ex_all (x : In1 F) (s : St1 F) : (x.run s 1000).ex = x.exAll :=
  funext fun y => run_ex x s 1000 le_rfl y (y 0).isLt

end Cert.KernelIdeal.Pass1

end
-- ==== Proof.Region1.lean ====
/- The first edge pass as a region: what its buffers hold at each point. -/
module

public import proofs.«01_k».proof.Proof.Loop1
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.TableIdle

@[expose] public section

set_option maxRecDepth 16384

noncomputable section

namespace Cert.KernelIdeal.Pass1

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

/-- The resource algebra of the regions' proofs. -/
local notation "𝕄" => MT nD τ sig Unit (Elt F) ℕ (UR sig nD τ) ℕ

variable (V : (c : Dev nD) → Valuation τ sig (Elt F))

/-- Equal assertions entail one another. -/
theorem ent {P Q : sProp 𝕄} (h : P = Q) : P ⊢ Q := (BI.equiv_iff.mpr h).1

/-- A whole buffer held, as a reference held whole. -/
theorem whole_pt (c : Dev nD) (b : Ref sig .tc) (f : b.ty.Contents (Elt F)) :
    (((Memref.whole b).view.loc (c : Thread nD τ) ↦[(Memref.whole b).view.set]{fullShare} (Memref.whole b).view.rep f) : sProp 𝕄)
      = ((c : Thread nD τ).loc b ↦{fullShare} f) :=
  (owns_eq_rep (Val := Elt F) (c : Thread nD τ) (Memref.whole b) fullShare f).symm.trans (owns_whole (Val := Elt F) (c : Thread nD τ) b fullShare f)

/-- A point of the grid is below 320. -/
theorem lt320 (t : Fin cfg1.N) : t.val < 320 := Nat.lt_of_lt_of_eq t.isLt N_1

/-- Point `n` of the grid. -/
def pnt (n : ℕ) : Fin cfg1.N := ⟨n % 320, Nat.lt_of_lt_of_eq (Nat.mod_lt n (by omega)) N_1.symm⟩

theorem pnt_val (t : Fin cfg1.N) : pnt t.val = t := Fin.ext (Nat.mod_eq_of_lt (lt320 t))

/-- The source words of point `t`'s edges. -/
def bR (c : Dev nD) (t : Fin cfg1.N) : S1x1x1000.Idx → BitVec 32 := ((cfg1.win 0).blk t).view.read (Elt F) (V c main_v2)
/-- The destination words of point `t`'s edges. -/
def bC (c : Dev nD) (t : Fin cfg1.N) : S1x1x1000.Idx → BitVec 32 := ((cfg1.win 1).blk t).view.read (Elt F) (V c main_v5)
/-- The attributes of point `t`'s edges. -/
def bEA (c : Dev nD) (t : Fin cfg1.N) : S1000x16.Idx → F .f32 := ((cfg1.win 2).blk t).view.read (Elt F) (V c main_arg1)
/-- The attention weights. -/
def bW (c : Dev nD) (t : Fin cfg1.N) : S272x4.Idx → F .f32 := ((cfg1.win 3).blk t).view.read (Elt F) (V c main_arg2)
/-- The nodes' score rows as sources. -/
def bSr (c : Dev nD) (t : Fin cfg1.N) : S10000x4.Idx → F .f32 := ((cfg1.win 4).blk t).view.read (Elt F) (V c main_v8_1)
/-- The nodes' score rows as destinations. -/
def bSc (c : Dev nD) (t : Fin cfg1.N) : S10000x4.Idx → F .f32 := ((cfg1.win 5).blk t).view.read (Elt F) (V c main_v8_2)

/-- What the loop of point `t` reads. -/
abbrev inp (c : Dev nD) (t : Fin cfg1.N) : In1 F := In1.ofBlocks (bR V c t) (bC V c t) (bEA V c t) (bW V c t) (bSr V c t) (bSc V c t)

/-- The nodes' sums before point `n`. -/
def dnAt (c : Dev nD) : ℕ → S10000x1.Idx → F .f32 := iter (fun n d => (inp V c (pnt n)).dnRun d 1000) k1_pay1
/-- The nodes' tables before point `n`. -/
def tbAt (c : Dev nD) : ℕ → S10000x16.Idx → F .f32 := iter (fun n t => (inp V c (pnt n)).tbRun t 1000) k1_pay2

/-- The region's proof data: its arrays at `V`, its inputs' buffers at their blocks, the exponentials of the point's edges, the sums and
    tables after the point. -/
def dat (c : Dev nD) : Dat τ (Elt F) Unit ℕ (UR sig nD τ) ℕ cfg1 c where
  A w := V c (Pipeline.arrRef spec1 w)
  after w t := match w with
    | ⟨0, _⟩ => bR V c t
    | ⟨1, _⟩ => bC V c t
    | ⟨2, _⟩ => bEA V c t
    | ⟨3, _⟩ => bW V c t
    | ⟨4, _⟩ => bSr V c t
    | ⟨5, _⟩ => bSc V c t
    | ⟨6, _⟩ => (inp V c t).exAll
    | ⟨7, _⟩ => dnAt V c (t.val + 1)
    | ⟨8, _⟩ => tbAt V c (t.val + 1)
  Φ _ := Pipeline.scopedRest spec1 c
  q _ := fullShare
  owed _ := 0

theorem before0 (c : Dev nD) (t : Fin cfg1.N) (d) : (dat V c).before 0 t d = bR V c t := by
  rw [Dat.before_fetched (dat V c) 0 t (fetch1_0 t) d]; rfl
theorem before1 (c : Dev nD) (t : Fin cfg1.N) (d) : (dat V c).before 1 t d = bC V c t := by
  rw [Dat.before_fetched (dat V c) 1 t (fetch1_1 t) d]; rfl
theorem before2 (c : Dev nD) (t : Fin cfg1.N) (d) : (dat V c).before 2 t d = bEA V c t := by
  rw [Dat.before_fetched (dat V c) 2 t (fetch1_2 t) d]; rfl
theorem before3 (c : Dev nD) (t : Fin cfg1.N) (d) : (dat V c).before 3 t d = bW V c t :=
  Dat.before_in_eq_fetched (dat V c) 3 rfl (fun _ => rfl) (fun _ _ _ => rfl) (fun _ => rfl) t d
theorem before4 (c : Dev nD) (t : Fin cfg1.N) (d) : (dat V c).before 4 t d = bSr V c t :=
  Dat.before_in_eq_fetched (dat V c) 4 rfl (fun _ => rfl) (fun _ _ _ => rfl) (fun _ => rfl) t d
theorem before5 (c : Dev nD) (t : Fin cfg1.N) (d) : (dat V c).before 5 t d = bSc V c t :=
  Dat.before_in_eq_fetched (dat V c) 5 rfl (fun _ => rfl) (fun _ _ _ => rfl) (fun _ => rfl) t d

/-- The sums and the tables are not written back before the last point. -/
theorem not_last (t : Fin cfg1.N) (ht : t.val ≠ 0) : ¬ (t.val - 1) % 320 = 319 := by
  have := lt320 t; omega

theorem before7 (c : Dev nD) (t : Fin cfg1.N) (ht : t.val ≠ 0) (d) : (dat V c).before 7 t d = dnAt V c t.val := by
  have hf : (cfg1.win 7).flush ⟨t.val - 1, Nat.lt_of_le_of_lt (Nat.sub_le _ _) t.isLt⟩ = false :=
    Bool.eq_false_iff.mpr fun h => not_last t ht ((flush1_7 _).mp h)
  rw [Dat.before_out_kept (dat V c) 7 rfl t ht hf (fun _ => rfl) (fun _ _ => rfl) d]
  show dnAt V c (t.val - 1 + 1) = _
  rw [Nat.sub_add_cancel (Nat.pos_of_ne_zero ht)]

theorem before8 (c : Dev nD) (t : Fin cfg1.N) (ht : t.val ≠ 0) (d) : (dat V c).before 8 t d = tbAt V c t.val := by
  have hf : (cfg1.win 8).flush ⟨t.val - 1, Nat.lt_of_le_of_lt (Nat.sub_le _ _) t.isLt⟩ = false :=
    Bool.eq_false_iff.mpr fun h => not_last t ht ((flush1_8 _).mp h)
  rw [Dat.before_out_kept (dat V c) 8 rfl t ht hf (fun _ => rfl) (fun _ _ => rfl) d]
  show tbAt V c (t.val - 1 + 1) = _
  rw [Nat.sub_add_cancel (Nat.pos_of_ne_zero ht)]

/-- The grid's one coordinate is the point's number. -/
theorem coord (t : Fin cfg1.N) : (grid1.coords t 0).val = t.val := by
  have h : ∀ t : Fin grid1.N, (grid1.coords t 0).val = t.val := by decide +kernel
  exact h t

theorem next_dn (c : Dev nD) (t : Fin cfg1.N) (X : S1000x1.Idx → F .f32) (s : St1 F) (h : t.val ≠ 0 → s.dn = dnAt V c t.val) :
    ((inp V c t).run (start (grid1.coords t 0).val X s) 1000).dn = dnAt V c (t.val + 1) := by
  have e : (start (grid1.coords t 0).val X s).dn = dnAt V c t.val := by
    show (if (grid1.coords t 0).val = 0 then k1_pay1 else s.dn) = _
    rw [coord]
    by_cases h0 : t.val = 0
    · rw [if_pos h0, h0]; rfl
    · rw [if_neg h0, h h0]
  rw [run_dn, e]
  show _ = (inp V c (pnt t.val)).dnRun (dnAt V c t.val) 1000
  rw [pnt_val]

theorem next_tb (c : Dev nD) (t : Fin cfg1.N) (X : S1000x1.Idx → F .f32) (s : St1 F) (h : t.val ≠ 0 → s.tb = tbAt V c t.val) :
    ((inp V c t).run (start (grid1.coords t 0).val X s) 1000).tb = tbAt V c (t.val + 1) := by
  have e : (start (grid1.coords t 0).val X s).tb = tbAt V c t.val := by
    show (if (grid1.coords t 0).val = 0 then k1_pay2 else s.tb) = _
    rw [coord]
    by_cases h0 : t.val = 0
    · rw [if_pos h0, h0]; rfl
    · rw [if_neg h0, h h0]
  rw [run_tb, e]
  show _ = (inp V c (pnt t.val)).tbRun (tbAt V c t.val) 1000
  rw [pnt_val]

set_option maxHeartbeats 4000000 in
/-- The body at a point, from what the buffers hold before the point to what they hold after it. -/
theorem oblig (c : Dev nD) (hok : ∀ t, (inp V c t).Ok) : BodyObligation (dat V c) (defs₀ (F := F)) Variants.none () Set.univ := fun t => by
  rw [bigSep_W1, bigSep_W1]
  rw [show (dat V c).Φ t.castSucc = Pipeline.scopedRest spec1 c from rfl, show (dat V c).Φ t.succ = Pipeline.scopedRest spec1 c from rfl,
    show (dat V c).owesAt () t.succ = (dat V c).owesAt () t.castSucc from rfl, scopedRest1_eq]
  iintro ⟨⟨A1, A2, A3, A4, A5, A6, A7, ⟨%fs, Hs⟩, A8⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [before0, before1, before2, before3, before4, before5]
  have hw := (body (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (Memref.whole cc1_scratch0) (Memref.isWhole_whole _)
    (bR V c t) (bC V c t) (bEA V c t) (bW V c t) (bSr V c t) (bSc V c t) (hok t) ((dat V c).before 6 t d6)
    ⟨(dat V c).before 6 t d6, (dat V c).before 7 t d7, (dat V c).before 8 t d8⟩ fs Set.univ)
  ihave Hs := (ent (whole_pt (F := F) c cc1_scratch0 fs).symm) $$ Hs
  simp only [owns_eq_rep]
  iapply (wp_wand_r Idealize.ShloMosaic.frame (wpE (defs₀ (F := F)) Variants.none (c : Thread nD τ) none) Set.univ)
  isplitl [H0 H1 H2 H3 H4 H5 H6 H7 H8 Hs]
  · iapply hw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hs
  · iintro %_ ⟨H0, H1, H2, H3, H4, H5, H6, H7, H8, Hs⟩
    have e6 := congrArg (fun X => pt (F := F) c (win1_6.stage (cfg1.slots t 6)) X) (run_ex_all (inp V c t) (start (grid1.coords t 0).val ((dat V c).before 6 t d6) ⟨(dat V c).before 6 t d6, (dat V c).before 7 t d7, (dat V c).before 8 t d8⟩))
    have e7 := congrArg (fun X => pt (F := F) c (win1_7.stage (cfg1.slots t 7)) X) (next_dn V c t ((dat V c).before 6 t d6) ⟨(dat V c).before 6 t d6, (dat V c).before 7 t d7, (dat V c).before 8 t d8⟩ (fun h => before7 V c t h d7))
    have e8 := congrArg (fun X => pt (F := F) c (win1_8.stage (cfg1.slots t 8)) X) (next_tb V c t ((dat V c).before 6 t d6) ⟨(dat V c).before 6 t d6, (dat V c).before 7 t d7, (dat V c).before 8 t d8⟩ (fun h => before8 V c t h d8))
    ihave H6 := (ent e6) $$ H6
    ihave H7 := (ent e7) $$ H7
    ihave H8 := (ent e8) $$ H8
    ihave Hs := (ent (whole_pt (F := F) c cc1_scratch0 (inp V c t).Ej)) $$ Hs
    isplitl [A1 A2 A3 A4 A5 A6 A7 A8 Hs]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [Hs]
      · iexists (inp V c t).Ej; iexact Hs
      iexact A8
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

end Cert.KernelIdeal.Pass1

end
-- ==== Proof.Region0.lean ====
/- The dense pass as a region: what its buffers hold at each point. -/
module

public import proofs.«01_k».proof.Proof.Dense
public import proofs.«01_k».proof.Proof.Region1
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.TableIdle

@[expose] public section

set_option maxRecDepth 16384

noncomputable section

namespace Cert.KernelIdeal.Dense

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Pass1 (ent whole_pt)
open Idealize.ShloMosaic.Pipeline (Dat Cfg Window BodyObligation)

variable {F : FTy → Type} [FloatOps F]

/-- The resource algebra of the regions' proofs. -/
local notation "𝕄" => MT nD τ sig Unit (Elt F) ℕ (UR sig nD τ) ℕ

variable (V : (c : Dev nD) → Valuation τ sig (Elt F))

/-- The nodes' features. -/
def bX (c : Dev nD) (t : Fin cfg0.N) : S10000x128.Idx → F .f32 := ((cfg0.win 0).blk t).view.read (Elt F) (V c main_arg0)
/-- Their weights. -/
def bWh (c : Dev nD) (t : Fin cfg0.N) : S128x128.Idx → F .f32 := ((cfg0.win 1).blk t).view.read (Elt F) (V c main_arg3)
/-- Their bias. -/
def bB (c : Dev nD) (t : Fin cfg0.N) : S1x128.Idx → F .f32 := ((cfg0.win 2).blk t).view.read (Elt F) (V c main_v7)
/-- The attention weights. -/
def bW (c : Dev nD) (t : Fin cfg0.N) : S272x4.Idx → F .f32 := ((cfg0.win 3).blk t).view.read (Elt F) (V c main_arg2)

/-- The nodes' rows. -/
def hwOf (c : Dev nD) (t : Fin cfg0.N) : S10000x128.Idx → F .f32 := k0_pay1 (bX V c t) (bWh V c t) (bB V c t)
/-- The nodes' score rows as sources. -/
def srOf (c : Dev nD) (t : Fin cfg0.N) : S10000x4.Idx → F .f32 := k0_pay2 (bX V c t) (slab (bW V c t) 0 128 (by omega))
/-- The nodes' score rows as destinations. -/
def scOf (c : Dev nD) (t : Fin cfg0.N) : S10000x4.Idx → F .f32 := k0_pay3 (bX V c t) (slab (bW V c t) 128 128 (by omega))

/-- The region's proof data: its arrays at `V`, its inputs' buffers at their blocks, its results. -/
def dat (c : Dev nD) : Dat τ (Elt F) Unit ℕ (UR sig nD τ) ℕ cfg0 c where
  A w := V c (Pipeline.arrRef spec0 w)
  after w t := match w with
    | ⟨0, _⟩ => bX V c t
    | ⟨1, _⟩ => bWh V c t
    | ⟨2, _⟩ => bB V c t
    | ⟨3, _⟩ => bW V c t
    | ⟨4, _⟩ => hwOf V c t
    | ⟨5, _⟩ => srOf V c t
    | ⟨6, _⟩ => scOf V c t
  Φ _ := Pipeline.scopedRest spec0 c
  q _ := fullShare
  owed _ := 0

theorem before0 (c : Dev nD) (t : Fin cfg0.N) (d) : (dat V c).before 0 t d = bX V c t := by
  rw [Dat.before_fetched (dat V c) 0 t (fetch0_0 t) d]; rfl
theorem before1 (c : Dev nD) (t : Fin cfg0.N) (d) : (dat V c).before 1 t d = bWh V c t := by
  rw [Dat.before_fetched (dat V c) 1 t (fetch0_1 t) d]; rfl
theorem before2 (c : Dev nD) (t : Fin cfg0.N) (d) : (dat V c).before 2 t d = bB V c t := by
  rw [Dat.before_fetched (dat V c) 2 t (fetch0_2 t) d]; rfl
theorem before3 (c : Dev nD) (t : Fin cfg0.N) (d) : (dat V c).before 3 t d = bW V c t := by
  rw [Dat.before_fetched (dat V c) 3 t (fetch0_3 t) d]; rfl

set_option maxHeartbeats 4000000 in
/-- The body at its point, from what the buffers hold before it to what they hold after it. -/
theorem oblig (c : Dev nD) : BodyObligation (dat V c) (defs₀ (F := F)) Variants.none () Set.univ := fun t => by
  rw [bigSep_W0, bigSep_W0]
  rw [show (dat V c).Φ t.castSucc = Pipeline.scopedRest spec0 c from rfl, show (dat V c).Φ t.succ = Pipeline.scopedRest spec0 c from rfl,
    show (dat V c).owesAt () t.succ = (dat V c).owesAt () t.castSucc from rfl]
  iintro ⟨HA, HO, ⟨%d0, H0⟩, ⟨%d1, H1⟩, ⟨%d2, H2⟩, ⟨%d3, H3⟩, ⟨%d4, H4⟩, ⟨%d5, H5⟩, ⟨%d6, H6⟩⟩
  rw [before0, before1, before2, before3]
  have hw := (body (F := F) c (win0_0.stage (cfg0.slots t 0)) (hstage0_0 0) (win0_1.stage (cfg0.slots t 1)) (hstage0_1 0) (win0_2.stage (cfg0.slots t 2)) (hstage0_2 0) (win0_3.stage (cfg0.slots t 3)) (hstage0_3 0) (win0_4.stage (cfg0.slots t 4)) (hstage0_4 0) (win0_5.stage (cfg0.slots t 5)) (hstage0_5 0) (win0_6.stage (cfg0.slots t 6)) (hstage0_6 0)
    (bX V c t) (bWh V c t) (bB V c t) (bW V c t) ((dat V c).before 4 t d4) ((dat V c).before 5 t d5) ((dat V c).before 6 t d6) Set.univ)
  simp only [owns_eq_rep]
  iapply (wp_wand_r Idealize.ShloMosaic.frame (wpE (defs₀ (F := F)) Variants.none (c : Thread nD τ) none) Set.univ)
  isplitl [H0 H1 H2 H3 H4 H5 H6]
  · iapply hw
    isplitl [H0]; · iexact H0
    isplitl [H1]; · iexact H1
    isplitl [H2]; · iexact H2
    isplitl [H3]; · iexact H3
    isplitl [H4]; · iexact H4
    isplitl [H5]; · iexact H5
    iexact H6
  · iintro %_ ⟨H0, H1, H2, H3, H4, H5, H6⟩
    isplitl [HA]; · iexact HA
    isplitl [HO]; · iexact HO
    isplitl [H0]; · iexact H0
    isplitl [H1]; · iexact H1
    isplitl [H2]; · iexact H2
    isplitl [H3]; · iexact H3
    isplitl [H4]; · iexact H4
    isplitl [H5]; · iexact H5
    iexact H6

end Cert.KernelIdeal.Dense

end
-- ==== Proof.Loop2.lean ====
/- The second edge pass: one trip of its loop, and the loop. -/
module

public import proofs.«01_k».proof.Proof.Gen.KernelIdeal.Loops
public import proofs.«01_k».proof.Proof.Gen.KernelIdeal.Launch
public import proofs.«01_k».proof.Proof.Held

@[expose] public section

set_option maxRecDepth 16384

noncomputable section

namespace Cert.KernelIdeal.Pass2

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra of the regions' proofs. -/
local notation "𝕄" => MT nD τ sig Unit (Elt F) ℕ (UR sig nD τ) ℕ

/-- Memref `M` of core `c` held whole, reading `X`. -/
abbrev pt (c : Dev nD) {sp : Space} {S : Shape} {e : EltTy} (M : Memref sig .tc sp S e) (X : S.Idx → Elt F e) : sProp 𝕄 :=
  M.view.loc (c : Thread nD τ) ↦[M.view.set]{fullShare} M.view.rep X

/-- What one trip of the second pass's loop reads: the words of the point's edge blocks, the labels, and the float arrays. -/
structure In2 (F : FTy → Type) where
  /-- the edges' source words -/
  R : S1x1x1000.Idx → BitVec 32
  /-- the edges' destination words -/
  C : S1x1x1000.Idx → BitVec 32
  /-- the nodes' labels -/
  Lb : S1x10000.Idx → BitVec 32
  /-- the nodes' transformed rows -/
  Hw : S10000x128.Idx → F .f32
  /-- the edges' exponentials -/
  Ex : S1000x1.Idx → F .f32
  /-- the nodes' sums of exponentials -/
  Dn : S10000x1.Idx → F .f32
  /-- the nodes' thresholds -/
  Th : S10000x1.Idx → F .f32
  /-- the edges' transformed rows -/
  Et : S1000x128.Idx → F .f32

/-- Every word of the point's edge blocks names a node. -/
def In2.Ok (x : In2 F) : Prop := ∀ k : Fin 1000, (x.R (ix3 0 0 k)).toNat < 10000 ∧ (x.C (ix3 0 0 k)).toNat < 10000

/-- The row of the result that edge `k` adds to: two rows a node, the second for an edge between different labels. -/
def In2.tgt (x : In2 F) (k : Fin 1000) : Fin 20000 :=
  Fin.ofNat 20000 (2 * (x.C (ix3 0 0 k)).toNat +
    if x.Lb (ix2 0 (wix 10000 (x.R (ix3 0 0 k)))) = x.Lb (ix2 0 (wix 10000 (x.C (ix3 0 0 k)))) then 0 else 1)

/-- The result after trip `k`. -/
def In2.step (x : In2 F) (k : Fin 1000) (O : S20000x128.Idx → F .f32) : S20000x128.Idx → F .f32 :=
  putRow O (x.tgt k) (k2_pay3 (row x.Ex k) (row x.Dn (wix 10000 (x.C (ix3 0 0 k)))) (row x.Th (wix 10000 (x.C (ix3 0 0 k))))
    (row x.Hw (wix 10000 (x.R (ix3 0 0 k)))) (row x.Et k) (row O (x.tgt k)))

theorem off3_eq {w : BitVec 32} (h : w.toNat < 10000) : k2_off3 w = ![(wix 10000 w).val, 0] := by rw [wix_val h]; rfl
theorem off4_eq {w : BitVec 32} (h : w.toNat < 10000) : k2_off4 w = ![(wix 10000 w).val, 0] := by rw [wix_val h]; rfl
theorem off6_eq {w : BitVec 32} (h : w.toNat < 10000) : k2_off6 w = ![0, (wix 10000 w).val] := by rw [wix_val h]; rfl
theorem off7_eq {w : BitVec 32} (h : w.toNat < 10000) : k2_off7 w = ![0, (wix 10000 w).val] := by rw [wix_val h]; rfl

/-- The row that a trip adds to, in numbers. -/
theorem off8_val {w : BitVec 32} (h : w.toNat < 10000) (u v : BitVec 32) :
    k2_off8 w u v = ![2 * w.toNat + (if u = v then 0 else 1), 0] := by
  have e : ∀ b : BitVec 32, b.toNat < 2 → (2#32 * w + b).toNat = 2 * w.toNat + b.toNat := by
    intro b hb
    rw [BitVec.toNat_add, BitVec.toNat_mul]
    simp only [BitVec.toNat_ofNat, Nat.reducePow, Nat.reduceMod]
    omega
  show ![(2#32 * w + Scalar.select (Scalar.cmpi .ne u v) 1#32 0#32).toNat, 0] = _
  by_cases huv : u = v
  · have hb : Scalar.cmpi .ne u v = 0#1 := by
      show BitVec.ofBool (u != v) = 0#1
      rw [show (u != v) = false by simpa using huv]; rfl
    rw [hb, if_pos huv, show Scalar.select 0#1 1#32 0#32 = 0#32 from rfl, e 0#32 (by decide)]; rfl
  · have hb : Scalar.cmpi .ne u v = 1#1 := by
      show BitVec.ofBool (u != v) = 1#1
      rw [show (u != v) = true by simpa using huv]; rfl
    rw [hb, if_neg huv, show Scalar.select 1#1 1#32 0#32 = 1#32 from rfl, e 1#32 (by decide)]; rfl

theorem chk1_of {w : BitVec 32} (h : w.toNat < 10000) : k2_chk1 w := by
  unfold k2_chk1
  rw [off3_eq h, off7_eq h, wix_val h]
  constructor <;> intro a <;> fin_cases a <;> simp <;> omega

theorem chk2_of {w : BitVec 32} (h : w.toNat < 10000) : k2_chk2 w := by
  unfold k2_chk2
  rw [off4_eq h, off6_eq h, wix_val h]
  constructor <;> intro a <;> fin_cases a <;> simp <;> omega

theorem chk3_of {w : BitVec 32} (h : w.toNat < 10000) (u v : BitVec 32) : k2_chk3 w u v := by
  unfold k2_chk3
  rw [off8_val h]
  intro a; fin_cases a
  · show (2 * w.toNat + if u = v then 0 else 1) + 1 ≤ 20000
    split <;> omega
  · simp

/-- The stored row, of equal rows. -/
theorem pay3_congr {a a' b b' t t' : Vec F S1x1 .f32} {h h' e e' o o' : Vec F S1x128 .f32} (ha : a = a') (hb : b = b') (ht : t = t')
    (hh : h = h') (he : e = e') (ho : o = o') : k2_pay3 a b t h e o = k2_pay3 a' b' t' h' e' o' := by
  rw [ha, hb, ht, hh, he, ho]

/-- The edges' rows, of equal arrays. -/
theorem pay2_congr {a a' : Vec F S1000x16 .f32} {w w' : Vec F S16x128 .f32} {b b' : Vec F S1x128 .f32} (ha : a = a') (hw : w = w') (hb : b = b') :
    k2_pay2 a w b = k2_pay2 a' w' b' := by
  rw [ha, hw, hb]

theorem trips : k2_t1_loop.trips = 1000 := by decide +kernel

set_option maxHeartbeats 4000000 in
/-- One trip of the loop: the result changes as `In2.step` says, everything else stays. -/
theorem trip (c : Dev nD) (i : grid2.Coords) (arg1 : Memref sig .tc .smem S1x1x1000 .i32) (harg1 : arg1.IsWhole) (arg2 : Memref sig .tc .smem S1x1x1000 .i32) (harg2 : arg2.IsWhole) (arg3 : Memref sig .tc .smem S1x10000 .i32) (harg3 : arg3.IsWhole) (arg4 : Memref sig .tc .vmem S1000x16 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1000x1 .f32) (harg8 : arg8.IsWhole) (arg9 : Memref sig .tc .vmem S10000x1 .f32) (harg9 : arg9.IsWhole) (arg10 : Memref sig .tc .vmem S10000x1 .f32) (harg10 : arg10.IsWhole) (arg11 : Memref sig .tc .vmem S20000x128 .f32) (harg11 : arg11.IsWhole) (arg12 : Memref sig .tc .vmem S1000x128 .f32) (harg12 : arg12.IsWhole)
    (x : In2 F) (hx : x.Ok) (O : S20000x128.Idx → F .f32) (k : Fin k2_t1_loop.trips) (E : Set ℕ) :
    iprop(pt c arg1 x.R ∗ pt c arg2 x.C ∗ pt c arg3 x.Lb ∗ pt c arg7 x.Hw ∗ pt c arg8 x.Ex ∗ pt c arg9 x.Dn ∗ pt c arg10 x.Th ∗ pt c arg12 x.Et ∗ pt c arg11 O)
      ⊢ wp frame (wpE (defs₀ (F := F)) Variants.none (c : Thread nD τ) none) E (k2_t1_body (F := F) i arg1 harg1 arg2 harg2 arg3 harg3 arg4 harg4 arg5 harg5 arg6 harg6 arg7 harg7 arg8 harg8 arg9 harg9 arg10 harg10 arg11 harg11 arg12 harg12 k PUnit.unit)
          (fun _ => iprop(pt c arg1 x.R ∗ pt c arg2 x.C ∗ pt c arg3 x.Lb ∗ pt c arg7 x.Hw ∗ pt c arg8 x.Ex ∗ pt c arg9 x.Dn ∗ pt c arg10 x.Th ∗ pt c arg12 x.Et ∗ pt c arg11 (x.step (k.cast trips) O))) := by
  have e1 : ∀ y, arg1.view.readAt (Elt F) (Rect.unit (s := S1x1x1000) (k2_off1 k) S1x1x1.size (k2_off1_inb k)).toLoadRect (arg1.view.rep x.R) y
      = x.R (ix3 0 0 (k.cast trips)) := readAt_word3 _ _ _ _ (k2_off1_eq k)
  have e2 : ∀ y, arg2.view.readAt (Elt F) (Rect.unit (s := S1x1x1000) (k2_off1 k) S1x1x1.size (k2_off1_inb k)).toLoadRect (arg2.view.rep x.C) y
      = x.C (ix3 0 0 (k.cast trips)) := readAt_word3 _ _ _ _ (k2_off1_eq k)
  obtain ⟨hr, hc⟩ := hx (k.cast trips)
  have h1 : ∀ y, k2_chk2 (arg1.view.readAt (Elt F) (Rect.unit (s := S1x1x1000) (k2_off1 k) S1x1x1.size (k2_off1_inb k)).toLoadRect (arg1.view.rep x.R) y) :=
    fun y => by rw [e1]; exact chk2_of hr
  have h2 : ∀ y, k2_chk1 (arg2.view.readAt (Elt F) (Rect.unit (s := S1x1x1000) (k2_off1 k) S1x1x1.size (k2_off1_inb k)).toLoadRect (arg2.view.rep x.C) y) :=
    fun y => by rw [e2]; exact chk1_of hc
  have h3 : ∀ y u v, k2_chk3 (arg2.view.readAt (Elt F) (Rect.unit (s := S1x1x1000) (k2_off1 k) S1x1x1.size (k2_off1_inb k)).toLoadRect (arg2.view.rep x.C) y) u v :=
    fun y u v => by rw [e2]; exact chk3_of hc u v
  unfold k2_t1_body
  iintro ⟨H1, H2, H3, H7, H8, H9, H10, H12, H11⟩
  sl_exec (disch := first | exact h1 _ | exact h2 _ | exact h3 _ _ _ | assumption)
  sl_step
  have er0 : trip.sl.r arg1 x k = x.R (ix3 0 0 (k.cast trips)) := e1 _
  have er1 : trip.sl.r_1 arg2 x k = x.C (ix3 0 0 (k.cast trips)) := e2 _
  have er2 : trip.sl.r_2 arg1 arg3 x k h1 = x.Lb (ix2 0 (wix 10000 (x.R (ix3 0 0 (k.cast trips))))) := by
    refine readAt_word2 _ _ _ _ ?_ _
    rw [er0, off6_eq hr]
  have er3 : trip.sl.r_3 arg2 arg3 x k h2 = x.Lb (ix2 0 (wix 10000 (x.C (ix3 0 0 (k.cast trips))))) := by
    refine readAt_word2 _ _ _ _ ?_ _
    rw [er1, off7_eq hc]
  have et : (x.tgt (k.cast trips)).val = 2 * (x.C (ix3 0 0 (k.cast trips))).toNat +
      if x.Lb (ix2 0 (wix 10000 (x.R (ix3 0 0 (k.cast trips))))) = x.Lb (ix2 0 (wix 10000 (x.C (ix3 0 0 (k.cast trips))))) then 0 else 1 := by
    refine Nat.mod_eq_of_lt ?_
    split <;> omega
  have e8 : k2_off8 (trip.sl.r_1 arg2 x k) (trip.sl.r_2 arg1 arg3 x k h1) (trip.sl.r_3 arg2 arg3 x k h2) = ![(x.tgt (k.cast trips)).val, 0] := by
    rw [er1, er2, er3, off8_val hc, et]
  have hw : arg11.view.read (Elt F) (arg11.view.writes (Elt F) (arg11.view.rep O)
      [⟨Rect.unit (s := S20000x128) (k2_off8 (trip.sl.r_1 arg2 x k) (trip.sl.r_2 arg1 arg3 x k h1) (trip.sl.r_3 arg2 arg3 x k h2)) S1x128.size
          (k2_off8_inb _ _ _ (h3 _ _ _)), trip.sl.r_4 arg1 arg2 arg3 arg7 arg8 arg9 arg10 arg11 arg12 x O k h1 h2 h3⟩]) = x.step (k.cast trips) O := by
    refine (read_writes_row (A := 20000) (B := 128) (e := .f32) (Val := Elt F) arg11.view O (k2_off8_inb _ _ _ (h3 _ _ _))
      (trip.sl.r_4 arg1 arg2 arg3 arg7 arg8 arg9 arg10 arg11 arg12 x O k h1 h2 h3) (x.tgt (k.cast trips)) e8).trans ?_
    unfold In2.step
    refine congrArg (putRow O (x.tgt (k.cast trips))) ?_
    delta trip.sl.r_4
    exact pay3_congr (readAt_row (A := 1000) (B := 1) (Val := Elt F) arg8.view x.Ex _ (k.cast trips) (k2_off2_eq k))
      (readAt_row (A := 10000) (B := 1) (Val := Elt F) arg9.view x.Dn _ (wix 10000 (x.C (ix3 0 0 (k.cast trips)))) (by rw [er1, off3_eq hc]))
      (readAt_row (A := 10000) (B := 1) (Val := Elt F) arg10.view x.Th _ (wix 10000 (x.C (ix3 0 0 (k.cast trips)))) (by rw [er1, off3_eq hc]))
      (readAt_row (A := 10000) (B := 128) (Val := Elt F) arg7.view x.Hw _ (wix 10000 (x.R (ix3 0 0 (k.cast trips)))) (by rw [er0, off4_eq hr]))
      (readAt_row (A := 1000) (B := 128) (Val := Elt F) arg12.view x.Et _ (k.cast trips) (k2_off5_eq k))
      (readAt_row (A := 20000) (B := 128) (Val := Elt F) arg11.view O _ (x.tgt (k.cast trips)) e8)
  isplitl [H1]; · iexact H1
  isplitl [H2]; · iexact H2
  isplitl [H3]; · iexact H3
  isplitl [H7]; · iexact H7
  isplitl [H8]; · iexact H8
  isplitl [H9]; · iexact H9
  isplitl [H10]; · iexact H10
  isplitl [H12]; · iexact H12
  iapply (pointsTo_rep_of_read (c : Thread nD τ) arg11 _ fullShare (x.step (k.cast trips) O) hw)
  iexact H11

/-- The result after the first `n` trips of a point's loop. -/
def In2.run (x : In2 F) (O : S20000x128.Idx → F .f32) (n : ℕ) : S20000x128.Idx → F .f32 :=
  iter (fun k => x.step (Fin.ofNat 1000 k)) O n

/-- The inputs of one point's loop, the edges' rows as the point computes them from their attributes `EA`. -/
def In2.ofBlocks (R C : S1x1x1000.Idx → BitVec 32) (Lb : S1x10000.Idx → BitVec 32) (EA : S1000x16.Idx → F .f32) (We : S16x128.Idx → F .f32)
    (be : S1x128.Idx → F .f32) (Hw : S10000x128.Idx → F .f32) (Ex : S1000x1.Idx → F .f32) (Dn Th : S10000x1.Idx → F .f32) : In2 F :=
  ⟨R, C, Lb, Hw, Ex, Dn, Th, k2_pay2 EA We be⟩

set_option maxHeartbeats 4000000 in
/-- The loop and what follows it: the result after all the trips. -/
theorem loop (c : Dev nD) (i : grid2.Coords) (arg1 : Memref sig .tc .smem S1x1x1000 .i32) (harg1 : arg1.IsWhole) (arg2 : Memref sig .tc .smem S1x1x1000 .i32) (harg2 : arg2.IsWhole) (arg3 : Memref sig .tc .smem S1x10000 .i32) (harg3 : arg3.IsWhole) (arg4 : Memref sig .tc .vmem S1000x16 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1000x1 .f32) (harg8 : arg8.IsWhole) (arg9 : Memref sig .tc .vmem S10000x1 .f32) (harg9 : arg9.IsWhole) (arg10 : Memref sig .tc .vmem S10000x1 .f32) (harg10 : arg10.IsWhole) (arg11 : Memref sig .tc .vmem S20000x128 .f32) (harg11 : arg11.IsWhole) (arg12 : Memref sig .tc .vmem S1000x128 .f32) (harg12 : arg12.IsWhole)
    (x : In2 F) (hx : x.Ok) (O : S20000x128.Idx → F .f32) (E : Set ℕ) :
    iprop(pt c arg1 x.R ∗ pt c arg2 x.C ∗ pt c arg3 x.Lb ∗ pt c arg7 x.Hw ∗ pt c arg8 x.Ex ∗ pt c arg9 x.Dn ∗ pt c arg10 x.Th ∗ pt c arg12 x.Et ∗ pt c arg11 O)
      ⊢ wp frame (wpE (defs₀ (F := F)) Variants.none (c : Thread nD τ) none) E
          (do Scf.Loop.for k2_t1_loop k2_t1_ok ⟨⟩ (k2_t1_body (F := F) i arg1 harg1 arg2 harg2 arg3 harg3 arg4 harg4 arg5 harg5 arg6 harg6 arg7 harg7 arg8 harg8 arg9 harg9 arg10 harg10 arg11 harg11 arg12 harg12)
              pure PUnit.unit)
          (fun _ => iprop(pt c arg1 x.R ∗ pt c arg2 x.C ∗ pt c arg3 x.Lb ∗ pt c arg7 x.Hw ∗ pt c arg8 x.Ex ∗ pt c arg9 x.Dn ∗ pt c arg10 x.Th ∗ pt c arg12 x.Et ∗ pt c arg11 (x.run O 1000))) := by
  iintro H
  sl_for (fun k _ => iprop(pt c arg1 x.R ∗ pt c arg2 x.C ∗ pt c arg3 x.Lb ∗ pt c arg7 x.Hw ∗ pt c arg8 x.Ex ∗ pt c arg9 x.Dn ∗ pt c arg10 x.Th ∗ pt c arg12 x.Et ∗ pt c arg11 (x.run O k))) $$ [H]
  case region =>
    intro k acc
    have hk : k.val < 1000 := trips ▸ k.isLt
    have e : x.run O (k.val + 1) = x.step (k.cast trips) (x.run O k.val) :=
      congrArg (fun j => x.step j (x.run O k.val)) (Fin.ext (Nat.mod_eq_of_lt hk))
    rw [e]
    exact trip c i arg1 harg1 arg2 harg2 arg3 harg3 arg4 harg4 arg5 harg5 arg6 harg6 arg7 harg7 arg8 harg8 arg9 harg9 arg10 harg10 arg11 harg11 arg12 harg12 x hx (x.run O k.val) k E
  · iexact H
  iintro %_ H
  sl_step
  rw [← trips]
  iexact H

set_option maxHeartbeats 8000000 in
/-- The body at one point: the result restarts from zero at the first point, then the loop runs over the point's edges. -/
theorem body (c : Dev nD) (i : grid2.Coords) (arg1 : Memref sig .tc .smem S1x1x1000 .i32) (harg1 : arg1.IsWhole) (arg2 : Memref sig .tc .smem S1x1x1000 .i32) (harg2 : arg2.IsWhole) (arg3 : Memref sig .tc .smem S1x10000 .i32) (harg3 : arg3.IsWhole) (arg4 : Memref sig .tc .vmem S1000x16 .f32) (harg4 : arg4.IsWhole) (arg5 : Memref sig .tc .vmem S16x128 .f32) (harg5 : arg5.IsWhole) (arg6 : Memref sig .tc .vmem S1x128 .f32) (harg6 : arg6.IsWhole) (arg7 : Memref sig .tc .vmem S10000x128 .f32) (harg7 : arg7.IsWhole) (arg8 : Memref sig .tc .vmem S1000x1 .f32) (harg8 : arg8.IsWhole) (arg9 : Memref sig .tc .vmem S10000x1 .f32) (harg9 : arg9.IsWhole) (arg10 : Memref sig .tc .vmem S10000x1 .f32) (harg10 : arg10.IsWhole) (arg11 : Memref sig .tc .vmem S20000x128 .f32) (harg11 : arg11.IsWhole) (arg12 : Memref sig .tc .vmem S1000x128 .f32) (harg12 : arg12.IsWhole)
    (R C : S1x1x1000.Idx → BitVec 32) (Lb : S1x10000.Idx → BitVec 32) (EA : S1000x16.Idx → F .f32) (We : S16x128.Idx → F .f32)
    (be : S1x128.Idx → F .f32) (Hw : S10000x128.Idx → F .f32) (Ex : S1000x1.Idx → F .f32) (Dn Th : S10000x1.Idx → F .f32)
    (hx : (In2.ofBlocks R C Lb EA We be Hw Ex Dn Th).Ok) (O : S20000x128.Idx → F .f32) (Z : S1000x128.Idx → F .f32) (E : Set ℕ) :
    iprop(pt c arg1 R ∗ pt c arg2 C ∗ pt c arg3 Lb ∗ pt c arg4 EA ∗ pt c arg5 We ∗ pt c arg6 be ∗ pt c arg7 Hw ∗ pt c arg8 Ex ∗ pt c arg9 Dn ∗ pt c arg10 Th ∗ pt c arg11 O ∗ pt c arg12 Z)
      ⊢ wp frame (wpE (defs₀ (F := F)) Variants.none (c : Thread nD τ) none) E (cc2__edge_pass2_kernel (F := F) i arg1 harg1 arg2 harg2 arg3 harg3 arg4 harg4 arg5 harg5 arg6 harg6 arg7 harg7 arg8 harg8 arg9 harg9 arg10 harg10 arg11 harg11 arg12 harg12)
          (fun _ => iprop(pt c arg1 R ∗ pt c arg2 C ∗ pt c arg3 Lb ∗ pt c arg4 EA ∗ pt c arg5 We ∗ pt c arg6 be ∗ pt c arg7 Hw ∗ pt c arg8 Ex ∗ pt c arg9 Dn ∗ pt c arg10 Th
            ∗ pt c arg11 ((In2.ofBlocks R C Lb EA We be Hw Ex Dn Th).run (if (i 0).val = 0 then k2_pay1 else O) 1000) ∗ pt c arg12 (k2_pay2 EA We be))) := by
  have hcond : (Scalar.cmpi .ne (Scalar.extui (Scalar.cmpi .eq (BitVec.ofNat 32 (i 0).val) 0#32)) 0#32 = 1#1) ↔ (i 0).val = 0 := by
    have h : ∀ n : Fin 320, (Scalar.cmpi .ne (Scalar.extui (Scalar.cmpi .eq (BitVec.ofNat 32 n.val) 0#32)) 0#32 = 1#1) ↔ n.val = 0 := by decide +kernel
    exact h (i 0)
  rw [cc2__edge_pass2_kernel_eq_skeleton]
  unfold cc2__edge_pass2_kernel_skel
  iintro ⟨H1, H2, H3, H4, H5, H6, H7, H8, H9, H10, H11, H12⟩
  sl_exec
  have e11 : arg11.view.read (Elt F) (if hc : body.sl.v2 i = 1#1 then
      arg11.view.writes (Elt F) (arg11.view.rep O) [⟨Rect.unit ![0, 0] S20000x128.size inb_S20000x128_S20000x128_0_0, k2_pay1⟩]
      else arg11.view.rep O) = if (i 0).val = 0 then k2_pay1 else O := by
    by_cases h0 : (i 0).val = 0
    · rw [if_pos h0, dif_pos (show body.sl.v2 i = 1#1 from hcond.mpr h0)]; exact View.read_writes_full _ _ _ _ _
    · rw [if_neg h0, dif_neg (show ¬ body.sl.v2 i = 1#1 from fun h => h0 (hcond.mp h))]; exact View.read_rep _ _
  have e12 : arg12.view.read (Elt F) (arg12.view.writes (Elt F) arg12.view.junk (body.sl.H12_1 arg4 arg5 arg6 EA We be)) = k2_pay2 EA We be := by
    refine (View.read_writes_full _ _ _ _ _).trans ?_
    exact pay2_congr (readAt_whole (Val := Elt F) arg4.view EA _) (readAt_whole (Val := Elt F) arg5.view We _) (readAt_whole (Val := Elt F) arg6.view be _)
  ihave H11 := (pointsTo_rep_of_read (c : Thread nD τ) arg11 _ fullShare (if (i 0).val = 0 then k2_pay1 else O) e11) $$ H11
  ihave H12 := (pointsTo_rep_of_read (c : Thread nD τ) arg12 _ fullShare (k2_pay2 EA We be) e12) $$ H12
  iapply (wp_wand_r Idealize.ShloMosaic.frame (wpE (defs₀ (F := F)) Variants.none (c : Thread nD τ) none) E)
  isplitl [H1 H2 H3 H7 H8 H9 H10 H11 H12]
  · iapply (loop c i arg1 harg1 arg2 harg2 arg3 harg3 arg4 harg4 arg5 harg5 arg6 harg6 arg7 harg7 arg8 harg8 arg9 harg9 arg10 harg10 arg11 harg11 arg12 harg12 (In2.ofBlocks R C Lb EA We be Hw Ex Dn Th) hx (if (i 0).val = 0 then k2_pay1 else O) E)
    isplitl [H1]; · iexact H1
    isplitl [H2]; · iexact H2
    isplitl [H3]; · iexact H3
    isplitl [H7]; · iexact H7
    isplitl [H8]; · iexact H8
    isplitl [H9]; · iexact H9
    isplitl [H10]; · iexact H10
    isplitl [H12]; · iexact H12
    iexact H11
  · iintro %_ ⟨H1, H2, H3, H7, H8, H9, H10, H12, H11⟩
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

end Cert.KernelIdeal.Pass2

end
-- ==== Proof.Region2.lean ====
/- The second edge pass as a region: what its buffers hold at each point. -/
module

public import proofs.«01_k».proof.Proof.Loop2
public import proofs.«01_k».proof.Proof.Region1
public import proofs.«01_k».proof.Proof.Gen.KernelIdeal.Points
public import proofs.«01_k».proof.Proof.Gen.KernelIdeal.Regions
public import Idealize.ShloMosaic.Lib.Pipeline.RegionArraysS
public import Idealize.ShloMosaic.Lib.Pipeline.TableIdle

@[expose] public section

set_option maxRecDepth 16384

noncomputable section

namespace Cert.KernelIdeal.Pass2

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Pass1 (ent whole_pt)
open Idealize.ShloMosaic.Pipeline (Dat Cfg Window BodyObligation)

variable {F : FTy → Type} [FloatOps F]

/-- The resource algebra of the regions' proofs. -/
local notation "𝕄" => MT nD τ sig Unit (Elt F) ℕ (UR sig nD τ) ℕ

variable (V : (c : Dev nD) → Valuation τ sig (Elt F))

/-- A point of the grid is below 320. -/
theorem lt320 (t : Fin cfg2.N) : t.val < 320 := Nat.lt_of_lt_of_eq t.isLt N_2

/-- Point `n` of the grid. -/
def pnt (n : ℕ) : Fin cfg2.N := ⟨n % 320, Nat.lt_of_lt_of_eq (Nat.mod_lt n (by omega)) N_2.symm⟩

theorem pnt_val (t : Fin cfg2.N) : pnt t.val = t := Fin.ext (Nat.mod_eq_of_lt (lt320 t))

/-- The source words of point `t`'s edges. -/
def bR (c : Dev nD) (t : Fin cfg2.N) : S1x1x1000.Idx → BitVec 32 := ((cfg2.win 0).blk t).view.read (Elt F) (V c main_v2)
/-- The destination words of point `t`'s edges. -/
def bC (c : Dev nD) (t : Fin cfg2.N) : S1x1x1000.Idx → BitVec 32 := ((cfg2.win 1).blk t).view.read (Elt F) (V c main_v5)
/-- The nodes' labels. -/
def bLb (c : Dev nD) (t : Fin cfg2.N) : S1x10000.Idx → BitVec 32 := ((cfg2.win 2).blk t).view.read (Elt F) (V c main_v6)
/-- The attributes of point `t`'s edges. -/
def bEA (c : Dev nD) (t : Fin cfg2.N) : S1000x16.Idx → F .f32 := ((cfg2.win 3).blk t).view.read (Elt F) (V c main_arg1)
/-- The weights of the edge attributes. -/
def bWe (c : Dev nD) (t : Fin cfg2.N) : S16x128.Idx → F .f32 := ((cfg2.win 4).blk t).view.read (Elt F) (V c main_arg5)
/-- Their bias. -/
def bBe (c : Dev nD) (t : Fin cfg2.N) : S1x128.Idx → F .f32 := ((cfg2.win 5).blk t).view.read (Elt F) (V c main_v11)
/-- The nodes' rows. -/
def bHw (c : Dev nD) (t : Fin cfg2.N) : S10000x128.Idx → F .f32 := ((cfg2.win 6).blk t).view.read (Elt F) (V c main_v8_0)
/-- The exponentials of point `t`'s edges. -/
def bEx (c : Dev nD) (t : Fin cfg2.N) : S1000x1.Idx → F .f32 := ((cfg2.win 7).blk t).view.read (Elt F) (V c main_v9_0)
/-- The nodes' sums. -/
def bDn (c : Dev nD) (t : Fin cfg2.N) : S10000x1.Idx → F .f32 := ((cfg2.win 8).blk t).view.read (Elt F) (V c main_v9_1)
/-- The nodes' thresholds. -/
def bTh (c : Dev nD) (t : Fin cfg2.N) : S10000x1.Idx → F .f32 := ((cfg2.win 9).blk t).view.read (Elt F) (V c main_v10)

/-- What the loop of point `t` reads. -/
abbrev inp (c : Dev nD) (t : Fin cfg2.N) : In2 F := In2.ofBlocks (bR V c t) (bC V c t) (bLb V c t) (bEA V c t) (bWe V c t) (bBe V c t) (bHw V c t) (bEx V c t) (bDn V c t) (bTh V c t)

/-- The result before point `n`. -/
def outAt (c : Dev nD) : ℕ → S20000x128.Idx → F .f32 := iter (fun n O => (inp V c (pnt n)).run O 1000) k2_pay1

/-- The region's proof data: its arrays at `V`, its inputs' buffers at their blocks, the result after the point. -/
def dat (c : Dev nD) : Dat τ (Elt F) Unit ℕ (UR sig nD τ) ℕ cfg2 c where
  A w := V c (Pipeline.arrRef spec2 w)
  after w t := match w with
    | ⟨0, _⟩ => bR V c t
    | ⟨1, _⟩ => bC V c t
    | ⟨2, _⟩ => bLb V c t
    | ⟨3, _⟩ => bEA V c t
    | ⟨4, _⟩ => bWe V c t
    | ⟨5, _⟩ => bBe V c t
    | ⟨6, _⟩ => bHw V c t
    | ⟨7, _⟩ => bEx V c t
    | ⟨8, _⟩ => bDn V c t
    | ⟨9, _⟩ => bTh V c t
    | ⟨10, _⟩ => outAt V c (t.val + 1)
  Φ _ := Pipeline.scopedRest spec2 c
  q _ := fullShare
  owed _ := 0

theorem before0 (c : Dev nD) (t : Fin cfg2.N) (d) : (dat V c).before 0 t d = bR V c t := by
  rw [Dat.before_fetched (dat V c) 0 t (fetch2_0 t) d]; rfl
theorem before1 (c : Dev nD) (t : Fin cfg2.N) (d) : (dat V c).before 1 t d = bC V c t := by
  rw [Dat.before_fetched (dat V c) 1 t (fetch2_1 t) d]; rfl
theorem before2 (c : Dev nD) (t : Fin cfg2.N) (d) : (dat V c).before 2 t d = bLb V c t :=
  Dat.before_in_eq_fetched (dat V c) 2 rfl (fun _ => rfl) (fun _ _ _ => rfl) (fun _ => rfl) t d
theorem before3 (c : Dev nD) (t : Fin cfg2.N) (d) : (dat V c).before 3 t d = bEA V c t := by
  rw [Dat.before_fetched (dat V c) 3 t (fetch2_3 t) d]; rfl
theorem before4 (c : Dev nD) (t : Fin cfg2.N) (d) : (dat V c).before 4 t d = bWe V c t :=
  Dat.before_in_eq_fetched (dat V c) 4 rfl (fun _ => rfl) (fun _ _ _ => rfl) (fun _ => rfl) t d
theorem before5 (c : Dev nD) (t : Fin cfg2.N) (d) : (dat V c).before 5 t d = bBe V c t :=
  Dat.before_in_eq_fetched (dat V c) 5 rfl (fun _ => rfl) (fun _ _ _ => rfl) (fun _ => rfl) t d
theorem before6 (c : Dev nD) (t : Fin cfg2.N) (d) : (dat V c).before 6 t d = bHw V c t :=
  Dat.before_in_eq_fetched (dat V c) 6 rfl (fun _ => rfl) (fun _ _ _ => rfl) (fun _ => rfl) t d
theorem before7 (c : Dev nD) (t : Fin cfg2.N) (d) : (dat V c).before 7 t d = bEx V c t := by
  rw [Dat.before_fetched (dat V c) 7 t (fetch2_7 t) d]; rfl
theorem before8 (c : Dev nD) (t : Fin cfg2.N) (d) : (dat V c).before 8 t d = bDn V c t :=
  Dat.before_in_eq_fetched (dat V c) 8 rfl (fun _ => rfl) (fun _ _ _ => rfl) (fun _ => rfl) t d
theorem before9 (c : Dev nD) (t : Fin cfg2.N) (d) : (dat V c).before 9 t d = bTh V c t :=
  Dat.before_in_eq_fetched (dat V c) 9 rfl (fun _ => rfl) (fun _ _ _ => rfl) (fun _ => rfl) t d

theorem before10 (c : Dev nD) (t : Fin cfg2.N) (ht : t.val ≠ 0) (d) : (dat V c).before 10 t d = outAt V c t.val := by
  have hf : (cfg2.win 10).flush ⟨t.val - 1, Nat.lt_of_le_of_lt (Nat.sub_le _ _) t.isLt⟩ = false :=
    Bool.eq_false_iff.mpr fun h => by
      have h1 : (t.val - 1) % 320 = 319 := (flush2_10 _).mp h
      have := lt320 t
      omega
  rw [Dat.before_out_kept (dat V c) 10 rfl t ht hf (fun _ => rfl) (fun _ _ => rfl) d]
  show outAt V c (t.val - 1 + 1) = _
  rw [Nat.sub_add_cancel (Nat.pos_of_ne_zero ht)]

/-- The grid's one coordinate is the point's number. -/
theorem coord (t : Fin cfg2.N) : (grid2.coords t 0).val = t.val := by
  have h : ∀ t : Fin grid2.N, (grid2.coords t 0).val = t.val := by decide +kernel
  exact h t

theorem next_out (c : Dev nD) (t : Fin cfg2.N) (O : S20000x128.Idx → F .f32) (h : t.val ≠ 0 → O = outAt V c t.val) :
    (inp V c t).run (if (grid2.coords t 0).val = 0 then k2_pay1 else O) 1000 = outAt V c (t.val + 1) := by
  have e : (if (grid2.coords t 0).val = 0 then k2_pay1 else O) = outAt V c t.val := by
    rw [coord]
    by_cases h0 : t.val = 0
    · rw [if_pos h0, h0]; rfl
    · rw [if_neg h0, h h0]
  rw [e]
  show _ = (inp V c (pnt t.val)).run (outAt V c t.val) 1000
  rw [pnt_val]

set_option maxHeartbeats 4000000 in
/-- The body at a point, from what the buffers hold before the point to what they hold after it. -/
theorem oblig (c : Dev nD) (hok : ∀ t, (inp V c t).Ok) : BodyObligation (dat V c) (defs₀ (F := F)) Variants.none () Set.univ := fun t => by
  rw [bigSep_W2, bigSep_W2]
  rw [show (dat V c).Φ t.castSucc = Pipeline.scopedRest spec2 c from rfl, show (dat V c).Φ t.succ = Pipeline.scopedRest spec2 c from rfl,
    show (dat V c).owesAt () t.succ = (dat V c).owesAt () t.castSucc from rfl, scopedRest2_eq]
  iintro ⟨⟨A1, A2, A3, A4, A5, A6, A7, A8, A9, A10, A11, A12, A13, A14, A15, A16, A17, ⟨%fs, Hs⟩, A18⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  rw [before0, before1, before2, before3, before4, before5, before6, before7, before8, before9]
  have hw := (body (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (Memref.whole cc2_scratch0) (Memref.isWhole_whole _)
    (bR V c t) (bC V c t) (bLb V c t) (bEA V c t) (bWe V c t) (bBe V c t) (bHw V c t) (bEx V c t) (bDn V c t) (bTh V c t) (hok t) ((dat V c).before 10 t d10) fs Set.univ)
  ihave Hs := (ent (whole_pt (F := F) c cc2_scratch0 fs).symm) $$ Hs
  simp only [owns_eq_rep]
  iapply (wp_wand_r Idealize.ShloMosaic.frame (wpE (defs₀ (F := F)) Variants.none (c : Thread nD τ) none) Set.univ)
  isplitl [H0 H1 H2 H3 H4 H5 H6 H7 H8 H9 H10 Hs]
  · iapply hw
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact Hs
  · iintro %_ ⟨H0, H1, H2, H3, H4, H5, H6, H7, H8, H9, H10, Hs⟩
    have e10 := congrArg (fun X => pt (F := F) c (win2_10.stage (cfg2.slots t 10)) X) (next_out V c t ((dat V c).before 10 t d10) (fun h => before10 V c t h d10))
    ihave H10 := (ent e10) $$ H10
    ihave Hs := (ent (whole_pt (F := F) c cc2_scratch0 (k2_pay2 (bEA V c t) (bWe V c t) (bBe V c t)))) $$ Hs
    isplitl [A1 A2 A3 A4 A5 A6 A7 A8 A9 A10 A11 A12 A13 A14 A15 A16 A17 A18 Hs]
    · isplitl [A1]; · iexact A1
      isplitl [A2]; · iexact A2
      isplitl [A3]; · iexact A3
      isplitl [A4]; · iexact A4
      isplitl [A5]; · iexact A5
      isplitl [A6]; · iexact A6
      isplitl [A7]; · iexact A7
      isplitl [A8]; · iexact A8
      isplitl [A9]; · iexact A9
      isplitl [A10]; · iexact A10
      isplitl [A11]; · iexact A11
      isplitl [A12]; · iexact A12
      isplitl [A13]; · iexact A13
      isplitl [A14]; · iexact A14
      isplitl [A15]; · iexact A15
      isplitl [A16]; · iexact A16
      isplitl [A17]; · iexact A17
      isplitl [Hs]
      · iexists (k2_pay2 (bEA V c t) (bWe V c t) (bBe V c t)); iexact Hs
      iexact A18
    isplitl [HO]; · iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

end Cert.KernelIdeal.Pass2

end
-- ==== Proof.Run.lean ====
/- The whole program: what its buffers hold after each stretch of host operations and each region, and its run. -/
module

public import proofs.«01_k».proof.Proof.Region0
public import proofs.«01_k».proof.Proof.Region1
public import proofs.«01_k».proof.Proof.Region2
public import Idealize.ShloMosaic.Lib.StableHlo.ReadAt

@[expose] public section

set_option maxRecDepth 16384

noncomputable section

namespace Cert.KernelIdeal.Run

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation afterRegion RegionSeg HostSeg Seg arrRef)

variable {F : FTy → Type} [FloatOps F]

/-- The resource algebra of the regions' proofs. -/
local notation "𝕄" => MT nD τ sig Unit (Elt F) ℕ (UR sig nD τ) ℕ

variable (m : (ℓ : Loc nD τ sig) → Buf (Elt F) ℓ)

/-- The buffers at launch. -/
def W0 (c : Dev nD) : Valuation τ sig (Elt F) := V0 m c
/-- After the first host operations. -/
def W1 (c : Dev nD) : Valuation τ sig (Elt F) := StableHlo.after hostOps0 (W0 m c)
/-- After the dense pass. -/
def W2 (c : Dev nD) : Valuation τ sig (Elt F) := afterRegion (Dense.dat (W1 m) c) (W1 m c)
/-- After the first edge pass. -/
def W3 (c : Dev nD) : Valuation τ sig (Elt F) := afterRegion (Pass1.dat (W2 m) c) (W2 m c)
/-- After the thresholds are taken out of the tables. -/
def W4 (c : Dev nD) : Valuation τ sig (Elt F) := StableHlo.after hostOps2 (W3 m c)
/-- After the second edge pass. -/
def W5 (c : Dev nD) : Valuation τ sig (Elt F) := afterRegion (Pass2.dat (W4 m) c) (W4 m c)
/-- At the end. -/
def W6 (c : Dev nD) : Valuation τ sig (Elt F) := StableHlo.after hostOps3 (W5 m c)

/-- The proof data of the three regions. -/
def pdats : (p : Fin 3) → (c : Dev nD) → Dat τ (Elt F) Unit ℕ (UR sig nD τ) ℕ (cfgs p) c
  | ⟨0, _⟩ => Dense.dat (W1 m)
  | ⟨1, _⟩ => Pass1.dat (W2 m)
  | ⟨2, _⟩ => Pass2.dat (W4 m)

/-- A cell of the TensorCore carries the one tag. -/
abbrev L : GSem nD τ sig → Finset Unit := fun g => if g.1.2 = .tc then {()} else ∅
abbrev lv : GSem nD τ sig → Unit → ℕ := fun _ _ => 0
/-- No core owes anything. -/
abbrev D : Dev nD → CellTallies nD τ sig Unit := fun _ => 0
/-- What rides beside the buffers. -/
abbrev R (c : Dev nD) : sProp 𝕄 := iprop((∃ Wd, owes (c : Thread nD τ) (D c) Wd) ∗ emp ∗ emp)

theorem arrs0 : Pipeline.arrRefs (τ := τ) (pcfgs (F := F) 0).spec ⊆ Pipeline.ucRefs τ sig := by
  show Pipeline.arrRefs (τ := τ) spec0 ⊆ Pipeline.ucRefs τ sig
  decide
theorem arrs1 : Pipeline.arrRefs (τ := τ) (pcfgs (F := F) 1).spec ⊆ Pipeline.ucRefs τ sig := by
  show Pipeline.arrRefs (τ := τ) spec1 ⊆ Pipeline.ucRefs τ sig
  decide
theorem arrs2 : Pipeline.arrRefs (τ := τ) (pcfgs (F := F) 2).spec ⊆ Pipeline.ucRefs τ sig := by
  show Pipeline.arrRefs (τ := τ) spec2 ⊆ Pipeline.ucRefs τ sig
  decide

/-- Every index of the edges is below the number of nodes. -/
def InRange : Prop := ∀ (c : Dev nD) (j : S2x320000.Idx), ((m ((c : Thread nD τ).loc main_arg7) : S2x320000.Idx → BitVec 32) j).toNat < 10000

set_option backward.isDefEq.respectTransparency.types false in
/-- The dense pass as a region. -/
def reg0 : RegionSeg (pcfgs (F := F)) adm (pdats m) () defs₀ Variants.none L lv 0 :=
  RegionSeg.ofHeldIn (pcfgs (F := F)) adm (pdats m) () defs₀ Variants.none L lv 0 D (Pipeline.ucRefs τ sig) (fun _ => iprop(emp)) (fun _ => iprop(emp))
    launch0.toP rfl (fun c => (Dense.oblig (W1 m) c).loose) (fun _ _ => rfl) (fun _ => rfl) (fun c => (Dense.dat (W1 m) c).share_full fun _ => rfl)
    (fun c => by
      show iprop(Pipeline.scopedRest spec0 c ∗ emp) ⊢ Pipeline.scopedRest spec0 c
      iintro ⟨H, -⟩; iexact H)
    (fun c => by
      show Pipeline.scopedRest spec0 c ⊢ iprop(Pipeline.scopedRest spec0 c ∗ emp)
      iintro H
      isplitl [H]; · iexact H
      iempintro)
    (fun _ => 0) ⟨fun _ _ _ => Finset.mem_singleton_self _, fun _ _ _ => le_rfl, fun _ _ _ h => absurd h (lt_irrefl _)⟩ (fun _ => iprop(emp)) (W1 m) (fun _ _ => rfl)

set_option backward.isDefEq.respectTransparency.types false in
/-- The first edge pass as a region. -/
def reg1 (h : ∀ c t, (Pass1.inp (W2 m) c t).Ok) : RegionSeg (pcfgs (F := F)) adm (pdats m) () defs₀ Variants.none L lv 1 :=
  RegionSeg.ofHeldIn (pcfgs (F := F)) adm (pdats m) () defs₀ Variants.none L lv 1 D (Pipeline.ucRefs τ sig) (fun _ => iprop(emp)) (fun _ => iprop(emp))
    launch1.toP rfl (fun c => (Pass1.oblig (W2 m) c (h c)).loose) (fun _ _ => rfl) (fun _ => rfl) (fun c => (Pass1.dat (W2 m) c).share_full fun _ => rfl)
    (fun c => by
      show iprop(Pipeline.scopedRest spec1 c ∗ emp) ⊢ Pipeline.scopedRest spec1 c
      iintro ⟨H, -⟩; iexact H)
    (fun c => by
      show Pipeline.scopedRest spec1 c ⊢ iprop(Pipeline.scopedRest spec1 c ∗ emp)
      iintro H
      isplitl [H]; · iexact H
      iempintro)
    (fun _ => 0) ⟨fun _ _ _ => Finset.mem_singleton_self _, fun _ _ _ => le_rfl, fun _ _ _ h => absurd h (lt_irrefl _)⟩ (fun _ => iprop(emp)) (W2 m) (fun _ _ => rfl)

set_option backward.isDefEq.respectTransparency.types false in
/-- The second edge pass as a region. -/
def reg2 (h : ∀ c t, (Pass2.inp (W4 m) c t).Ok) : RegionSeg (pcfgs (F := F)) adm (pdats m) () defs₀ Variants.none L lv 2 :=
  RegionSeg.ofHeldIn (pcfgs (F := F)) adm (pdats m) () defs₀ Variants.none L lv 2 D (Pipeline.ucRefs τ sig) (fun _ => iprop(emp)) (fun _ => iprop(emp))
    launch2.toP rfl (fun c => (Pass2.oblig (W4 m) c (h c)).loose) (fun _ _ => rfl) (fun _ => rfl) (fun c => (Pass2.dat (W4 m) c).share_full fun _ => rfl)
    (fun c => by
      show iprop(Pipeline.scopedRest spec2 c ∗ emp) ⊢ Pipeline.scopedRest spec2 c
      iintro ⟨H, -⟩; iexact H)
    (fun c => by
      show Pipeline.scopedRest spec2 c ⊢ iprop(Pipeline.scopedRest spec2 c ∗ emp)
      iintro H
      isplitl [H]; · iexact H
      iempintro)
    (fun _ => 0) ⟨fun _ _ _ => Finset.mem_singleton_self _, fun _ _ _ => le_rfl, fun _ _ _ h => absurd h (lt_irrefl _)⟩ (fun _ => iprop(emp)) (W4 m) (fun _ _ => rfl)

/-- The host operations before the regions. -/
def host0 : HostSeg (Ix := Unit) (Name := ℕ) (U := UR sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) R

/-- The host operations between the edge passes. -/
def host2 : HostSeg (Ix := Unit) (Name := ℕ) (U := UR sig nD τ) (Lvl := ℕ) (pcfgs (F := F)) defs₀ Variants.none L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) R

/-- The host operations at the end. -/
def host3 : HostSeg (Ix := Unit) (Name := ℕ) (U := UR sig nD τ) (Lvl := ℕ) (pcfgs (F := F)) defs₀ Variants.none L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (W5 m) R

/-- The items of the program, in order. -/
abbrev items (h1 : ∀ c t, (Pass1.inp (W2 m) c t).Ok) (h2 : ∀ c t, (Pass2.inp (W4 m) c t).Ok) : List (Seg (pcfgs (F := F)) adm (pdats m) () defs₀ Variants.none L lv) :=
  [.host (host0 m), .region (reg0 m), .region (reg1 m h1), .host (host2 m), .region (reg2 m h2), .host (host3 m)]

/-- Held at a valuation, with what rides beside. -/
abbrev st (W : (c : Dev nD) → Valuation τ sig (Elt F)) (c : Dev nD) : sProp 𝕄 :=
  iprop(StableHlo.held (c : Thread nD τ) (Pipeline.ucRefs τ sig) (W c) ∗ R c)

set_option backward.isDefEq.respectTransparency.types false in
theorem pre0 (c : Dev nD) : st (W1 m) c ⊢ (reg0 m).pre c := by
  unfold reg0
  exact RegionSeg.ofHeldIn_pre (pcs := pcfgs (F := F)) (a := adm) (pdats := pdats m) (ι := ()) (defs₀ := defs₀) (𝒱₀ := Variants.none) (L := L) (lv := lv) (p := 0) (D := D) (S := Pipeline.ucRefs τ sig) (X := fun _ => iprop(emp)) (Y := fun _ => iprop(emp)) (R := fun _ => iprop(emp)) (b := fun _ => 0) (W := W1 m) (arrs0 (F := F)) c
set_option backward.isDefEq.respectTransparency.types false in
theorem post0 (c : Dev nD) : (reg0 m).post c ⊢ st (W2 m) c := by
  show (reg0 m).post c ⊢ st (fun c => afterRegion (pdats m 0 c) (W1 m c)) c
  exact RegionSeg.ofHeldIn_post (pcs := pcfgs (F := F)) (a := adm) (pdats := pdats m) (ι := ()) (defs₀ := defs₀) (𝒱₀ := Variants.none) (L := L) (lv := lv) (p := 0) (D := D) (arrs0 (F := F)) c

set_option backward.isDefEq.respectTransparency.types false in
theorem pre1 (h) (c : Dev nD) : st (W2 m) c ⊢ (reg1 m h).pre c := by
  unfold reg1
  exact RegionSeg.ofHeldIn_pre (pcs := pcfgs (F := F)) (a := adm) (pdats := pdats m) (ι := ()) (defs₀ := defs₀) (𝒱₀ := Variants.none) (L := L) (lv := lv) (p := 1) (D := D) (S := Pipeline.ucRefs τ sig) (X := fun _ => iprop(emp)) (Y := fun _ => iprop(emp)) (R := fun _ => iprop(emp)) (b := fun _ => 0) (W := W2 m) (arrs1 (F := F)) c
set_option backward.isDefEq.respectTransparency.types false in
theorem post1 (h) (c : Dev nD) : (reg1 m h).post c ⊢ st (W3 m) c := by
  show (reg1 m h).post c ⊢ st (fun c => afterRegion (pdats m 1 c) (W2 m c)) c
  exact RegionSeg.ofHeldIn_post (pcs := pcfgs (F := F)) (a := adm) (pdats := pdats m) (ι := ()) (defs₀ := defs₀) (𝒱₀ := Variants.none) (L := L) (lv := lv) (p := 1) (D := D) (arrs1 (F := F)) c

set_option backward.isDefEq.respectTransparency.types false in
theorem pre2 (h) (c : Dev nD) : st (W4 m) c ⊢ (reg2 m h).pre c := by
  unfold reg2
  exact RegionSeg.ofHeldIn_pre (pcs := pcfgs (F := F)) (a := adm) (pdats := pdats m) (ι := ()) (defs₀ := defs₀) (𝒱₀ := Variants.none) (L := L) (lv := lv) (p := 2) (D := D) (S := Pipeline.ucRefs τ sig) (X := fun _ => iprop(emp)) (Y := fun _ => iprop(emp)) (R := fun _ => iprop(emp)) (b := fun _ => 0) (W := W4 m) (arrs2 (F := F)) c
set_option backward.isDefEq.respectTransparency.types false in
theorem post2 (h) (c : Dev nD) : (reg2 m h).post c ⊢ st (W5 m) c := by
  show (reg2 m h).post c ⊢ st (fun c => afterRegion (pdats m 2 c) (W4 m c)) c
  exact RegionSeg.ofHeldIn_post (pcs := pcfgs (F := F)) (a := adm) (pdats := pdats m) (ι := ()) (defs₀ := defs₀) (𝒱₀ := Variants.none) (L := L) (lv := lv) (p := 2) (D := D) (arrs2 (F := F)) c

/-- The launch element. -/
def u₀ : UR sig nD τ := initOf (Pipeline.cells cfgs cellOf_inj) (Pipeline.launchToks cfgs cellOf_inj)

set_option backward.isDefEq.respectTransparency.types false in
/-- Every execution ends, with every buffer of the program at `W6` and every counter at zero. -/
theorem run (g : Dev nD → PrngReg) (h1 : ∀ c t, (Pass1.inp (W2 m) c t).Ok) (h2 : ∀ c t, (Pass2.inp (W4 m) c t).Ok) :
    θ_run defs (onTc (τ := τ) (main (F := F))) ⟨m, fun _ => 0, g⟩ (fun r =>
      (∀ c : Dev nD, ∀ b ∈ Pipeline.ucRefs τ sig, r.2.mem ((c : Thread nD τ).1, b) = W6 m c b) ∧ r.2.sem = fun _ => 0) := by
  refine Pipeline.θ_run_regions_kit_sems (pcfgs (F := F)) adm (pdats m) () cellOf_inj (emb₁ : Emb _ 𝕄) defs₀ Variants.none L lv m g main (items m h1 h2)
    (fun c Q => by
      rewrite [main_chain c, Seg.run_eq_chain,
        show (items m h1 h2).map Seg.prog = [
          StableHlo.seq hostOps0,
          Prog.lift (.customCall (Pipeline.entry 0) ()),
          Prog.lift (.customCall (Pipeline.entry 1) ()),
          StableHlo.seq hostOps2,
          Prog.lift (.customCall (Pipeline.entry 2) ()),
          StableHlo.seq hostOps3 ] from rfl]
      exact .rfl)
    (by simp only [items, Seg.pipes_host, Seg.pipes_region, Seg.pipes_nil]; decide) (O₀ := 0) (hL := fun _ h => if_neg h) (G := fun _ => iprop(emp)) (u₀ := u₀)
    (hu₀ := ?_) (T₀ := st (W0 m)) (Tₙ := fun c => StableHlo.held (c : Thread nD τ) (Pipeline.ucRefs τ sig) (W6 m c))
    (hch := ⟨fun _ => .rfl, pre0 m, fun c => (post0 m c).trans (pre1 m h1 c), post1 m h1, pre2 m h2, post2 m h2, fun c => ?_⟩)
    (hinit := ?_) (QY := fun c s => ∀ b ∈ Pipeline.ucRefs τ sig, s.mem ((c : Thread nD τ).1, b) = W6 m c b)
    (hfin := fun c s' => ?_) (hQ := fun _ h hz => ⟨h, funext fun g => hz g (.inr (regions_no_unscoped g.2))⟩)
  · unfold u₀
    iintro Hu
    imodintro
    isplitl [Hu]
    · iapply (show (ownU (initOf (Pipeline.cells cfgs cellOf_inj) (Pipeline.launchToks cfgs cellOf_inj)) : sProp 𝕄) ⊢ BI.own ((emb₁ : Emb _ 𝕄) (initOf (Pipeline.cells (Pipeline.pin (pcfgs (F := F)) adm) cellOf_inj) (Pipeline.launchToks (Pipeline.pin (pcfgs (F := F)) adm) cellOf_inj))) from .rfl)
      iexact Hu
    iapply (show (BI.emp : sProp 𝕄) ⊢ bigSep Finset.univ (fun _ : Dev nD => (BI.emp : sProp 𝕄)) from by rw [BI.bigSep_emp_const])
    iempintro
  · show st (W6 m) c ⊢ _
    iintro ⟨H, HO, -, -⟩
    isplitl [H]; · iexact H
    iexact HO
  · refine Pipeline.initEach L lv fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, -, -⟩, -⟩
    imodintro
    isplitl [Hh]; · iexact Hh
    isplitl [HO]
    · iexists ∅; iexact HO
    isplitl <;> iempintro
  · unfold StableHlo.held
    iintro ⟨Hh, HSI⟩
    ihave Hr := (pointsTo_read_all (Pipeline.ucRefs τ sig) (fun b => ((c : Thread nD τ).1, b)) (W6 m c) s') $$ [Hh HSI]
    · isplitl [Hh] <;> iassumption
    icases Hr with ⟨%h, HSI⟩
    imodintro
    isplitr; · ipureintro; exact h
    iexact HSI

end Cert.KernelIdeal.Run

end
-- ==== Proof.Host.lean ====
/- What the host operations leave, element by element. -/
module

public import proofs.«01_k».proof.Proof.Run
public import Idealize.ShloMosaic.Lib.Pointwise.Index

@[expose] public section

set_option maxRecDepth 16384

noncomputable section

namespace Cert.KernelIdeal.Run

open Cert.KernelIdeal Cert.KernelIdeal.Gen Cert.Held
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation afterRegion RegionSeg HostSeg Seg arrRef)

variable {F : FTy → Type} [FloatOps F]

/-- The resource algebra of the regions' proofs. -/
local notation "𝕄" => MT nD τ sig Unit (Elt F) ℕ (UR sig nD τ) ℕ

variable (m : (ℓ : Loc nD τ sig) → Buf (Elt F) ℓ)

/-- Edge `k` of point `t`. -/
def edge (t : Fin 320) (k : Fin 1000) : Fin 320000 := ⟨t.val * 1000 + k.val, by omega⟩

/-- The edges' indices as launched. -/
abbrev eidx (c : Dev nD) : S2x320000.Idx → BitVec 32 := m ((c : Thread nD τ).loc main_arg7)

theorem W1_v2 (c : Dev nD) (t : Fin 320) (k : Fin 1000) :
    (W1 m c main_v2 : S320x1x1000.Idx → BitVec 32) (ix3 t 0 k) = eidx m c (ix2 0 (edge t k)) := by
  unfold W1 W0
  after_reads_at
  rfl

theorem W1_v5 (c : Dev nD) (t : Fin 320) (k : Fin 1000) :
    (W1 m c main_v5 : S320x1x1000.Idx → BitVec 32) (ix3 t 0 k) = eidx m c (ix2 1 (edge t k)) := by
  unfold W1 W0
  after_reads_at
  rfl

theorem W1_v6 (c : Dev nD) (n : Fin 10000) :
    (W1 m c main_v6 : S1x10000.Idx → BitVec 32) (ix2 0 n) = (m ((c : Thread nD τ).loc main_arg8) : S10000.Idx → BitVec 32) (ix1 n) := by
  unfold W1 W0
  after_reads_at

theorem W1_v7 (c : Dev nD) (d : Fin 128) :
    (W1 m c main_v7 : S1x128.Idx → F .f32) (ix2 0 d) = (m ((c : Thread nD τ).loc main_arg4) : S128.Idx → F .f32) (ix1 d) := by
  unfold W1 W0
  after_reads_at

theorem W4_v10 (c : Dev nD) (n : Fin 10000) :
    (W4 m c main_v10 : S10000x1.Idx → F .f32) (ix2 n 0) = (W3 m c main_v9_2 : S10000x16.Idx → F .f32) (ix2 n 9) := by
  unfold W4
  after_reads_at

theorem W4_v11 (c : Dev nD) (d : Fin 128) :
    (W4 m c main_v11 : S1x128.Idx → F .f32) (ix2 0 d) = (W3 m c main_arg6 : S128.Idx → F .f32) (ix1 d) := by
  unfold W4
  after_reads_at

/-- The result: 256 columns from the second edge pass's rows, two a node, and 128 columns of zeros. -/
theorem W6_v15 (c : Dev nD) (n : Fin 10000) (j : Fin 384) :
    (W6 m c main_v15 : S10000x384.Idx → F .f32) (ix2 n j) = if h : j.val < 256 then (W5 m c main_v12 : S20000x128.Idx → F .f32) (ix2 ⟨n.val * 2 + j.val / 128, by omega⟩ ⟨j.val % 128, Nat.mod_lt _ (by omega)⟩)
      else FloatOps.ofBits .f32 0x00000000#32 := by
  unfold W6
  after_reads_at

theorem W1_of (c : Dev nD) (r : Ref sig .tc) (h : r ∉ hostOps0_W) : W1 m c r = W0 m c r :=
  StableHlo.after_of_writes_sub hostOps0 _ hostOps0_writes h
theorem W4_of (c : Dev nD) (r : Ref sig .tc) (h : r ∉ hostOps2_W) : W4 m c r = W3 m c r :=
  StableHlo.after_of_writes_sub hostOps2 _ hostOps2_writes h
theorem W6_of (c : Dev nD) (r : Ref sig .tc) (h : r ∉ hostOps3_W) : W6 m c r = W5 m c r :=
  StableHlo.after_of_writes_sub hostOps3 _ hostOps3_writes h

theorem W2_of (c : Dev nD) (r : Ref sig .tc) (h : ∀ w, arrRef spec0 w = r → (cfg0.win w).isOut = false) : W2 m c r = W1 m c r :=
  Pipeline.afterRegion_keeps (Dense.dat (W1 m) c) (W1 m c) launch0.win.arr_inj (fun _ => rfl) r h

theorem W3_of (c : Dev nD) (r : Ref sig .tc) (h : ∀ w, arrRef spec1 w = r → (cfg1.win w).isOut = false) : W3 m c r = W2 m c r :=
  Pipeline.afterRegion_keeps (Pass1.dat (W2 m) c) (W2 m c) launch1.win.arr_inj (fun _ => rfl) r h

theorem W5_of (c : Dev nD) (r : Ref sig .tc) (h : ∀ w, arrRef spec2 w = r → (cfg2.win w).isOut = false) : W5 m c r = W4 m c r :=
  Pipeline.afterRegion_keeps (Pass2.dat (W4 m) c) (W4 m c) launch2.win.arr_inj (fun _ => rfl) r h

/-- A buffer that nothing writes: no host operation and no region. -/
abbrev Kept (r : Ref sig .tc) : Prop :=
  r ∉ hostOps0_W ∧ (∀ w, arrRef spec0 w = r → (cfg0.win w).isOut = false) ∧ (∀ w, arrRef spec1 w = r → (cfg1.win w).isOut = false)
    ∧ r ∉ hostOps2_W ∧ (∀ w, arrRef spec2 w = r → (cfg2.win w).isOut = false) ∧ r ∉ hostOps3_W

theorem W2_kept (c : Dev nD) (r : Ref sig .tc) (h : Kept r) : W2 m c r = W0 m c r := (W2_of m c r h.2.1).trans (W1_of m c r h.1)
theorem W4_kept (c : Dev nD) (r : Ref sig .tc) (h : Kept r) : W4 m c r = W0 m c r :=
  (W4_of m c r h.2.2.2.1).trans ((W3_of m c r h.2.2.1).trans (W2_kept m c r h))
theorem W6_kept (c : Dev nD) (r : Ref sig .tc) (h : Kept r) : W6 m c r = W0 m c r :=
  (W6_of m c r h.2.2.2.2.2).trans ((W5_of m c r h.2.2.2.2.1).trans (W4_kept m c r h))

/-- What the first host operations wrote for the second edge pass is still there. -/
theorem W4_of_W1 (c : Dev nD) (r : Ref sig .tc) (h4 : r ∉ hostOps2_W) (h3 : ∀ w, arrRef spec1 w = r → (cfg1.win w).isOut = false)
    (h2 : ∀ w, arrRef spec0 w = r → (cfg0.win w).isOut = false) : W4 m c r = W1 m c r :=
  (W4_of m c r h4).trans ((W3_of m c r h3).trans (W2_of m c r h2))

theorem W2_v2 (c : Dev nD) : W2 m c main_v2 = W1 m c main_v2 := W2_of m c _ (by decide)
theorem W2_v5 (c : Dev nD) : W2 m c main_v5 = W1 m c main_v5 := W2_of m c _ (by decide)
theorem W4_v2 (c : Dev nD) : W4 m c main_v2 = W1 m c main_v2 := W4_of_W1 m c _ (by decide) (by decide) (by decide)
theorem W4_v5 (c : Dev nD) : W4 m c main_v5 = W1 m c main_v5 := W4_of_W1 m c _ (by decide) (by decide) (by decide)
theorem W4_v6 (c : Dev nD) : W4 m c main_v6 = W1 m c main_v6 := W4_of_W1 m c _ (by decide) (by decide) (by decide)

theorem kept0 : Kept main_arg0 := by decide
theorem kept1 : Kept main_arg1 := by decide
theorem kept2 : Kept main_arg2 := by decide
theorem kept3 : Kept main_arg3 := by decide
theorem kept4 : Kept main_arg4 := by decide
theorem kept5 : Kept main_arg5 := by decide
theorem kept6 : Kept main_arg6 := by decide
theorem kept7 : Kept main_arg7 := by decide
theorem kept8 : Kept main_arg8 := by decide

/-- Every word of an array satisfies what every word of the array it was cut from satisfies. -/
theorem words2 (h : InRange m) (c : Dev nD) (j : S320x1x1000.Idx) : ((W1 m c main_v2 : S320x1x1000.Idx → BitVec 32) j).toNat < 10000 := by
  have e : j = ix3 (j 0) 0 (j 2) := by
    funext a
    fin_cases a
    · rfl
    · exact Subsingleton.elim (α := Fin 1) _ _
    · rfl
  rw [e]
  exact lt_of_eq_of_lt (congrArg BitVec.toNat (W1_v2 m c (j 0) (j 2))) (h c _)

theorem words5 (h : InRange m) (c : Dev nD) (j : S320x1x1000.Idx) : ((W1 m c main_v5 : S320x1x1000.Idx → BitVec 32) j).toNat < 10000 := by
  have e : j = ix3 (j 0) 0 (j 2) := by
    funext a
    fin_cases a
    · rfl
    · exact Subsingleton.elim (α := Fin 1) _ _
    · rfl
  rw [e]
  exact lt_of_eq_of_lt (congrArg BitVec.toNat (W1_v5 m c (j 0) (j 2))) (h c _)

/-- The first edge pass reads and writes rows that exist. -/
theorem ok1 (h : InRange m) (c : Dev nD) (t : Fin cfg1.N) : (Pass1.inp (W2 m) c t).Ok := fun k => by
  constructor
  · show ((W2 m c main_v2 : S320x1x1000.Idx → BitVec 32) _).toNat < 10000
    rw [W2_v2]; exact words2 m h c _
  · show ((W2 m c main_v5 : S320x1x1000.Idx → BitVec 32) _).toNat < 10000
    rw [W2_v5]; exact words5 m h c _

/-- The second edge pass reads and writes rows that exist. -/
theorem ok2 (h : InRange m) (c : Dev nD) (t : Fin cfg2.N) : (Pass2.inp (W4 m) c t).Ok := fun k => by
  constructor
  · show ((W4 m c main_v2 : S320x1x1000.Idx → BitVec 32) _).toNat < 10000
    rw [W4_v2]; exact words2 m h c _
  · show ((W4 m c main_v5 : S320x1x1000.Idx → BitVec 32) _).toNat < 10000
    rw [W4_v5]; exact words5 m h c _

/-- The run with its result: the arguments as they were, the result as `W6` has it, every counter at zero. -/
theorem run_value (g : Dev nD → PrngReg) (h : InRange m) :
    θ_run defs (onTc (τ := τ) (main (F := F))) ⟨m, fun _ => 0, g⟩ (fun r =>
      ((∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8))
        ∧ r.2.sem = fun _ => 0)
      ∧ ∀ c : Dev nD, r.2.mem ((c.tc : Thread nD τ).loc main_v15) = W6 m c main_v15) := by
  refine (θ_run defs _ _).mono (fun r hr => ?_) (run m g (ok1 m h) (ok2 m h))
  have at' : ∀ (c : Dev nD) (b : Ref sig .tc), Proc.devRef (τ := τ) .tc b ∈ Pipeline.ucRefs τ sig → r.2.mem ((c.tc : Thread nD τ).loc b) = W6 m c b := fun c b hb => hr.1 c _ hb
  have keep : ∀ (c : Dev nD) (b : Ref sig .tc), Proc.devRef (τ := τ) .tc b ∈ Pipeline.ucRefs τ sig → Kept b → r.2.mem ((c.tc : Thread nD τ).loc b) = m ((c.tc : Thread nD τ).loc b) :=
    fun c b hb hk => (at' c b hb).trans (W6_kept m c b hk)
  exact ⟨⟨fun c => ⟨keep c _ (by decide) kept0, keep c _ (by decide) kept1, keep c _ (by decide) kept2, keep c _ (by decide) kept3, keep c _ (by decide) kept4,
    keep c _ (by decide) kept5, keep c _ (by decide) kept6, keep c _ (by decide) kept7, keep c _ (by decide) kept8⟩, hr.2⟩, fun c => at' c main_v15 (by decide)⟩

end Cert.KernelIdeal.Run

end
-- ==== Proof.RefRun.lean ====
/- The reference's run: a straight line of host operations. -/
module

public import proofs.«01_k».proof.Proof.Gen.ReferenceIdeal
public import Idealize.ShloMosaic.Lib.Claim
public import Idealize.ShloMosaic.Lib.Tactic
public import Idealize.ShloMosaic.Lib.Quiescent
public import Idealize.ShloMosaic.Lib.StableHlo.RunRead

@[expose] public section

set_option maxRecDepth 65536

noncomputable section

namespace Cert.ReferenceIdeal.Run

open Cert.ReferenceIdeal Cert.ReferenceIdeal.Gen
open Idealize.ShloMosaic Idealize.ShloMosaic.TcCoe Idealize.ShloMosaic.Tactic Idealize.SL.Sem

variable {F : FTy → Type} [FloatOps F]

section Seq

variable {nD : Nat} {τ : Topo} {sig : RefSig} {Val : EltTy → Type} {Λ : Labels}

/-- A single operation is the line of that operation. -/
theorem seq_one {op : HloOp τ sig Val} :
    StableHlo.IsSeq (nD := nD) (Λ := Λ) (hlo rfl op fun _ => .ret (⟨⟩ : PUnit)) [op] := rfl

/-- Two lines after one another are the line of both. -/
theorem seq_both {p q : Prog (TpuEff nD τ sig Val Λ .tc) PUnit} {os os' : List (HloOp τ sig Val)}
    (hp : StableHlo.IsSeq p os) (hq : StableHlo.IsSeq q os') : StableHlo.IsSeq (p >>= fun _ => q) (os ++ os') := by
  unfold StableHlo.IsSeq at *
  rw [hp, hq, StableHlo.seq_append]

end Seq

/-- The operations of the reference's part 0. -/
def part0 : {ops : List (HloOp τ sig (Elt F)) // ∀ d, StableHlo.IsSeq (main_part0 (F := F) d) ops} := by
  apply Subtype.mk
  intro d
  unfold main_part0
  repeat (first | exact StableHlo.IsSeq.nil | exact seq_one | apply StableHlo.IsSeq.cons | apply seq_both | unfold fn_relu.body | unfold fn_leaky_relu.body | unfold fn_where.body | unfold fn_where_0.body | unfold fn_lexsort.body | unfold fn_clip.body | unfold fn_cumsum.body | unfold fn_cumsum_1.body)

/-- The operations of the reference's part 1. -/
def part1 : {ops : List (HloOp τ sig (Elt F)) // ∀ d, StableHlo.IsSeq (main_part1 (F := F) d) ops} := by
  apply Subtype.mk
  intro d
  unfold main_part1
  repeat (first | exact StableHlo.IsSeq.nil | exact seq_one | apply StableHlo.IsSeq.cons | apply seq_both | unfold fn_relu.body | unfold fn_leaky_relu.body | unfold fn_where.body | unfold fn_where_0.body | unfold fn_lexsort.body | unfold fn_clip.body | unfold fn_cumsum.body | unfold fn_cumsum_1.body)

/-- The operations of the reference's part 2. -/
def part2 : {ops : List (HloOp τ sig (Elt F)) // ∀ d, StableHlo.IsSeq (main_part2 (F := F) d) ops} := by
  apply Subtype.mk
  intro d
  unfold main_part2
  repeat (first | exact StableHlo.IsSeq.nil | exact seq_one | apply StableHlo.IsSeq.cons | apply seq_both | unfold fn_relu.body | unfold fn_leaky_relu.body | unfold fn_where.body | unfold fn_where_0.body | unfold fn_lexsort.body | unfold fn_clip.body | unfold fn_cumsum.body | unfold fn_cumsum_1.body)

/-- The operations of the reference's part 3. -/
def part3 : {ops : List (HloOp τ sig (Elt F)) // ∀ d, StableHlo.IsSeq (main_part3 (F := F) d) ops} := by
  apply Subtype.mk
  intro d
  unfold main_part3
  repeat (first | exact StableHlo.IsSeq.nil | exact seq_one | apply StableHlo.IsSeq.cons | apply seq_both | unfold fn_relu.body | unfold fn_leaky_relu.body | unfold fn_where.body | unfold fn_where_0.body | unfold fn_lexsort.body | unfold fn_clip.body | unfold fn_cumsum.body | unfold fn_cumsum_1.body)

theorem part0_sub : (part0 (F := F)).1.Forall fun op => op.bufs ⊆ StableHlo.tcRefs τ sig := by
  unfold part0; simp

theorem part0_fresh : ∀ op ∈ (part0 (F := F)).1, op.fresh = ∅ := by
  intro _ h
  unfold part0 at h
  (repeat (cases h with | head => rfl | tail _ h => ?_)); exact nomatch h

theorem part1_sub : (part1 (F := F)).1.Forall fun op => op.bufs ⊆ StableHlo.tcRefs τ sig := by
  unfold part1; simp

theorem part1_fresh : ∀ op ∈ (part1 (F := F)).1, op.fresh = ∅ := by
  intro _ h
  unfold part1 at h
  (repeat (cases h with | head => rfl | tail _ h => ?_)); exact nomatch h

theorem part2_sub : (part2 (F := F)).1.Forall fun op => op.bufs ⊆ StableHlo.tcRefs τ sig := by
  unfold part2; simp

theorem part2_fresh : ∀ op ∈ (part2 (F := F)).1, op.fresh = ∅ := by
  intro _ h
  unfold part2 at h
  (repeat (cases h with | head => rfl | tail _ h => ?_)); exact nomatch h

theorem part3_sub : (part3 (F := F)).1.Forall fun op => op.bufs ⊆ StableHlo.tcRefs τ sig := by
  unfold part3; simp

theorem part3_fresh : ∀ op ∈ (part3 (F := F)).1, op.fresh = ∅ := by
  intro _ h
  unfold part3 at h
  (repeat (cases h with | head => rfl | tail _ h => ?_)); exact nomatch h

section Stages

variable (m : (ℓ : Loc nD τ sig) → Buf (Elt F) ℓ) (d : Dev nD)

/-- The launch's contents. -/
def U0 : Valuation τ sig (Elt F) := StableHlo.launchContents m d
/-- The contents after the first part. -/
def U1 : Valuation τ sig (Elt F) := StableHlo.after part0.1 (U0 m d)
/-- The contents after the second part. -/
def U2 : Valuation τ sig (Elt F) := StableHlo.after part1.1 (U1 m d)
/-- The contents after the third part. -/
def U3 : Valuation τ sig (Elt F) := StableHlo.after part2.1 (U2 m d)
/-- The contents at the end. -/
def U4 : Valuation τ sig (Elt F) := StableHlo.after part3.1 (U3 m d)

end Stages

/-- Running two lines one after the other folds the second over what the first leaves. -/
theorem after_both {τ : Topo} {sig : RefSig} {Val : EltTy → Type} (a b : List (HloOp τ sig Val)) (V : Valuation τ sig Val) :
    StableHlo.after (a ++ b) V = StableHlo.after b (StableHlo.after a V) := by
  induction a generalizing V with
  | nil => rfl
  | cons op a ih => exact ih _

theorem forall_both {α : Type} {p : α → Prop} {a b : List α} (ha : a.Forall p) (hb : b.Forall p) : (a ++ b).Forall p := by
  rw [List.forall_iff_forall_mem] at *
  intro x hx
  rcases List.mem_append.1 hx with h | h
  · exact ha x h
  · exact hb x h

/-- The reference ends with every buffer holding what its operations, folded over the launch's contents, leave there. -/
theorem run (m : (ℓ : Loc nD τ sig) → Buf (Elt F) ℓ) (g : Dev nD → PrngReg) :
    θ_run defs (onTc (τ := τ) main) ⟨m, fun _ => 0, g⟩ (fun r =>
      (∀ (d : Dev nD) (b : Ref sig .tc), r.2.mem ((d.tc : Thread nD τ).loc b) = U4 m d (Proc.devRef .tc b)) ∧ r.2.sem = fun _ => 0) := by
  have h := StableHlo.run_hlo defs (main (F := F)) (ops := part0.1 ++ (part1.1 ++ (part2.1 ++ part3.1)))
    (fun d => seq_both (part0.2 d) (seq_both (part1.2 d) (seq_both (part2.2 d) (part3.2 d)))) (by decide) (by decide)
    (forall_both part0_sub (forall_both part1_sub (forall_both part2_sub part3_sub)))
    (by
      intro op h
      simp only [List.mem_append] at h
      rcases h with h | h | h | h
      · exact part0_fresh op h
      · exact part1_fresh op h
      · exact part2_fresh op h
      · exact part3_fresh op h) m g
  refine θ_run_mono h fun r hr => ⟨fun d b => ?_, ?_⟩
  · rw [hr d b, after_both, after_both, after_both]; rfl
  · exact sem_eq_zero_of_no_sems rfl r.2

section Kept

variable (m : (ℓ : Loc nD τ sig) → Buf (Elt F) ℓ) (d : Dev nD)

/-- The operations leave the arguments as launched. -/
theorem kept :
    U4 m d main_arg0 = m ((d.tc : Thread nD τ).loc main_arg0) ∧ U4 m d main_arg1 = m ((d.tc : Thread nD τ).loc main_arg1)
    ∧ U4 m d main_arg2 = m ((d.tc : Thread nD τ).loc main_arg2) ∧ U4 m d main_arg3 = m ((d.tc : Thread nD τ).loc main_arg3)
    ∧ U4 m d main_arg4 = m ((d.tc : Thread nD τ).loc main_arg4) ∧ U4 m d main_arg5 = m ((d.tc : Thread nD τ).loc main_arg5)
    ∧ U4 m d main_arg6 = m ((d.tc : Thread nD τ).loc main_arg6) ∧ U4 m d main_arg7 = m ((d.tc : Thread nD τ).loc main_arg7)
    ∧ U4 m d main_arg8 = m ((d.tc : Thread nD τ).loc main_arg8) := by
  unfold U4 U3 U2 U1 U0 part0 part1 part2 part3
  and_intros
  all_goals after_reads_simp

end Kept

/-- The reference runs, leaves its arguments as launched and every counter at zero, and ends with its result the fold's. -/
theorem run_value (m : (ℓ : Loc nD τ sig) → Buf (Elt F) ℓ) (g : Dev nD → PrngReg) :
    θ_run defs (onTc (τ := τ) main) ⟨m, fun _ => 0, g⟩ (fun r => ((∀ d : Dev nD,
      r.2.mem ((d.tc : Thread nD τ).loc main_arg0) = m ((d.tc : Thread nD τ).loc main_arg0)
      ∧ r.2.mem ((d.tc : Thread nD τ).loc main_arg1) = m ((d.tc : Thread nD τ).loc main_arg1)
      ∧ r.2.mem ((d.tc : Thread nD τ).loc main_arg2) = m ((d.tc : Thread nD τ).loc main_arg2)
      ∧ r.2.mem ((d.tc : Thread nD τ).loc main_arg3) = m ((d.tc : Thread nD τ).loc main_arg3)
      ∧ r.2.mem ((d.tc : Thread nD τ).loc main_arg4) = m ((d.tc : Thread nD τ).loc main_arg4)
      ∧ r.2.mem ((d.tc : Thread nD τ).loc main_arg5) = m ((d.tc : Thread nD τ).loc main_arg5)
      ∧ r.2.mem ((d.tc : Thread nD τ).loc main_arg6) = m ((d.tc : Thread nD τ).loc main_arg6)
      ∧ r.2.mem ((d.tc : Thread nD τ).loc main_arg7) = m ((d.tc : Thread nD τ).loc main_arg7)
      ∧ r.2.mem ((d.tc : Thread nD τ).loc main_arg8) = m ((d.tc : Thread nD τ).loc main_arg8))
      ∧ r.2.sem = fun _ => 0) ∧ ∀ d : Dev nD, r.2.mem ((d.tc : Thread nD τ).loc main_v168) = U4 m d main_v168) := by
  refine θ_run_mono (run m g) fun r hr => ⟨⟨fun d => ?_, hr.2⟩, fun d => hr.1 d _⟩
  obtain ⟨h0, h1, h2, h3, h4, h5, h6, h7, h8⟩ := kept m d
  exact ⟨(hr.1 d _).trans h0, (hr.1 d _).trans h1, (hr.1 d _).trans h2, (hr.1 d _).trans h3, (hr.1 d _).trans h4,
    (hr.1 d _).trans h5, (hr.1 d _).trans h6, (hr.1 d _).trans h7, (hr.1 d _).trans h8⟩

end Cert.ReferenceIdeal.Run
-- ==== Proof.Frames.lean ====
/- The preconditions give indices in range; the runs the claim asks for. -/
module

public import proofs.«01_k».proof.Defs
public import proofs.«01_k».proof.Proof.Host
public import proofs.«01_k».proof.Proof.RefRun
public import proofs.«01_k».proof.Proof.Gen.Kernel
public import proofs.«01_k».proof.Proof.Gen.Pre_indices_in_range
public import Idealize.ShloMosaic.Lib.Tactic

@[expose] public section

set_option maxRecDepth 65536
set_option maxHeartbeats 40000000

noncomputable section

namespace Cert.Frames

open Idealize.ShloMosaic Idealize.ShloMosaic.Tactic Idealize.SL.Sem

/-- Two single bits whose conjunction is one are both one. -/
theorem and_one {x y : BitVec 1} (h : x &&& y = 1#1) : x = 1#1 ∧ y = 1#1 := by
  revert x y; decide

/-- A truth value whose bit is one is true. -/
theorem of_bool {b : Bool} (h : BitVec.ofBool b = 1#1) : b = true := by
  revert b; decide

/-- A word that is at least 0 and less than 10000 as a signed number is less than 10000 as an unsigned one. -/
theorem range_of {x : BitVec 32} (h0 : IntOp.cmpi .sge x 0#32 = 1#1) (h1 : IntOp.cmpi .slt x 10000#32 = 1#1) :
    x.toNat < 10000 := by
  have h0' : (0#32).sle x = true := of_bool h0
  have h1' : x.slt 10000#32 = true := of_bool h1
  simp only [BitVec.sle, BitVec.slt, decide_eq_true_eq, BitVec.toInt_eq_toNat_cond] at h0' h1'
  simp at h0' h1'
  have := x.isLt
  split at h0' <;> split at h1' <;> omega

section Range

variable {F : FTy → Type} [FloatOps F]

/-- The first precondition bounds the indices. -/
theorem range_fst (x0 : FVec F KernelIdeal.S10000x128 .f32) (x1 : FVec F KernelIdeal.S320000x16 .f32) (x2 : FVec F KernelIdeal.S272x4 .f32)
    (x3 : FVec F KernelIdeal.S128x128 .f32) (x4 : FVec F KernelIdeal.S128 .f32) (x5 : FVec F KernelIdeal.S16x128 .f32)
    (x6 : FVec F KernelIdeal.S128 .f32) (x7 : IVec KernelIdeal.S2x320000 32) (x8 : IVec KernelIdeal.S10000 32)
    (h : Pre_indices_in_range.fn (F := F) x0 x1 x2 x3 x4 x5 x6 x7 x8 = fun _ => 1#1) (j : KernelIdeal.S2x320000.Idx) :
    (x7 j).toNat < 10000 := by
  have hj := and_one (congrFun h j)
  exact range_of hj.1 hj.2

/-- The kernel read at the idealization's names: it runs, the arguments unchanged, every counter zero. -/
def QI (m : (ℓ : Loc Kernel.nD Kernel.τ Kernel.sig) → Buf (Elt F) ℓ) (g : Dev Kernel.nD → PrngReg) : Prop :=
  θ_run (KernelIdeal.defs (F := F)) (onTc (τ := KernelIdeal.τ) (KernelIdeal.main (F := F))) ⟨m, fun _ => 0, g⟩ (fun r =>
    (∀ c : Dev KernelIdeal.nD,
      r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)
      ∧ r.2.mem ((c.tc : Thread KernelIdeal.nD KernelIdeal.τ).loc KernelIdeal.main_arg7) = m ((c.tc : Thread KernelIdeal.nD KernelIdeal.τ).loc KernelIdeal.main_arg7)
      ∧ r.2.mem ((c.tc : Thread KernelIdeal.nD KernelIdeal.τ).loc KernelIdeal.main_arg8) = m ((c.tc : Thread KernelIdeal.nD KernelIdeal.τ).loc KernelIdeal.main_arg8))
      ∧ r.2.sem = fun _ => 0)

/-- The kernel itself: it runs, the arguments unchanged, every counter zero. -/
def QK (m : (ℓ : Loc Kernel.nD Kernel.τ Kernel.sig) → Buf (Elt F) ℓ) (g : Dev Kernel.nD → PrngReg) : Prop :=
  θ_run (Kernel.defs (F := F)) (onTc (τ := Kernel.τ) (Kernel.main (F := F))) ⟨m, fun _ => 0, g⟩ (fun r =>
    (∀ c : Dev Kernel.nD,
      r.2.mem ((c.tc : Thread Kernel.nD Kernel.τ).loc Kernel.main_arg0) = m ((c.tc : Thread Kernel.nD Kernel.τ).loc Kernel.main_arg0)
      ∧ r.2.mem ((c.tc : Thread Kernel.nD Kernel.τ).loc Kernel.main_arg1) = m ((c.tc : Thread Kernel.nD Kernel.τ).loc Kernel.main_arg1)
      ∧ r.2.mem ((c.tc : Thread Kernel.nD Kernel.τ).loc Kernel.main_arg2) = m ((c.tc : Thread Kernel.nD Kernel.τ).loc Kernel.main_arg2)
      ∧ r.2.mem ((c.tc : Thread Kernel.nD Kernel.τ).loc Kernel.main_arg3) = m ((c.tc : Thread Kernel.nD Kernel.τ).loc Kernel.main_arg3)
      ∧ r.2.mem ((c.tc : Thread Kernel.nD Kernel.τ).loc Kernel.main_arg4) = m ((c.tc : Thread Kernel.nD Kernel.τ).loc Kernel.main_arg4)
      ∧ r.2.mem ((c.tc : Thread Kernel.nD Kernel.τ).loc Kernel.main_arg5) = m ((c.tc : Thread Kernel.nD Kernel.τ).loc Kernel.main_arg5)
      ∧ r.2.mem ((c.tc : Thread Kernel.nD Kernel.τ).loc Kernel.main_arg6) = m ((c.tc : Thread Kernel.nD Kernel.τ).loc Kernel.main_arg6)
      ∧ r.2.mem ((c.tc : Thread Kernel.nD Kernel.τ).loc Kernel.main_arg7) = m ((c.tc : Thread Kernel.nD Kernel.τ).loc Kernel.main_arg7)
      ∧ r.2.mem ((c.tc : Thread Kernel.nD Kernel.τ).loc Kernel.main_arg8) = m ((c.tc : Thread Kernel.nD Kernel.τ).loc Kernel.main_arg8))
      ∧ r.2.sem = fun _ => 0)

/-- The two programs are one text, so the two statements are one. -/
theorem QI_eq_QK (m : (ℓ : Loc Kernel.nD Kernel.τ Kernel.sig) → Buf (Elt F) ℓ) (g : Dev Kernel.nD → PrngReg) :
    QI (F := F) m g = QK (F := F) m g := by
  sl_kernel_rfl

end Range

/-- The kernel's frame. -/
theorem kernel : Cert.quiescent_Kernel := by
  intro m g hpre
  have h : QI (F := Bits) m g :=
    θ_run_mono (KernelIdeal.Run.run_value (F := Bits) m g fun c => range_fst _ _ _ _ _ _ _ _ _ (hpre c)) fun r hr => hr.1
  rw [QI_eq_QK] at h
  exact h

/-- The idealized kernel's frame. -/
theorem kernelIdeal : Cert.quiescent_KernelIdeal := fun m g hpre =>
  θ_run_mono (KernelIdeal.Run.run_value (F := Ideal) m g fun c => range_fst _ _ _ _ _ _ _ _ _ (hpre c)) fun r hr => hr.1

/-- The reference's frame. -/
theorem reference : Cert.quiescent_ReferenceIdeal := fun m g _ =>
  θ_run_mono (ReferenceIdeal.Run.run_value (F := Ideal) m g) fun r hr => hr.1

end Cert.Frames
-- ==== Proof.Scores.lean ====
/- The frames under the value claim's precondition. -/
module

public import proofs.«01_k».proof.Proof.Frames
public import proofs.«01_k».proof.Proof.Gen.Pre_distinct_scores

@[expose] public section

set_option maxRecDepth 65536
set_option maxHeartbeats 40000000

noncomputable section

namespace Cert.Frames

open Idealize.ShloMosaic Idealize.ShloMosaic.Tactic Idealize.SL.Sem

variable {F : FTy → Type} [FloatOps F]

/-- The second precondition bounds the indices. -/
theorem range_snd (x0 : FVec F KernelIdeal.S10000x128 .f32) (x1 : FVec F KernelIdeal.S320000x16 .f32) (x2 : FVec F KernelIdeal.S272x4 .f32)
    (x3 : FVec F KernelIdeal.S128x128 .f32) (x4 : FVec F KernelIdeal.S128 .f32) (x5 : FVec F KernelIdeal.S16x128 .f32)
    (x6 : FVec F KernelIdeal.S128 .f32) (x7 : IVec KernelIdeal.S2x320000 32) (x8 : IVec KernelIdeal.S10000 32)
    (h : (Pre_distinct_scores.fn (F := F) x0 x1 x2 x3 x4 x5 x6 x7 x8).1 = fun _ => 1#1) (j : KernelIdeal.S2x320000.Idx) :
    (x7 j).toNat < 10000 := by
  have hj := and_one (congrFun h j)
  exact range_of hj.1 hj.2

/-- The indices are in range under the value claim's precondition. -/
theorem inRange {m : (ℓ : Loc KernelIdeal.nD KernelIdeal.τ KernelIdeal.sig) → Buf (Elt Ideal) ℓ}
    (hpre : Cert.Pre_KernelIdeal_distinct_scores m) : KernelIdeal.Run.InRange m :=
  fun c => range_snd _ _ _ _ _ _ _ _ _ (hpre c).1

/-- The idealized kernel's frame under the value claim's precondition. -/
theorem kernelIdeal_scores : Cert.quiescent_KernelIdeal_pre_distinct_scores := fun m g hpre =>
  θ_run_mono (KernelIdeal.Run.run_value (F := Ideal) m g (inRange hpre)) fun r hr => hr.1

/-- The reference's frame under the value claim's precondition. -/
theorem reference_scores : Cert.quiescent_ReferenceIdeal_pre_distinct_scores := fun m g _ =>
  θ_run_mono (ReferenceIdeal.Run.run_value (F := Ideal) m g) fun r hr => hr.1

end Cert.Frames
-- ==== Proof.KReg.lean ====
/- What the regions leave in their arrays, and what their blocks read. -/
module

public import proofs.«01_k».proof.Proof.Host
public import Idealize.ShloMosaic.Lib.Pipeline.ValueKit

@[expose] public section

set_option maxRecDepth 16384

noncomputable section

namespace Cert.KernelIdeal.Run

open Cert.KernelIdeal Cert.KernelIdeal.Gen Cert.Held
open Idealize.ShloMosaic Idealize.ShloMosaic.TcCoe Idealize.ShloMosaic.Tactic
open Idealize.ShloMosaic.Pipeline (Dat Cfg Window arrRef)

variable {F : FTy → Type} [FloatOps F]
variable (m : (ℓ : Loc nD τ sig) → Buf (Elt F) ℓ)

/-- The dense pass's one point. -/
abbrev t0 : Fin cfg0.N := ⟨0, by decide +kernel⟩
/-- The edge passes' last points. -/
abbrev last1 : Fin cfg1.N := ⟨319, by decide +kernel⟩
/-- The second pass's last point. -/
abbrev last2 : Fin cfg2.N := ⟨319, by decide +kernel⟩

theorem W2_hw (c : Dev nD) : (W2 m c main_v8_0 : S10000x128.Idx → F .f32) = Dense.hwOf (W1 m) c t0 := by
  refine (Pipeline.afterRegion_arr (Dense.dat (W1 m) c) (W1 m c) launch0.win.arr_inj 4).trans ?_
  exact Dat.arrAt_eq_of_after_last (Dense.dat (W1 m) c) 4 t0 (by decide +kernel) _ fun j => rfl

theorem W2_sr (c : Dev nD) : (W2 m c main_v8_1 : S10000x4.Idx → F .f32) = Dense.srOf (W1 m) c t0 := by
  refine (Pipeline.afterRegion_arr (Dense.dat (W1 m) c) (W1 m c) launch0.win.arr_inj 5).trans ?_
  exact Dat.arrAt_eq_of_after_last (Dense.dat (W1 m) c) 5 t0 (by decide +kernel) _ fun j => rfl

theorem W2_sc (c : Dev nD) : (W2 m c main_v8_2 : S10000x4.Idx → F .f32) = Dense.scOf (W1 m) c t0 := by
  refine (Pipeline.afterRegion_arr (Dense.dat (W1 m) c) (W1 m c) launch0.win.arr_inj 6).trans ?_
  exact Dat.arrAt_eq_of_after_last (Dense.dat (W1 m) c) 6 t0 (by decide +kernel) _ fun j => rfl

theorem W3_dn (c : Dev nD) : (W3 m c main_v9_1 : S10000x1.Idx → F .f32) = Pass1.dnAt (W2 m) c 320 := by
  refine (Pipeline.afterRegion_arr (Pass1.dat (W2 m) c) (W2 m c) launch1.win.arr_inj 7).trans ?_
  exact Dat.arrAt_eq_of_after_last (Pass1.dat (W2 m) c) 7 last1 (by decide +kernel) _ fun j => rfl

theorem W3_tb (c : Dev nD) : (W3 m c main_v9_2 : S10000x16.Idx → F .f32) = Pass1.tbAt (W2 m) c 320 := by
  refine (Pipeline.afterRegion_arr (Pass1.dat (W2 m) c) (W2 m c) launch1.win.arr_inj 8).trans ?_
  exact Dat.arrAt_eq_of_after_last (Pass1.dat (W2 m) c) 8 last1 (by decide +kernel) _ fun j => rfl

theorem W5_out (c : Dev nD) : (W5 m c main_v12 : S20000x128.Idx → F .f32) = Pass2.outAt (W4 m) c 320 := by
  refine (Pipeline.afterRegion_arr (Pass2.dat (W4 m) c) (W4 m c) launch2.win.arr_inj 10).trans ?_
  exact Dat.arrAt_eq_of_after_last (Pass2.dat (W4 m) c) 10 last2 (by decide +kernel) _ fun j => rfl

/-! ### The blocks of the points -/

variable (V : (c : Dev nD) → Valuation τ sig (Elt F))

theorem ix1_0 : ∀ t : Fin cfg1.N, win1_0.index t = ![t.val, 0, 0] := (by decide +kernel : ∀ t : Fin grid1.N, win1_0.index t = ![t.val, 0, 0])
theorem ix1_1 : ∀ t : Fin cfg1.N, win1_1.index t = ![t.val, 0, 0] := (by decide +kernel : ∀ t : Fin grid1.N, win1_1.index t = ![t.val, 0, 0])
theorem ix1_2 : ∀ t : Fin cfg1.N, win1_2.index t = ![t.val, 0] := (by decide +kernel : ∀ t : Fin grid1.N, win1_2.index t = ![t.val, 0])
theorem ix1_6 : ∀ t : Fin cfg1.N, win1_6.index t = ![t.val, 0] := (by decide +kernel : ∀ t : Fin grid1.N, win1_6.index t = ![t.val, 0])
theorem ix2_0 : ∀ t : Fin cfg2.N, win2_0.index t = ![t.val, 0, 0] := (by decide +kernel : ∀ t : Fin grid2.N, win2_0.index t = ![t.val, 0, 0])
theorem ix2_1 : ∀ t : Fin cfg2.N, win2_1.index t = ![t.val, 0, 0] := (by decide +kernel : ∀ t : Fin grid2.N, win2_1.index t = ![t.val, 0, 0])
theorem ix2_3 : ∀ t : Fin cfg2.N, win2_3.index t = ![t.val, 0] := (by decide +kernel : ∀ t : Fin grid2.N, win2_3.index t = ![t.val, 0])
theorem ix2_7 : ∀ t : Fin cfg2.N, win2_7.index t = ![t.val, 0] := (by decide +kernel : ∀ t : Fin grid2.N, win2_7.index t = ![t.val, 0])

/-- Point `t` of the first pass as a number below 320. -/
abbrev p1 (t : Fin cfg1.N) : Fin 320 := ⟨t.val, Pass1.lt320 t⟩
/-- Point `t` of the second pass as a number below 320. -/
abbrev p2 (t : Fin cfg2.N) : Fin 320 := ⟨t.val, Pass2.lt320 t⟩

theorem bR1 (c : Dev nD) (t : Fin cfg1.N) (k : Fin 1000) : Pass1.bR V c t (ix3 0 0 k) = (V c main_v2 : S320x1x1000.Idx → BitVec 32) (ix3 (p1 t) 0 k) := by
  blk_simp [Pass1.bR]
  refine congrArg _ ?_
  blk_ext [ix1_0]

theorem bC1 (c : Dev nD) (t : Fin cfg1.N) (k : Fin 1000) : Pass1.bC V c t (ix3 0 0 k) = (V c main_v5 : S320x1x1000.Idx → BitVec 32) (ix3 (p1 t) 0 k) := by
  blk_simp [Pass1.bC]
  refine congrArg _ ?_
  blk_ext [ix1_1]

theorem bEA1 (c : Dev nD) (t : Fin cfg1.N) (k : Fin 1000) (i : Fin 16) :
    Pass1.bEA V c t (ix2 k i) = (V c main_arg1 : S320000x16.Idx → F .f32) (ix2 (edge (p1 t) k) i) := by
  blk_simp [Pass1.bEA]
  refine congrArg _ ?_
  blk_ext [ix1_2, edge]

theorem ix1_3 : ∀ t : Fin cfg1.N, win1_3.index t = ![0, 0] := (by decide +kernel : ∀ t : Fin grid1.N, win1_3.index t = ![0, 0])
theorem ix1_4 : ∀ t : Fin cfg1.N, win1_4.index t = ![0, 0] := (by decide +kernel : ∀ t : Fin grid1.N, win1_4.index t = ![0, 0])
theorem ix1_5 : ∀ t : Fin cfg1.N, win1_5.index t = ![0, 0] := (by decide +kernel : ∀ t : Fin grid1.N, win1_5.index t = ![0, 0])
theorem ix2_2 : ∀ t : Fin cfg2.N, win2_2.index t = ![0, 0] := (by decide +kernel : ∀ t : Fin grid2.N, win2_2.index t = ![0, 0])
theorem ix2_4 : ∀ t : Fin cfg2.N, win2_4.index t = ![0, 0] := (by decide +kernel : ∀ t : Fin grid2.N, win2_4.index t = ![0, 0])
theorem ix2_5 : ∀ t : Fin cfg2.N, win2_5.index t = ![0, 0] := (by decide +kernel : ∀ t : Fin grid2.N, win2_5.index t = ![0, 0])
theorem ix2_6 : ∀ t : Fin cfg2.N, win2_6.index t = ![0, 0] := (by decide +kernel : ∀ t : Fin grid2.N, win2_6.index t = ![0, 0])
theorem ix2_8 : ∀ t : Fin cfg2.N, win2_8.index t = ![0, 0] := (by decide +kernel : ∀ t : Fin grid2.N, win2_8.index t = ![0, 0])
theorem ix2_9 : ∀ t : Fin cfg2.N, win2_9.index t = ![0, 0] := (by decide +kernel : ∀ t : Fin grid2.N, win2_9.index t = ![0, 0])

theorem bW1 (c : Dev nD) (t : Fin cfg1.N) (j : S272x4.Idx) : Pass1.bW V c t j = (V c main_arg2 : S272x4.Idx → F .f32) j := by
  blk_simp [Pass1.bW]
  refine congrArg _ ?_
  blk_ext [ix1_3]

theorem bSr1 (c : Dev nD) (t : Fin cfg1.N) (j : S10000x4.Idx) : Pass1.bSr V c t j = (V c main_v8_1 : S10000x4.Idx → F .f32) j := by
  blk_simp [Pass1.bSr]
  refine congrArg _ ?_
  blk_ext [ix1_4]

theorem bSc1 (c : Dev nD) (t : Fin cfg1.N) (j : S10000x4.Idx) : Pass1.bSc V c t j = (V c main_v8_2 : S10000x4.Idx → F .f32) j := by
  blk_simp [Pass1.bSc]
  refine congrArg _ ?_
  blk_ext [ix1_5]

theorem bR2 (c : Dev nD) (t : Fin cfg2.N) (k : Fin 1000) : Pass2.bR V c t (ix3 0 0 k) = (V c main_v2 : S320x1x1000.Idx → BitVec 32) (ix3 (p2 t) 0 k) := by
  blk_simp [Pass2.bR]
  refine congrArg _ ?_
  blk_ext [ix2_0]

theorem bC2 (c : Dev nD) (t : Fin cfg2.N) (k : Fin 1000) : Pass2.bC V c t (ix3 0 0 k) = (V c main_v5 : S320x1x1000.Idx → BitVec 32) (ix3 (p2 t) 0 k) := by
  blk_simp [Pass2.bC]
  refine congrArg _ ?_
  blk_ext [ix2_1]

theorem bLb2 (c : Dev nD) (t : Fin cfg2.N) (j : S1x10000.Idx) : Pass2.bLb V c t j = (V c main_v6 : S1x10000.Idx → BitVec 32) j := by
  blk_simp [Pass2.bLb]
  refine congrArg _ ?_
  blk_ext [ix2_2]

theorem bEA2 (c : Dev nD) (t : Fin cfg2.N) (k : Fin 1000) (i : Fin 16) :
    Pass2.bEA V c t (ix2 k i) = (V c main_arg1 : S320000x16.Idx → F .f32) (ix2 (edge (p2 t) k) i) := by
  blk_simp [Pass2.bEA]
  refine congrArg _ ?_
  blk_ext [ix2_3, edge]

theorem bWe2 (c : Dev nD) (t : Fin cfg2.N) (j : S16x128.Idx) : Pass2.bWe V c t j = (V c main_arg5 : S16x128.Idx → F .f32) j := by
  blk_simp [Pass2.bWe]
  refine congrArg _ ?_
  blk_ext [ix2_4]

theorem bBe2 (c : Dev nD) (t : Fin cfg2.N) (j : S1x128.Idx) : Pass2.bBe V c t j = (V c main_v11 : S1x128.Idx → F .f32) j := by
  blk_simp [Pass2.bBe]
  refine congrArg _ ?_
  blk_ext [ix2_5]

theorem bHw2 (c : Dev nD) (t : Fin cfg2.N) (j : S10000x128.Idx) : Pass2.bHw V c t j = (V c main_v8_0 : S10000x128.Idx → F .f32) j := by
  blk_simp [Pass2.bHw]
  refine congrArg _ ?_
  blk_ext [ix2_6]

theorem bEx2 (c : Dev nD) (t : Fin cfg2.N) (k : Fin 1000) :
    Pass2.bEx V c t (ix2 k 0) = (V c main_v9_0 : S320000x1.Idx → F .f32) (ix2 (edge (p2 t) k) 0) := by
  blk_simp [Pass2.bEx]
  refine congrArg _ ?_
  blk_ext [ix2_7, edge]

theorem bDn2 (c : Dev nD) (t : Fin cfg2.N) (j : S10000x1.Idx) : Pass2.bDn V c t j = (V c main_v9_1 : S10000x1.Idx → F .f32) j := by
  blk_simp [Pass2.bDn]
  refine congrArg _ ?_
  blk_ext [ix2_8]

theorem bTh2 (c : Dev nD) (t : Fin cfg2.N) (j : S10000x1.Idx) : Pass2.bTh V c t j = (V c main_v10 : S10000x1.Idx → F .f32) j := by
  blk_simp [Pass2.bTh]
  refine congrArg _ ?_
  blk_ext [ix2_9]

theorem ix0_0 : ∀ t : Fin cfg0.N, win0_0.index t = ![0, 0] := (by decide +kernel : ∀ t : Fin grid0.N, win0_0.index t = ![0, 0])
theorem ix0_1 : ∀ t : Fin cfg0.N, win0_1.index t = ![0, 0] := (by decide +kernel : ∀ t : Fin grid0.N, win0_1.index t = ![0, 0])
theorem ix0_2 : ∀ t : Fin cfg0.N, win0_2.index t = ![0, 0] := (by decide +kernel : ∀ t : Fin grid0.N, win0_2.index t = ![0, 0])
theorem ix0_3 : ∀ t : Fin cfg0.N, win0_3.index t = ![0, 0] := (by decide +kernel : ∀ t : Fin grid0.N, win0_3.index t = ![0, 0])

theorem bX0 (c : Dev nD) (t : Fin cfg0.N) (j : S10000x128.Idx) : Dense.bX V c t j = (V c main_arg0 : S10000x128.Idx → F .f32) j := by
  blk_simp [Dense.bX]
  refine congrArg _ ?_
  blk_ext [ix0_0]

theorem bWh0 (c : Dev nD) (t : Fin cfg0.N) (j : S128x128.Idx) : Dense.bWh V c t j = (V c main_arg3 : S128x128.Idx → F .f32) j := by
  blk_simp [Dense.bWh]
  refine congrArg _ ?_
  blk_ext [ix0_1]

theorem bB0 (c : Dev nD) (t : Fin cfg0.N) (j : S1x128.Idx) : Dense.bB V c t j = (V c main_v7 : S1x128.Idx → F .f32) j := by
  blk_simp [Dense.bB]
  refine congrArg _ ?_
  blk_ext [ix0_2]

theorem bW0 (c : Dev nD) (t : Fin cfg0.N) (j : S272x4.Idx) : Dense.bW V c t j = (V c main_arg2 : S272x4.Idx → F .f32) j := by
  blk_simp [Dense.bW]
  refine congrArg _ ?_
  blk_ext [ix0_3]

/-- The edges' exponentials that the first pass leaves: point `t`'s block holds its edges'. -/
theorem W3_ex (c : Dev nD) (e : Fin 320000) : (W3 m c main_v9_0 : S320000x1.Idx → F .f32) (ix2 e 0)
    = (Pass1.inp (W2 m) c (Pass1.pnt (e.val / 1000))).exAll (ix2 ⟨e.val % 1000, Nat.mod_lt _ (by omega)⟩ 0) := by
  have h : (Pass1.dat (W2 m) c).arrAt 6 cfg1.N = (fun i : S320000x1.Idx =>
      (Pass1.inp (W2 m) c (Pass1.pnt ((i 0).val / 1000))).exAll (ix2 ⟨(i 0).val % 1000, Nat.mod_lt _ (by omega)⟩ 0)) := by
    refine Dat.arrAt_eq_of_covers (Pass1.dat (W2 m) c) 6 _ (by decide +kernel) fun t hf y => ?_
    blk_simp [ix1_6]
    show (Pass1.inp (W2 m) c t).exAll y = _
    have hy : (y 0).val < 1000 := (y 0).isLt
    have e1 : (t.val * 1000 + (y 0).val) / 1000 = t.val := by omega
    have e2 : (⟨(t.val * 1000 + (y 0).val) % 1000, Nat.mod_lt _ (by omega)⟩ : Fin 1000) = y 0 := Fin.ext (by show _ % 1000 = (y 0).val; omega)
    rw [e1, Pass1.pnt_val, e2]
    refine congrArg _ (funext fun a => ?_)
    fin_cases a
    · rfl
    · exact Subsingleton.elim (α := Fin 1) _ _
  exact congrFun ((Pipeline.afterRegion_arr (Pass1.dat (W2 m) c) (W2 m c) launch1.win.arr_inj 6).trans h) (ix2 e 0)

end Cert.KernelIdeal.Run

end
-- ==== Proof.Spec.lean ====
/- The layer as plain formulas over the extended reals, and the counting facts behind the ten largest of a destination. -/
module

public import Idealize.ShloMosaic.PureOps.Ideal
public import Idealize.ShloMosaic.PureOps.Ideal.Laws
public import Idealize.ShloMosaic.Lib.ValueIdx
public import proofs.«01_k».proof.Proof.Held

@[expose] public section

set_option maxRecDepth 16384

noncomputable section

open Idealize.ShloMosaic

namespace Cert.Spec

/-- The edges' scores and messages, their two ends and the nodes' labels. -/
structure Graph where
  /-- the edges' scores -/
  s : Fin 320000 → EReal
  /-- the edges' messages -/
  ms : Fin 320000 → Fin 128 → EReal
  /-- the edges' sources -/
  src : Fin 320000 → Fin 10000
  /-- the edges' destinations -/
  dst : Fin 320000 → Fin 10000
  /-- the nodes' labels -/
  lab : Fin 10000 → BitVec 32

namespace Graph

variable (g : Graph)

/-- An edge's exponential. -/
def ex (e : Fin 320000) : EReal := Ideal.exp (g.s e)

/-- A node's sum of exponentials. -/
def den (n : Fin 10000) : EReal := ∑ e : Fin 320000, if g.dst e = n then g.ex e else 0

/-- How many edges of the same destination have an exponential above `x`. -/
def above (n : Fin 10000) (x : EReal) : ℕ := ∑ e : Fin 320000, if g.dst e = n ∧ x < g.ex e then 1 else 0

/-- An edge's weight: its share of the destination's sum if it is among the ten largest there, otherwise zero. -/
def wt (e : Fin 320000) : EReal := if g.above (g.dst e) (g.ex e) < 10 then Ideal.div (g.ex e) (g.den (g.dst e)) else 0

/-- The two ends of an edge carry the same label. -/
def same (e : Fin 320000) : Prop := g.lab (g.src e) = g.lab (g.dst e)

open Classical in
/-- The weighted messages into a node over the edges that satisfy `P`. -/
def part (P : Fin 320000 → Prop) (n : Fin 10000) (q : Fin 128) : EReal :=
  ∑ e : Fin 320000, if g.dst e = n ∧ P e then g.wt e * g.ms e q else 0

/-- The result: messages between equal labels, messages between different labels, zeros. -/
def out (n : Fin 10000) (j : Fin 384) : EReal :=
  if h : j.val < 128 then g.part g.same n ⟨j.val, h⟩
  else if h : j.val < 256 then g.part (fun e => ¬ g.same e) n ⟨j.val - 128, by omega⟩
  else 0

end Graph

/-- The rectifier with a slope on the negative side. -/
def leaky (x : EReal) : EReal := if 0 ≤ x then x else Ideal.ofBits .f32 0x3E4CCCCD#32 * x

/-- The layer's graph data of its arguments. -/
def graph (h : (⟨2, ![10000, 128]⟩ : Shape).Idx → EReal) (ea : (⟨2, ![320000, 16]⟩ : Shape).Idx → EReal) (wa : (⟨2, ![272, 4]⟩ : Shape).Idx → EReal)
    (wh : (⟨2, ![128, 128]⟩ : Shape).Idx → EReal) (bh : (⟨1, ![128]⟩ : Shape).Idx → EReal) (we : (⟨2, ![16, 128]⟩ : Shape).Idx → EReal)
    (be : (⟨1, ![128]⟩ : Shape).Idx → EReal) (ei : (⟨2, ![2, 320000]⟩ : Shape).Idx → BitVec 32) (lb : (⟨1, ![10000]⟩ : Shape).Idx → BitVec 32) : Graph where
  src e := Held.wix 10000 (ei (ix2 0 e))
  dst e := Held.wix 10000 (ei (ix2 1 e))
  lab n := lb (ix1 n)
  s e := (∑ k : Fin 4, leaky ((∑ i : Fin 128, h (ix2 (Held.wix 10000 (ei (ix2 0 e))) i) * wa (ix2 ⟨i.val, by omega⟩ k))
      + (∑ i : Fin 128, h (ix2 (Held.wix 10000 (ei (ix2 1 e))) i) * wa (ix2 ⟨128 + i.val, by omega⟩ k))
      + ∑ i : Fin 16, ea (ix2 e i) * wa (ix2 ⟨256 + i.val, by omega⟩ k))) * Ideal.ofBits .f32 0x3E800000#32
  ms e q := max (((∑ i : Fin 128, h (ix2 (Held.wix 10000 (ei (ix2 0 e))) i) * wh (ix2 i q)) + bh (ix1 q))
      + ((∑ i : Fin 16, ea (ix2 e i) * we (ix2 i q)) + be (ix1 q))) 0

/-! ### Sums over the first edges -/

section Upto

variable {M : Type} [AddCommMonoid M] {E : ℕ}

/-- The sum over the first `m` edges. -/
def upto (m : ℕ) (f : Fin E → M) : M := ∑ e : Fin E, if e.val < m then f e else 0

theorem upto_zero (f : Fin E → M) : upto 0 f = 0 := Finset.sum_eq_zero fun e _ => if_neg (Nat.not_lt_zero _)

theorem upto_all (f : Fin E → M) : upto E f = ∑ e, f e := Finset.sum_congr rfl fun e _ => if_pos e.isLt

/-- One more edge adds its term. -/
theorem upto_succ (f : Fin E → M) (e : Fin E) : upto (e.val + 1) f = upto e.val f + f e := by
  unfold upto
  have h : ∀ a : Fin E, (if a.val < e.val + 1 then f a else 0) = (if a.val < e.val then f a else 0) + (if a = e then f e else 0) := by
    intro a
    by_cases h1 : a = e
    · subst h1; simp
    · have : a.val ≠ e.val := fun h => h1 (Fin.ext h)
      by_cases h2 : a.val < e.val
      · rw [if_pos h2, if_pos (by omega), if_neg h1, add_zero]
      · rw [if_neg h2, if_neg (by omega), if_neg h1, add_zero]
  rw [Finset.sum_congr rfl fun a _ => h a, Finset.sum_add_distrib, Finset.sum_ite_eq' Finset.univ e, if_pos (Finset.mem_univ _)]

end Upto

/-! ### The table of the largest -/

/-- A sorted row of sixteen with one value inserted. -/
def ins (e : EReal) (t : Fin 16 → EReal) (l : Fin 16) : EReal :=
  if e ≤ t l then t l else if l.val = 0 ∨ e ≤ t ⟨l.val - 1, by omega⟩ then e else t ⟨l.val - 1, by omega⟩

/-- If lane `l` exceeds `x` exactly when more than `l` values do, then so after an insertion. -/
theorem ins_lt (e : EReal) (t : Fin 16 → EReal) (N : EReal → ℕ) (h : ∀ x l, x < t l ↔ l.val < N x) (x : EReal) (l : Fin 16) :
    x < ins e t l ↔ l.val < N x + if x < e then 1 else 0 := by
  have hl := h x l
  have hp := h x ⟨l.val - 1, by omega⟩
  have hp' : (⟨l.val - 1, by omega⟩ : Fin 16).val = l.val - 1 := rfl
  rw [hp'] at hp
  unfold ins
  by_cases hx : x < e
  · rw [if_pos hx]
    split
    · next h1 => exact ⟨fun h2 => by have := hl.1 h2; omega, fun _ => lt_of_lt_of_le hx h1⟩
    · split
      · next h2 =>
        refine ⟨fun _ => ?_, fun _ => hx⟩
        rcases h2 with h2 | h2
        · omega
        · have := hp.1 (lt_of_lt_of_le hx h2); omega
      · next h2 =>
        rw [hp]
        have : l.val ≠ 0 := fun h3 => h2 (.inl h3)
        omega
  · rw [if_neg hx, Nat.add_zero]
    have hx' := not_lt.1 hx
    split
    · exact hl
    · next h1 =>
      have h3 : ¬ l.val < N x := fun h4 => h1 (le_of_lt (lt_of_le_of_lt hx' (hl.2 h4)))
      split
      · exact iff_of_false hx h3
      · next h2 =>
        refine iff_of_false (fun h4 => h2 (.inr (le_of_lt (lt_of_le_of_lt hx' h4)))) h3

end Cert.Spec

end
-- ==== Proof.KPay.lean ====
/- What the kernel's stored values are, element by element, over the extended reals. -/
module

public import proofs.«01_k».proof.Proof.Loop1
public import proofs.«01_k».proof.Proof.Loop2
public import proofs.«01_k».proof.Proof.Dense
public import proofs.«01_k».proof.Proof.Spec
public import Idealize.ShloMosaic.PureOps.Ideal
public import Idealize.ShloMosaic.PureOps.Ideal.Laws
public import Idealize.ShloMosaic.Lib.Pointwise
public import Idealize.ShloMosaic.Lib.MatmulPlain

@[expose] public section

set_option maxRecDepth 16384

noncomputable section

namespace Cert.KernelIdeal.Pay

open Cert.KernelIdeal Cert.KernelIdeal.Gen Cert.Held
open Idealize.ShloMosaic Idealize.ShloMosaic.TcCoe

/-- A choice by a decided condition. -/
theorem select_ofBool {α : Type} (p : Prop) [Decidable p] (x y : α) : Scalar.select (BitVec.ofBool (decide p)) x y = if p then x else y := by
  by_cases h : p <;> simp [h, Scalar.select]

/-- The word of one half. -/
theorem half : Ideal.ofBits .f32 0x3F000000#32 = ((1 / 2 : ℝ) : EReal) := by
  simp [Ideal.ofBits, Ideal.ieee, -EReal.coe_mul]
  norm_num

/-- The nodes' rows. -/
theorem hw_at (X : S10000x128.Idx → EReal) (W : S128x128.Idx → EReal) (B : S1x128.Idx → EReal) (n : Fin 10000) (q : Fin 128) :
    k0_pay1 (F := Ideal) X W B (ix2 n q) = (∑ i : Fin 128, X (ix2 n i) * W (ix2 i q)) + B (ix2 0 q) := by
  unfold k0_pay1
  pointwise

/-- The nodes' score rows as sources. -/
theorem sr_at (X : S10000x128.Idx → EReal) (W : S128x4.Idx → EReal) (n : Fin 10000) (k : Fin 4) :
    k0_pay2 (F := Ideal) X W (ix2 n k) = ∑ i : Fin 128, X (ix2 n i) * W (ix2 i k) := by
  unfold k0_pay2
  pointwise

/-- The nodes' score rows as destinations. -/
theorem sc_at (X : S10000x128.Idx → EReal) (W : S128x4.Idx → EReal) (n : Fin 10000) (k : Fin 4) :
    k0_pay3 (F := Ideal) X W (ix2 n k) = ∑ i : Fin 128, X (ix2 n i) * W (ix2 i k) := by
  unfold k0_pay3
  pointwise

/-- The edges' score rows. -/
theorem es_at (X : S1000x16.Idx → EReal) (W : S16x4.Idx → EReal) (n : Fin 1000) (k : Fin 4) :
    k1_pay3 (F := Ideal) X W (ix2 n k) = ∑ i : Fin 16, X (ix2 n i) * W (ix2 i k) := by
  unfold k1_pay3
  pointwise

/-- The edges' transformed rows. -/
theorem et_at (X : S1000x16.Idx → EReal) (W : S16x128.Idx → EReal) (B : S1x128.Idx → EReal) (n : Fin 1000) (q : Fin 128) :
    k2_pay2 (F := Ideal) X W B (ix2 n q) = (∑ i : Fin 16, X (ix2 n i) * W (ix2 i q)) + B (ix2 0 q) := by
  unfold k2_pay2
  pointwise

/-- An edge's exponential. -/
theorem ex_at (a b d : S1x4.Idx → EReal) (i j : Fin 1) :
    k1_pay5 (F := Ideal) a b d (ix2 i j)
      = Ideal.exp ((∑ k : Fin 4, Spec.leaky (a (ix2 0 k) + b (ix2 0 k) + d (ix2 0 k))) * Ideal.ofBits .f32 0x3E800000#32) := by
  unfold k1_pay5
  pointwise
  rfl

/-- A node's table with an exponential inserted. -/
theorem ins_at (e : S1x1.Idx → EReal) (v : S1x16.Idx → EReal) (l : Fin 16) :
    Pass1.insTo (F := Ideal) e v (ix2 0 l) = Spec.ins (e (ix2 0 0)) (fun l => v (ix2 0 l)) l := by
  have hlane : IntOp.cmpi CmpIPredicate.eq (BitVec.ofNat 32 l.val) 0#32 = BitVec.ofBool (decide (l.val = 0)) :=
    (by decide : ∀ l : Fin 16, IntOp.cmpi CmpIPredicate.eq (BitVec.ofNat 32 l.val) 0#32 = BitVec.ofBool (decide (l.val = 0))) l
  unfold Pass1.insTo k1_pay4 k1_pay9
  pointwise
  rw [hlane, select_ofBool, half]
  unfold Spec.ins
  have h10 : ((1 : EReal) - 1) = 0 := by rw [← EReal.coe_one, ← EReal.coe_sub, sub_self, EReal.coe_zero]
  have h01 : ((1 / 2 : ℝ) : EReal) < 1 := by rw [← EReal.coe_one, EReal.coe_lt_coe_iff]; norm_num
  have h00 : ¬ ((1 / 2 : ℝ) : EReal) < 0 := by rw [← EReal.coe_zero, EReal.coe_lt_coe_iff]; norm_num
  by_cases h1 : e (ix2 0 0) ≤ v (ix2 0 l)
  · simp only [h1, if_true, h01]
  · simp only [h1, if_false, h00, sub_zero, one_mul]
    by_cases h2 : l.val = 0
    · have h3 : l.val < 1 := by omega
      simp only [h2, if_true, true_or]
      rw [if_pos (lt_of_lt_of_le h01 (le_max_right _ _))]
    · have h3 : ¬ l.val < 1 := by omega
      simp only [h2, h3, if_false, dif_neg, not_false_eq_true, false_or]
      by_cases h4 : e (ix2 0 0) ≤ v (ix2 0 ⟨l.val - 1, by omega⟩)
      · simp only [h4, if_true]
        rw [if_pos (lt_of_lt_of_le h01 (le_max_left _ _))]
      · simp only [h4, if_false, max_self, h00]

/-- The stored row of the second edge pass. -/
theorem acc_at (ex dn th : S1x1.Idx → EReal) (h e o : S1x128.Idx → EReal) (q : Fin 128) :
    k2_pay3 (F := Ideal) ex dn th h e o (ix2 0 q)
      = o (ix2 0 q) + (if th (ix2 0 0) ≤ ex (ix2 0 0) then Ideal.div (ex (ix2 0 0)) (dn (ix2 0 0)) else 0) * max (h (ix2 0 q) + e (ix2 0 q)) 0 := by
  unfold k2_pay3
  pointwise

end Cert.KernelIdeal.Pay

end
-- ==== Proof.KVal.lean ====
/- The kernel's result: the layer's formulas of its arguments. -/
module

public import proofs.«01_k».proof.Proof.KReg
public import proofs.«01_k».proof.Proof.KPay

@[expose] public section

set_option maxRecDepth 16384

noncomputable section

namespace Cert.KernelIdeal.Run

open Cert.KernelIdeal Cert.KernelIdeal.Gen Cert.Held
open Idealize.ShloMosaic Idealize.ShloMosaic.TcCoe

variable (m : (ℓ : Loc nD τ sig) → Buf (Elt Ideal) ℓ) (c : Dev nD)

/-- The layer's data of the kernel's arguments. -/
def gr : Spec.Graph :=
  Spec.graph (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))

/-! ### The dense pass -/

/-- Linear in the node features. -/
def lin {B : ℕ} (X : S10000x128.Idx → EReal) (w : Fin 128 → Fin B → EReal) (n : Fin 10000) (k : Fin B) : EReal := ∑ i : Fin 128, X (ix2 n i) * w i k

theorem hw_val (n : Fin 10000) (q : Fin 128) : (W2 m c main_v8_0 : S10000x128.Idx → EReal) (ix2 n q)
    = lin (m ((c : Thread nD τ).loc main_arg0)) (fun i q => (m ((c : Thread nD τ).loc main_arg3) : S128x128.Idx → EReal) (ix2 i q)) n q
      + (m ((c : Thread nD τ).loc main_arg4) : S128.Idx → EReal) (ix1 q) := by
  rw [W2_hw]
  refine (Pay.hw_at _ _ _ n q).trans ?_
  refine congrArg₂ (· + ·) ?_ ?_
  · refine Finset.sum_congr rfl fun i _ => ?_
    rw [bX0, bWh0, W1_of m c main_arg0 (by decide), W1_of m c main_arg3 (by decide)]
    rfl
  · rw [bB0]
    exact W1_v7 m c q

theorem sr_val (n : Fin 10000) (k : Fin 4) : (W2 m c main_v8_1 : S10000x4.Idx → EReal) (ix2 n k)
    = lin (m ((c : Thread nD τ).loc main_arg0)) (fun i k => (m ((c : Thread nD τ).loc main_arg2) : S272x4.Idx → EReal) (ix2 ⟨i.val, by omega⟩ k)) n k := by
  rw [W2_sr]
  refine (Pay.sr_at _ _ n k).trans ?_
  refine Finset.sum_congr rfl fun i _ => ?_
  unfold slab
  rw [bX0, bW0, W1_of m c main_arg0 (by decide), W1_of m c main_arg2 (by decide)]
  refine congrArg₂ (· * ·) rfl (congrArg _ (congrArg (fun a => ix2 a k) (Fin.ext ?_)))
  exact Nat.zero_add _

theorem sc_val (n : Fin 10000) (k : Fin 4) : (W2 m c main_v8_2 : S10000x4.Idx → EReal) (ix2 n k)
    = lin (m ((c : Thread nD τ).loc main_arg0)) (fun i k => (m ((c : Thread nD τ).loc main_arg2) : S272x4.Idx → EReal) (ix2 ⟨128 + i.val, by omega⟩ k)) n k := by
  rw [W2_sc]
  refine (Pay.sc_at _ _ n k).trans ?_
  refine Finset.sum_congr rfl fun i _ => ?_
  unfold slab
  rw [bX0, bW0, W1_of m c main_arg0 (by decide), W1_of m c main_arg2 (by decide)]
  rfl

/-! ### The first edge pass -/

theorem iter_step {α : Type} (f : ℕ → α → α) (x : α) (n : ℕ) : iter f x (n + 1) = f n (iter f x n) := rfl
theorem dnAt_zero (V : (c : Dev nD) → Valuation τ sig (Elt Ideal)) (j : S10000x1.Idx) : Pass1.dnAt V c 0 j = (0 : EReal) := Ideal.ofBits_zero_f32
theorem dnAt_succ (V : (c : Dev nD) → Valuation τ sig (Elt Ideal)) (n : ℕ) : Pass1.dnAt V c (n + 1) = (Pass1.inp V c (Pass1.pnt n)).dnRun (Pass1.dnAt V c n) 1000 := rfl
theorem tbAt_zero (V : (c : Dev nD) → Valuation τ sig (Elt Ideal)) (j : S10000x16.Idx) : Pass1.tbAt V c 0 j = Ideal.ofBits .f32 0xFF800000#32 := rfl
theorem tbAt_succ (V : (c : Dev nD) → Valuation τ sig (Elt Ideal)) (n : ℕ) : Pass1.tbAt V c (n + 1) = (Pass1.inp V c (Pass1.pnt n)).tbRun (Pass1.tbAt V c n) 1000 := rfl
theorem outAt_zero (V : (c : Dev nD) → Valuation τ sig (Elt Ideal)) (j : S20000x128.Idx) : Pass2.outAt V c 0 j = (0 : EReal) := Ideal.ofBits_zero_f32
theorem outAt_succ (V : (c : Dev nD) → Valuation τ sig (Elt Ideal)) (n : ℕ) : Pass2.outAt V c (n + 1) = (Pass2.inp V c (Pass2.pnt n)).run (Pass2.outAt V c n) 1000 := iter_step _ _ n

theorem R1 (t : Fin cfg1.N) (k : Fin 1000) : (Pass1.inp (W2 m) c t).R (ix3 0 0 k) = eidx m c (ix2 0 (edge (p1 t) k)) := by
  show Pass1.bR (W2 m) c t (ix3 0 0 k) = _
  rw [bR1, W2_v2, W1_v2]

theorem C1 (t : Fin cfg1.N) (k : Fin 1000) : (Pass1.inp (W2 m) c t).C (ix3 0 0 k) = eidx m c (ix2 1 (edge (p1 t) k)) := by
  show Pass1.bC (W2 m) c t (ix3 0 0 k) = _
  rw [bC1, W2_v5, W1_v5]

theorem D1 (t : Fin cfg1.N) (k : Fin 1000) : wix 10000 ((Pass1.inp (W2 m) c t).C (ix3 0 0 k)) = (gr m c).dst (edge (p1 t) k) := by rw [C1]; rfl

theorem e1 (t : Fin cfg1.N) (k : Fin 1000) : (Pass1.inp (W2 m) c t).e k (ix2 0 0) = (gr m c).ex (edge (p1 t) k) := by
  refine (Pay.ex_at _ _ _ 0 0).trans ?_
  rw [R1, C1]
  unfold Spec.Graph.ex
  refine congrArg Ideal.exp (congrArg (· * _) (Finset.sum_congr rfl fun k' _ => congrArg Spec.leaky ?_))
  congr 1
  · congr 1
    · refine Eq.trans ?_ (sr_val m c _ k')
      exact bSr1 (W2 m) c t _
    · refine Eq.trans ?_ (sc_val m c _ k')
      exact bSc1 (W2 m) c t _
  · refine (Pay.es_at _ _ k k').trans ?_
    refine Finset.sum_congr rfl fun i _ => ?_
    unfold slab
    rw [bEA1, bW1, W2_kept m c main_arg1 kept1, W2_kept m c main_arg2 kept2]
    rfl

/-- Edge `k` of a point, `k` counted as a trip. -/
theorem trip (n : ℕ) (hn : n < 1000) : Fin.ofNat 1000 n = (⟨n, hn⟩ : Fin 1000) := Fin.ext (Nat.mod_eq_of_lt hn)

/-- An element of the replaced row. -/
theorem put_hit {A B : ℕ} {α : Type} (X : (⟨2, ![A, B]⟩ : Shape).Idx → α) (n r : Fin A) (w : (⟨2, ![1, B]⟩ : Shape).Idx → α) (q : Fin B) (h : n = r) :
    putRow X n w (ix2 r q) = w (ix2 0 q) := if_pos (show r.val = n.val by rw [h])

/-- An element of another row. -/
theorem put_miss {A B : ℕ} {α : Type} (X : (⟨2, ![A, B]⟩ : Shape).Idx → α) (n r : Fin A) (w : (⟨2, ![1, B]⟩ : Shape).Idx → α) (q : Fin B) (h : n ≠ r) :
    putRow X n w (ix2 r q) = X (ix2 r q) := if_neg (show ¬ r.val = n.val from fun e => h (Fin.ext e.symm))

/-- What an edge adds to a node's sum. -/
def addDn (v : Fin 10000) (e : Fin 320000) : EReal := if (gr m c).dst e = v then (gr m c).ex e else 0

theorem dn_run (t : Fin cfg1.N) (d : S10000x1.Idx → EReal) (hd : ∀ v, d (ix2 v 0) = Spec.upto (t.val * 1000) (addDn m c v)) (n : ℕ) (hn : n ≤ 1000) (v : Fin 10000) :
    (Pass1.inp (W2 m) c t).dnRun d n (ix2 v 0) = Spec.upto (t.val * 1000 + n) (addDn m c v) := by
  induction n generalizing v with
  | zero => exact hd v
  | succ n ih =>
    have h := ih (by omega)
    have hs := Spec.upto_succ (addDn m c v) (edge (p1 t) ⟨n, hn⟩)
    refine Eq.trans ?_ (Eq.trans (congrArg₂ (· + ·) (h v) rfl) hs.symm)
    show putRow ((Pass1.inp (W2 m) c t).dnRun d n) (wix 10000 ((Pass1.inp (W2 m) c t).C (ix3 0 0 (Fin.ofNat 1000 n)))) (Pass1.addTo ((Pass1.inp (W2 m) c t).e (Fin.ofNat 1000 n)) (row ((Pass1.inp (W2 m) c t).dnRun d n) (wix 10000 ((Pass1.inp (W2 m) c t).C (ix3 0 0 (Fin.ofNat 1000 n)))))) (ix2 v 0) = _
    rw [trip n hn, D1]
    by_cases hv : (gr m c).dst (edge (p1 t) ⟨n, hn⟩) = v
    · rw [put_hit _ _ _ _ _ hv, hv]
      refine congrArg₂ (· + ·) rfl ?_
      rw [e1]
      exact (if_pos hv).symm
    · have h0 : addDn m c v (edge (p1 t) ⟨n, hn⟩) = 0 := if_neg hv
      rw [put_miss _ _ _ _ _ hv, h0, add_zero]

theorem dn_at (n : ℕ) (hn : n ≤ 320) (v : Fin 10000) : Pass1.dnAt (W2 m) c n (ix2 v 0) = Spec.upto (n * 1000) (addDn m c v) := by
  induction n generalizing v with
  | zero =>
    have h0 : Spec.upto (0 * 1000) (addDn m c v) = 0 := by rw [Nat.zero_mul]; exact Spec.upto_zero _
    rw [h0]
    exact dnAt_zero c (W2 m) _
  | succ n ih =>
    have e : (Pass1.pnt n).val = n := Nat.mod_eq_of_lt (by omega)
    have h := dn_run m c (Pass1.pnt n) (Pass1.dnAt (W2 m) c n) (fun v => by rw [e]; exact ih (by omega) v) 1000 le_rfl v
    rw [e, show n * 1000 + 1000 = (n + 1) * 1000 by omega] at h
    rw [dnAt_succ]
    exact h

/-- The nodes' sums. -/
theorem dn_val (v : Fin 10000) : (W3 m c main_v9_1 : S10000x1.Idx → EReal) (ix2 v 0) = (gr m c).den v := by
  rw [W3_dn]
  exact (dn_at m c 320 le_rfl v).trans (Spec.upto_all _)

/-- What an edge adds to the count of a node's values above `x`. -/
def addTb (v : Fin 10000) (x : EReal) (e : Fin 320000) : ℕ := if (gr m c).dst e = v ∧ x < (gr m c).ex e then 1 else 0

theorem tb_run (t : Fin cfg1.N) (d : S10000x16.Idx → EReal) (hd : ∀ v x (l : Fin 16), x < d (ix2 v l) ↔ l.val < Spec.upto (t.val * 1000) (addTb m c v x))
    (n : ℕ) (hn : n ≤ 1000) (v : Fin 10000) (x : EReal) (l : Fin 16) :
    x < (Pass1.inp (W2 m) c t).tbRun d n (ix2 v l) ↔ l.val < Spec.upto (t.val * 1000 + n) (addTb m c v x) := by
  induction n generalizing v x l with
  | zero => exact hd v x l
  | succ n ih =>
    have h := ih (by omega)
    have hs := Spec.upto_succ (addTb m c v x) (edge (p1 t) ⟨n, hn⟩)
    show x < putRow ((Pass1.inp (W2 m) c t).tbRun d n) (wix 10000 ((Pass1.inp (W2 m) c t).C (ix3 0 0 (Fin.ofNat 1000 n)))) (Pass1.insTo ((Pass1.inp (W2 m) c t).e (Fin.ofNat 1000 n)) (row ((Pass1.inp (W2 m) c t).tbRun d n) (wix 10000 ((Pass1.inp (W2 m) c t).C (ix3 0 0 (Fin.ofNat 1000 n)))))) (ix2 v l) ↔ _
    have hs' : Spec.upto (t.val * 1000 + (n + 1)) (addTb m c v x) = Spec.upto (t.val * 1000 + n) (addTb m c v x) + addTb m c v x (edge (p1 t) ⟨n, hn⟩) := hs
    rw [hs', trip n hn, D1]
    by_cases hv : (gr m c).dst (edge (p1 t) ⟨n, hn⟩) = v
    · rw [put_hit _ _ _ _ _ hv, hv]
      have hi := Pay.ins_at ((Pass1.inp (W2 m) c t).e ⟨n, hn⟩) (row ((Pass1.inp (W2 m) c t).tbRun d n) v) l
      rw [e1] at hi
      refine (iff_of_eq (congrArg (x < ·) hi)).trans ?_
      have hl := Spec.ins_lt ((gr m c).ex (edge (p1 t) ⟨n, hn⟩)) (fun l => row ((Pass1.inp (W2 m) c t).tbRun d n) v (ix2 0 l))
        (fun x => Spec.upto (t.val * 1000 + n) (addTb m c v x)) (fun x l => h v x l) x l
      refine hl.trans ?_
      unfold addTb
      simp only [hv, true_and]
    · have e0 : addTb m c v x (edge (p1 t) ⟨n, hn⟩) = 0 := if_neg fun q => hv q.1
      rw [put_miss _ _ _ _ _ hv, e0, Nat.add_zero]
      exact h v x l

/-- The word of minus infinity. -/
theorem ninf : Ideal.ofBits .f32 0xFF800000#32 = ⊥ := by
  simp [Ideal.ofBits, Ideal.ieee]

theorem tb_at (n : ℕ) (hn : n ≤ 320) (v : Fin 10000) (x : EReal) (l : Fin 16) :
    x < Pass1.tbAt (W2 m) c n (ix2 v l) ↔ l.val < Spec.upto (n * 1000) (addTb m c v x) := by
  induction n generalizing v x l with
  | zero =>
    rw [Nat.zero_mul, Spec.upto_zero]
    refine iff_of_false ?_ (Nat.not_lt_zero _)
    rw [tbAt_zero, ninf]
    exact not_lt_bot
  | succ n ih =>
    have e : (Pass1.pnt n).val = n := Nat.mod_eq_of_lt (by omega)
    have h := tb_run m c (Pass1.pnt n) (Pass1.tbAt (W2 m) c n) (fun v x l => by rw [e]; exact ih (by omega) v x l) 1000 le_rfl v x l
    rw [e, show n * 1000 + 1000 = (n + 1) * 1000 by omega] at h
    rw [tbAt_succ]
    exact h

/-- The nodes' thresholds: above `x` exactly when more than nine values of the node are. -/
theorem th_val (v : Fin 10000) (x : EReal) : x < (W4 m c main_v10 : S10000x1.Idx → EReal) (ix2 v 0) ↔ 9 < (gr m c).above v x := by
  rw [W4_v10, W3_tb]
  refine (tb_at m c 320 le_rfl v x 9).trans ?_
  rw [Spec.upto_all]
  rfl

/-- The edges' exponentials. -/
theorem ex_val (e : Fin 320000) : (W4 m c main_v9_0 : S320000x1.Idx → EReal) (ix2 e 0) = (gr m c).ex e := by
  rw [W4_of m c main_v9_0 (by decide), W3_ex]
  refine (e1 m c (Pass1.pnt (e.val / 1000)) ⟨e.val % 1000, Nat.mod_lt _ (by omega)⟩).trans (congrArg _ (Fin.ext ?_))
  show e.val / 1000 % 320 * 1000 + e.val % 1000 = e.val
  omega

/-! ### The second edge pass -/

theorem R2 (t : Fin cfg2.N) (k : Fin 1000) : (Pass2.inp (W4 m) c t).R (ix3 0 0 k) = eidx m c (ix2 0 (edge (p2 t) k)) := by
  show Pass2.bR (W4 m) c t (ix3 0 0 k) = _
  rw [bR2, W4_v2, W1_v2]

theorem C2 (t : Fin cfg2.N) (k : Fin 1000) : (Pass2.inp (W4 m) c t).C (ix3 0 0 k) = eidx m c (ix2 1 (edge (p2 t) k)) := by
  show Pass2.bC (W4 m) c t (ix3 0 0 k) = _
  rw [bC2, W4_v5, W1_v5]

theorem lb2 (t : Fin cfg2.N) (n : Fin 10000) : (Pass2.inp (W4 m) c t).Lb (ix2 0 n) = (gr m c).lab n := by
  show Pass2.bLb (W4 m) c t (ix2 0 n) = _
  rw [bLb2, W4_v6, W1_v6]
  rfl

open Classical in
/-- The row of the result that an edge adds to. -/
def rowOf (e : Fin 320000) : ℕ := 2 * ((gr m c).dst e).val + if (gr m c).same e then 0 else 1

theorem tgt2 (h : InRange m) (t : Fin cfg2.N) (k : Fin 1000) : ((Pass2.inp (W4 m) c t).tgt k).val = rowOf m c (edge (p2 t) k) := by
  unfold Pass2.In2.tgt rowOf
  rw [R2, C2, lb2, lb2]
  have hc : (eidx m c (ix2 1 (edge (p2 t) k))).toNat < 10000 := h c _
  have hd : ((gr m c).dst (edge (p2 t) k)).val = (eidx m c (ix2 1 (edge (p2 t) k))).toNat := wix_val hc
  have hs : (gr m c).same (edge (p2 t) k) ↔ (gr m c).lab (wix 10000 (eidx m c (ix2 0 (edge (p2 t) k)))) = (gr m c).lab (wix 10000 (eidx m c (ix2 1 (edge (p2 t) k)))) := Iff.rfl
  rw [hd]
  by_cases hh : (gr m c).same (edge (p2 t) k)
  · rw [if_pos (hs.1 hh), if_pos hh]
    exact Nat.mod_eq_of_lt (by omega)
  · rw [if_neg (fun q => hh (hs.2 q)), if_neg hh]
    exact Nat.mod_eq_of_lt (by omega)

/-- What an edge adds to an element of the result. -/
def addOut (r : Fin 20000) (q : Fin 128) (e : Fin 320000) : EReal := if rowOf m c e = r.val then (gr m c).wt e * (gr m c).ms e q else 0

theorem acc2 (t : Fin cfg2.N) (k : Fin 1000) (o : S1x128.Idx → EReal) (q : Fin 128) :
    k2_pay3 (F := Ideal) (row (Pass2.inp (W4 m) c t).Ex k) (row (Pass2.inp (W4 m) c t).Dn (wix 10000 ((Pass2.inp (W4 m) c t).C (ix3 0 0 k))))
      (row (Pass2.inp (W4 m) c t).Th (wix 10000 ((Pass2.inp (W4 m) c t).C (ix3 0 0 k)))) (row (Pass2.inp (W4 m) c t).Hw (wix 10000 ((Pass2.inp (W4 m) c t).R (ix3 0 0 k))))
      (row (Pass2.inp (W4 m) c t).Et k) o (ix2 0 q)
      = o (ix2 0 q) + (gr m c).wt (edge (p2 t) k) * (gr m c).ms (edge (p2 t) k) q := by
  refine (Pay.acc_at _ _ _ _ _ _ q).trans ?_
  have hx : row (Pass2.inp (W4 m) c t).Ex k (ix2 0 0) = (gr m c).ex (edge (p2 t) k) := (bEx2 (W4 m) c t k).trans (ex_val m c _)
  have hd : ∀ n, row (Pass2.inp (W4 m) c t).Dn n (ix2 0 0) = (gr m c).den n := fun n => by
    refine (bDn2 (W4 m) c t (ix2 n 0)).trans ?_
    rw [W4_of m c main_v9_1 (by decide)]
    exact dn_val m c n
  have ht : ∀ n, row (Pass2.inp (W4 m) c t).Th n (ix2 0 0) = (W4 m c main_v10 : S10000x1.Idx → EReal) (ix2 n 0) := fun n => bTh2 (W4 m) c t (ix2 n 0)
  rw [hx, hd, ht, R2, C2]
  refine congrArg (o (ix2 0 q) + ·) (congrArg₂ (· * ·) ?_ (congrArg₂ max (congrArg₂ (· + ·) ?_ ?_) rfl))
  · unfold Spec.Graph.wt
    have e : wix 10000 (eidx m c (ix2 1 (edge (p2 t) k))) = (gr m c).dst (edge (p2 t) k) := rfl
    rw [e]
    have hth := th_val m c ((gr m c).dst (edge (p2 t) k)) ((gr m c).ex (edge (p2 t) k))
    by_cases hk : (gr m c).above ((gr m c).dst (edge (p2 t) k)) ((gr m c).ex (edge (p2 t) k)) < 10
    · rw [if_pos hk, if_pos (not_lt.1 fun q => by have := hth.1 q; omega)]
    · rw [if_neg hk, if_neg (not_le.2 (hth.2 (by omega)))]
  · refine (bHw2 (W4 m) c t (ix2 _ q)).trans ?_
    rw [W4_of m c main_v8_0 (by decide), W3_of m c main_v8_0 (by decide)]
    exact hw_val m c _ q
  · refine (Pay.et_at _ _ _ k q).trans ?_
    congr 1
    · refine Finset.sum_congr rfl fun i _ => ?_
      rw [bEA2, bWe2, W4_kept m c main_arg1 kept1, W4_kept m c main_arg5 kept5]
      rfl
    · rw [bBe2]
      refine (W4_v11 m c q).trans ?_
      rw [W3_of m c main_arg6 (by decide), W2_kept m c main_arg6 kept6]
      rfl

theorem out_run (h : InRange m) (t : Fin cfg2.N) (O : S20000x128.Idx → EReal) (hO : ∀ r q, O (ix2 r q) = Spec.upto (t.val * 1000) (addOut m c r q)) (n : ℕ) (hn : n ≤ 1000)
    (r : Fin 20000) (q : Fin 128) : (Pass2.inp (W4 m) c t).run O n (ix2 r q) = Spec.upto (t.val * 1000 + n) (addOut m c r q) := by
  induction n generalizing r q with
  | zero => exact hO r q
  | succ n ih =>
    have h1 := ih (by omega)
    have hs := Spec.upto_succ (addOut m c r q) (edge (p2 t) ⟨n, hn⟩)
    refine Eq.trans ?_ (Eq.trans (congrArg₂ (· + ·) (h1 r q) rfl) hs.symm)
    show (Pass2.inp (W4 m) c t).step (Fin.ofNat 1000 n) ((Pass2.inp (W4 m) c t).run O n) (ix2 r q) = _
    rw [trip n hn]
    unfold Pass2.In2.step
    by_cases hv : rowOf m c (edge (p2 t) ⟨n, hn⟩) = r.val
    · have ht : (Pass2.inp (W4 m) c t).tgt ⟨n, hn⟩ = r := Fin.ext ((tgt2 m c h t _).trans hv)
      rw [put_hit _ _ _ _ _ ht, acc2 m c t ⟨n, hn⟩ _ q, ht]
      refine congrArg₂ (· + ·) rfl (Eq.symm ?_)
      unfold addOut
      exact if_pos hv
    · have ht : (Pass2.inp (W4 m) c t).tgt ⟨n, hn⟩ ≠ r := fun q => hv ((tgt2 m c h t _).symm.trans (congrArg Fin.val q))
      have h0 : addOut m c r q (edge (p2 t) ⟨n, hn⟩) = 0 := if_neg hv
      rw [put_miss _ _ _ _ _ ht, h0, add_zero]

theorem out_at (h : InRange m) (n : ℕ) (hn : n ≤ 320) (r : Fin 20000) (q : Fin 128) : Pass2.outAt (W4 m) c n (ix2 r q) = Spec.upto (n * 1000) (addOut m c r q) := by
  induction n generalizing r q with
  | zero =>
    have h0 : Spec.upto (0 * 1000) (addOut m c r q) = 0 := by rw [Nat.zero_mul]; exact Spec.upto_zero _
    refine Eq.trans ?_ h0.symm
    exact outAt_zero c (W4 m) _
  | succ n ih =>
    have e : (Pass2.pnt n).val = n := Nat.mod_eq_of_lt (by omega)
    have h := out_run m c h (Pass2.pnt n) (Pass2.outAt (W4 m) c n) (fun r q => by rw [e]; exact ih (by omega) r q) 1000 le_rfl r q
    rw [e, show n * 1000 + 1000 = (n + 1) * 1000 by omega] at h
    rw [outAt_succ]
    exact h

open Classical in
/-- Two rows a node: the edges between equal labels, then the others. -/
theorem part_of (n : Fin 10000) (b : ℕ) (P : Fin 320000 → Prop) (q : Fin 128) (r : Fin 20000) (hr : r.val = n.val * 2 + b)
    (hP : ∀ e, rowOf m c e = r.val ↔ (gr m c).dst e = n ∧ P e) : (∑ e, addOut m c r q e) = (gr m c).part P n q := by
  unfold Spec.Graph.part addOut
  refine Finset.sum_congr rfl fun e _ => ?_
  by_cases hh : rowOf m c e = r.val
  · rw [if_pos hh, if_pos ((hP e).1 hh)]
  · rw [if_neg hh, if_neg fun q => hh ((hP e).2 q)]

/-- The kernel's result. -/
theorem out_val (h : InRange m) (n : Fin 10000) (j : Fin 384) : (W6 m c main_v15 : S10000x384.Idx → EReal) (ix2 n j) = (gr m c).out n j := by
  rw [W6_v15]
  unfold Spec.Graph.out
  have key : ∀ (r : Fin 20000) (q : Fin 128), (W5 m c main_v12 : S20000x128.Idx → EReal) (ix2 r q) = ∑ e, addOut m c r q e := fun r q => by
    rw [W5_out]
    exact (out_at m c h 320 le_rfl r q).trans (Spec.upto_all _)
  by_cases h1 : j.val < 128
  · rw [dif_pos h1, dif_pos (show j.val < 256 by omega), key]
    have hq : (⟨j.val % 128, Nat.mod_lt _ (by omega)⟩ : Fin 128) = ⟨j.val, h1⟩ := Fin.ext (Nat.mod_eq_of_lt h1)
    rw [hq]
    refine part_of m c n 0 _ _ _ (show n.val * 2 + j.val / 128 = _ by omega) fun e => ?_
    show rowOf m c e = n.val * 2 + j.val / 128 ↔ _
    unfold rowOf
    rw [Nat.div_eq_of_lt h1]
    constructor
    · intro hh
      by_cases hsm : (gr m c).same e
      · rw [if_pos hsm] at hh; exact ⟨Fin.ext (by omega), hsm⟩
      · rw [if_neg hsm] at hh; omega
    · rintro ⟨rfl, hsm⟩
      rw [if_pos hsm]; omega
  · by_cases h2 : j.val < 256
    · rw [dif_neg h1, dif_pos h2, dif_pos h2, key]
      have hq : (⟨j.val % 128, Nat.mod_lt _ (by omega)⟩ : Fin 128) = ⟨j.val - 128, by omega⟩ := Fin.ext (by show j.val % 128 = j.val - 128; omega)
      rw [hq]
      have hj : j.val / 128 = 1 := by omega
      refine part_of m c n 1 _ _ _ (show n.val * 2 + j.val / 128 = _ by omega) fun e => ?_
      show rowOf m c e = n.val * 2 + j.val / 128 ↔ _
      unfold rowOf
      rw [hj]
      constructor
      · intro hh
        by_cases hsm : (gr m c).same e
        · rw [if_pos hsm] at hh; omega
        · rw [if_neg hsm] at hh; exact ⟨Fin.ext (by omega), hsm⟩
      · rintro ⟨rfl, hsm⟩
        rw [if_neg hsm]; omega
    · rw [dif_neg h1, dif_neg h2, dif_neg h2]
      exact Ideal.ofBits_zero_f32

end Cert.KernelIdeal.Run

end
-- ==== Proof.RefRead.lean ====
/- The reference's stages as functions of arrays, and the buffers that hold them. -/
module

public import proofs.«01_k».proof.Proof.RefRun
public import Idealize.ShloMosaic.PureOps.Ideal
public import Idealize.ShloMosaic.PureOps.Ideal.Laws

@[expose] public section

set_option maxRecDepth 65536

noncomputable section

namespace Cert.ReferenceIdeal.Run

open Idealize.ShloMosaic Idealize.ShloMosaic.TcCoe Idealize.SL.Sem
open Cert.ReferenceIdeal Cert.ReferenceIdeal.Gen

/-- One number an edge. -/
abbrev VF := FVec Ideal S320000 .f32
/-- One word an edge. -/
abbrev VI := IVec S320000 32

/-- The edges' source words. -/
def rowsOf (ei : IVec S2x320000 32) : VI := shapeCast S320000 (extractStridedSlice S1x320000 ![0, 0] ei slices_S2x320000_S1x320000_0_0) shapeCasts_S1x320000_S320000
/-- The edges' destination words. -/
def colsOf (ei : IVec S2x320000 32) : VI := shapeCast S320000 (extractStridedSlice S1x320000 ![1, 0] ei slices_S2x320000_S1x320000_1_0) shapeCasts_S1x320000_S320000
/-- One word at every edge. -/
def allI (w : BitVec 32) : VI := broadcastInDim S320000 ![] bcast_S_S320000 (constantI S_ 32 w)
/-- Words as a column of indices. -/
def colI (x : VI) : IVec S320000x1 32 := broadcastInDim S320000x1 ![0] bcast_S320000_S320000x1_0 x
/-- Words as a column of indices, a negative one counted from the end. -/
def wrapI (n : BitVec 32) (x : VI) : IVec S320000x1 32 := colI (select (cmpi .slt x (allI 0#32)) (addi x (allI n)) x)
/-- The nodes' rows at the edges' words. -/
def rowsAt (h : FVec Ideal S10000x128 .f32) (x : VI) : FVec Ideal S320000x128 .f32 :=
  Host.gather gather_S10000x128_S320000x1_S320000x128_1_0_n_n_0_1_1128 h (wrapI 10000#32 x)
/-- A bias at every edge. -/
def biasAt (b : FVec Ideal S128 .f32) : FVec Ideal S320000x128 .f32 :=
  broadcastInDim S320000x128 ![0, 1] bcast_S1x128_S320000x128_0_1 (broadcastInDim S1x128 ![1] bcast_S128_S1x128_1 b)
/-- The edges' messages. -/
def msgOf (h : FVec Ideal S10000x128 .f32) (ea : FVec Ideal S320000x16 .f32) (wh : FVec Ideal S128x128 .f32) (bh : FVec Ideal S128 .f32)
    (we : FVec Ideal S16x128 .f32) (be : FVec Ideal S128 .f32) (r : VI) : FVec Ideal S320000x128 .f32 :=
  maximumf (addf (addf (Host.dotGeneral dot_S320000x128_S128x128_S320000x128_1_0_0_1_n_n none (rowsAt h r) wh) (biasAt bh))
    (addf (Host.dotGeneral dot_S320000x16_S16x128_S320000x128_1_0_0_1_n_n none ea we) (biasAt be)))
    (broadcastInDim S320000x128 ![] bcast_S_S320000x128 (constant S_ .f32 0x00000000#32))
/-- The edges' head scores before the rectifier. -/
def rawOf (h : FVec Ideal S10000x128 .f32) (ea : FVec Ideal S320000x16 .f32) (wa : FVec Ideal S272x4 .f32) (r c : VI) : FVec Ideal S320000x4 .f32 :=
  Host.dotGeneral dot_S320000x272_S272x4_S320000x4_1_0_0_1_n_n none
    (concatenate S320000x272 1 [⟨S320000x128, rowsAt h r⟩, ⟨S320000x128, rowsAt h c⟩, ⟨S320000x16, ea⟩] concatenates_S320000x128_S320000x128_S320000x16_S320000x272_d1) wa
/-- The mean of the rectified head scores. -/
def meanOf (x : FVec Ideal S320000x4 .f32) : VF :=
  Host.divf (Host.reduceAdd
    (select (cmpf .oge x (broadcastInDim S320000x4 ![] bcast_S_S320000x4 (constant S_ .f32 0x00000000#32))) x
      (mulf (broadcastInDim S320000x4 ![] bcast_S_S320000x4 (constant S_ .f32 0x3E4CCCCD#32)) x))
    (constant S_ .f32 0x00000000#32) reducesTo_S320000x4_S320000_d1 h_S_)
    (broadcastInDim S320000 ![] bcast_S_S320000 (constant S_ .f32 0x40800000#32))
/-- The edges' scores. -/
def scoreOf (h : FVec Ideal S10000x128 .f32) (ea : FVec Ideal S320000x16 .f32) (wa : FVec Ideal S272x4 .f32) (r c : VI) : VF := meanOf (rawOf h ea wa r c)
/-- Every node's row of scores: an edge's score at its destination, minus infinity elsewhere. -/
def memOf (s : VF) (c : VI) : FVec Ideal S10000x320000 .f32 :=
  select (cmpi .eq (broadcastInDim S10000x320000 ![0, 1] bcast_S1x320000_S10000x320000_0_1 (broadcastInDim S1x320000 ![1] bcast_S320000_S1x320000_1 c))
      (broadcastInDim S10000x320000 ![0, 1] bcast_S10000x1_S10000x320000_0_1 (broadcastInDim S10000x1 ![0] bcast_S10000_S10000x1_0 (iotaInDim S10000 32 0))))
    (broadcastInDim S10000x320000 ![0, 1] bcast_S1x320000_S10000x320000_0_1 (broadcastInDim S1x320000 ![1] bcast_S320000_S1x320000_1 s))
    (broadcastInDim S10000x320000 ![] bcast_S_S10000x320000 (constant S_ .f32 0xFF800000#32))
/-- The nodes' largest scores. -/
def maxOf (x : FVec Ideal S10000x320000 .f32) : FVec Ideal S10000 .f32 :=
  Host.reduce FloatOps.maximumf x (constant S_ .f32 0xFF800000#32) reducesTo_S10000x320000_S10000_d1 h_S_
/-- A number a node, at the edges' words. -/
def nodeAt {α : Type} (x : S10000.Idx → α) (c : VI) : S320000.Idx → α := Host.gather gather_S10000_S320000x1_S320000_n_0_n_n_0_1_1 x (wrapI 10000#32 c)
/-- The edges' exponentials, after their destination's largest score is taken away. -/
def expOf (s : VF) (x : FVec Ideal S10000 .f32) (c : VI) : VF := Host.exp (subf s (nodeAt x c))
/-- The nodes' sums. -/
def denOf (e : VF) (c : VI) : FVec Ideal S10000 .f32 :=
  Host.scatterAdd scatter_S10000_S320000x1_S320000_n_0_0_1 (broadcastInDim S10000 ![] bcast_S_S10000 (constant S_ .f32 0x00000000#32)) (colI c) e
/-- The edges' shares. -/
def shareOf (e : VF) (c : VI) : VF := Host.divf e (nodeAt (denOf e c) c)
/-- The edges in order of destination and falling share. -/
def orderOf (w : VF) (c : VI) : VI := (Host.sort3 S320000 0 comparator_i32_f32_i32_d0 c (Host.negf w) (iotaInDim S320000 32 0)).2.2
/-- How many edges each node has. -/
def histOf (c : VI) : IVec S10000 32 :=
  Host.scatter scatter_S10000_S320000x1_S320000_n_0_0_1 IntOp.addi (broadcastInDim S10000 ![] bcast_S_S10000 (constantI S_ 32 0#32))
    (wrapI 10000#32 (maxsi (allI 0#32) c)) (allI 1#32)
/-- Where each node's edges start in that order. -/
def startOf (x : IVec S10000 32) : IVec S10000 32 :=
  concatenate S10000 0 [⟨S1, broadcastInDim S1 ![] bcast_S_S1 (constantI S_ 32 0#32)⟩,
    ⟨S9999, extractStridedSlice S9999 ![0] (Host.reduceWindow IntOp.addi ![10000] ![1] ![9999] ![0] x (broadcastInDim S_ ![] bcast_S_S_ (constantI S_ 32 0#32))
      reduceWindows_S10000_S10000_w10000s1p9999_0 h_S_) slices_S10000_S9999_0⟩] concatenates_S1_S9999_S10000_d0
/-- The destinations in that order. -/
def colAt (o c : VI) : VI := Host.gather gather_S320000_S320000x1_S320000_n_0_n_n_0_1_1 c (wrapI 320000#32 o)
/-- Which places of that order are among their node's first ten. -/
def firstOf (st : IVec S10000 32) (ca : VI) : IVec S320000 1 :=
  cmpi .slt (subi (iotaInDim S320000 32 0) (nodeAt st ca)) (allI 10#32)
/-- Which edges are kept. -/
def keepOf (o : VI) (f : IVec S320000 1) : IVec S320000 1 :=
  Host.scatter scatter_S320000_S320000x1_S320000_n_0_0_1 (fun _ b => b) (broadcastInDim S320000 ![] bcast_S_S320000 (constantI S_ 1 0#1)) (wrapI 320000#32 o) f
/-- The kept weights. -/
def wkOf (w : VF) (k : IVec S320000 1) : VF := mulf w (uitofp .f32 k)
/-- Equal labels at both ends. -/
def sameOf (a b : VI) : IVec S320000 1 := andi (cmpi .eq a b) (cmpi .ne a (allI 4294967295#32))
/-- Different labels at both ends. -/
def diffOf (a b : VI) : IVec S320000 1 := andi (andi (cmpi .ne a b) (cmpi .ne a (allI 4294967295#32))) (cmpi .ne b (allI 4294967295#32))
/-- An end without a label. -/
def unlOf (a b : VI) : IVec S320000 1 := ori (cmpi .eq a (allI 4294967295#32)) (cmpi .eq b (allI 4294967295#32))
/-- The weighted messages into every node over the edges of a mask. -/
def aggOf (w : VF) (k : IVec S320000 1) (x : FVec Ideal S320000x128 .f32) (c : VI) : FVec Ideal S10000x128 .f32 :=
  Host.scatterAdd scatter_S10000x128_S320000x1_S320000x128_1_0_0_1 (broadcastInDim S10000x128 ![] bcast_S_S10000x128 (constant S_ .f32 0x00000000#32)) (colI c)
    (mulf (broadcastInDim S320000x128 ![0, 1] bcast_S320000x1_S320000x128_0_1 (broadcastInDim S320000x1 ![0] bcast_S320000_S320000x1_0 (mulf w (uitofp .f32 k)))) x)
/-- The three results side by side. -/
def sideOf (x y z : FVec Ideal S10000x128 .f32) : FVec Ideal S10000x384 .f32 :=
  concatenate S10000x384 1 [⟨S10000x128, x⟩, ⟨S10000x128, y⟩, ⟨S10000x128, z⟩] concatenates_S10000x128_S10000x128_S10000x128_S10000x384_d1

variable (m : (ℓ : Loc nD τ sig) → Buf (Elt Ideal) ℓ) (d : Dev nD)

/-- The arguments, under short names. -/
abbrev A (b : Ref sig .tc) : Buf (Elt Ideal) ((d.tc : Thread nD τ).loc b) := m ((d.tc : Thread nD τ).loc b)

set_option maxHeartbeats 4000000 in
/-- The first stage's buffers. -/
theorem stage1 :
    U1 m d main_v1 = rowsOf (A m d main_arg7) ∧ U1 m d main_v3 = colsOf (A m d main_arg7)
    ∧ U1 m d main_v20 = msgOf (A m d main_arg0) (A m d main_arg1) (A m d main_arg3) (A m d main_arg4) (A m d main_arg5) (A m d main_arg6) (rowsOf (A m d main_arg7))
    ∧ U1 m d main_v40 = scoreOf (A m d main_arg0) (A m d main_arg1) (A m d main_arg2) (rowsOf (A m d main_arg7)) (colsOf (A m d main_arg7))
    ∧ U1 m d main_v48 = memOf (U1 m d main_v40) (U1 m d main_v3) ∧ U1 m d main_cst_8 = constant (F := Ideal) S_ .f32 0xFF800000#32
    ∧ U1 m d main_arg8 = A m d main_arg8 := by
  unfold U1 U0 part0
  and_intros
  all_goals (after_reads_simp; (try simp -implicitDefEqProofs only [StableHlo.TRef.ofBuf, StableHlo.TRef.toBuf, cast_cast, cast_eq]); (try simp only [id_eq, rowsOf, colsOf, allI, colI, wrapI, rowsAt, biasAt, msgOf, rawOf, meanOf, scoreOf, memOf, maxOf, nodeAt, expOf, denOf, shareOf, orderOf, histOf, startOf, colAt, firstOf, keepOf, wkOf, sameOf, diffOf, unlOf, aggOf, sideOf]); (try rfl))

set_option maxHeartbeats 4000000 in
/-- The second stage's buffers. -/
theorem stage2 (hc : U1 m d main_cst_8 = constant (F := Ideal) S_ .f32 0xFF800000#32) :
    U2 m d main_v69 = shareOf (expOf (U1 m d main_v40) (maxOf (U1 m d main_v48)) (U1 m d main_v3)) (U1 m d main_v3)
    ∧ U2 m d main_v71 = orderOf (U2 m d main_v69) (U1 m d main_v3)
    ∧ U2 m d main_v86 = iotaInDim S320000 32 0
    ∧ U2 m d main_v93 = colAt (U2 m d main_v71) (U1 m d main_v3) ∧ U2 m d main_v94 = allI 0#32
    ∧ U2 m d main_v1 = U1 m d main_v1 ∧ U2 m d main_v3 = U1 m d main_v3 ∧ U2 m d main_v20 = U1 m d main_v20 ∧ U2 m d main_arg8 = U1 m d main_arg8 := by
  have e : U2 m d = StableHlo.after part1.1 (U1 m d) := rfl
  rw [e]
  generalize U1 m d = V at *
  unfold part1
  and_intros
  all_goals (after_reads_simp; (try rw [hc]); (try simp -implicitDefEqProofs only [StableHlo.TRef.ofBuf, StableHlo.TRef.toBuf, cast_cast, cast_eq]); (try simp only [id_eq, rowsOf, colsOf, allI, colI, wrapI, rowsAt, biasAt, msgOf, rawOf, meanOf, scoreOf, memOf, maxOf, nodeAt, expOf, denOf, shareOf, orderOf, histOf, startOf, colAt, firstOf, keepOf, wkOf, sameOf, diffOf, unlOf, aggOf, sideOf]); (try rfl))

set_option maxHeartbeats 4000000 in
/-- Where each node's edges start, from the second stage. -/
theorem stage2s : U2 m d main_v85 = startOf (histOf (U1 m d main_v3)) := by
  have e : U2 m d = StableHlo.after part1.1 (U1 m d) := rfl
  rw [e]
  generalize U1 m d = V at *
  unfold part1 startOf
  after_reads_simp
  refine congrArg₂ (fun y z => concatenate S10000 0 [⟨S1, y⟩, ⟨S9999, z⟩] concatenates_S1_S9999_S10000_d0) ?_ ?_
  · after_reads_simp
  · after_reads_simp
    simp -implicitDefEqProofs only [StableHlo.TRef.ofBuf, StableHlo.TRef.toBuf, cast_cast, cast_eq]
    simp only [id_eq, histOf, allI, colI, wrapI]

set_option maxHeartbeats 4000000 in
/-- The third stage's buffers. -/
theorem stage3 (h86 : U2 m d main_v86 = iotaInDim S320000 32 0) (h94 : U2 m d main_v94 = allI 0#32) :
    U3 m d main_v113 = wkOf (U2 m d main_v69) (keepOf (U2 m d main_v71) (firstOf (U2 m d main_v85) (U2 m d main_v93)))
    ∧ U3 m d main_v131 = sameOf (nodeAt (U2 m d main_arg8) (U2 m d main_v1)) (nodeAt (U2 m d main_arg8) (U2 m d main_v3))
    ∧ U3 m d main_v138 = diffOf (nodeAt (U2 m d main_arg8) (U2 m d main_v1)) (nodeAt (U2 m d main_arg8) (U2 m d main_v3))
    ∧ U3 m d main_v140 = cmpi .eq (nodeAt (U2 m d main_arg8) (U2 m d main_v1)) (allI 4294967295#32)
    ∧ U3 m d main_v127 = nodeAt (U2 m d main_arg8) (U2 m d main_v3)
    ∧ U3 m d main_c_36 = constantI S_ 32 4294967295#32
    ∧ U3 m d main_v3 = U2 m d main_v3 ∧ U3 m d main_v20 = U2 m d main_v20 := by
  have e : U3 m d = StableHlo.after part2.1 (U2 m d) := rfl
  rw [e]
  generalize U2 m d = V at *
  unfold part2
  and_intros
  all_goals (after_reads_simp; (try rw [h86]); (try rw [h94]); (try simp -implicitDefEqProofs only [StableHlo.TRef.ofBuf, StableHlo.TRef.toBuf, cast_cast, cast_eq]); (try simp only [id_eq, rowsOf, colsOf, allI, colI, wrapI, rowsAt, biasAt, msgOf, rawOf, meanOf, scoreOf, memOf, maxOf, nodeAt, expOf, denOf, shareOf, orderOf, histOf, startOf, colAt, firstOf, keepOf, wkOf, sameOf, diffOf, unlOf, aggOf, sideOf]); (try rfl))

set_option maxHeartbeats 4000000 in
/-- The result's buffer. -/
theorem stage4 :
    U4 m d main_v168 = sideOf (aggOf (U3 m d main_v113) (U3 m d main_v131) (U3 m d main_v20) (U3 m d main_v3))
      (aggOf (U3 m d main_v113) (U3 m d main_v138) (U3 m d main_v20) (U3 m d main_v3))
      (aggOf (U3 m d main_v113) (ori (U3 m d main_v140) (cmpi .eq (U3 m d main_v127) (broadcastInDim S320000 ![] bcast_S_S320000 (U3 m d main_c_36)))) (U3 m d main_v20) (U3 m d main_v3)) := by
  have e : U4 m d = StableHlo.after part3.1 (U3 m d) := rfl
  rw [e]
  generalize U3 m d = V at *
  unfold part3
  after_reads_simp
  (try simp -implicitDefEqProofs only [StableHlo.TRef.ofBuf, StableHlo.TRef.toBuf, cast_cast, cast_eq])
  simp only [rowsOf, colsOf, allI, colI, wrapI, rowsAt, biasAt, msgOf, rawOf, meanOf, scoreOf, memOf, maxOf, nodeAt, expOf, denOf, shareOf, orderOf, histOf, startOf, colAt, firstOf, keepOf, wkOf, sameOf, diffOf, unlOf, aggOf, sideOf]
  try rfl

end Cert.ReferenceIdeal.Run

end
-- ==== Proof.Ops.lean ====
/- The reference's gathers, scatters and running sums at an element, where every word names a node. -/
module

public import proofs.«01_k».proof.Proof.RefRead
public import proofs.«01_k».proof.Proof.Held
public import Idealize.ShloMosaic.Lib.Routing.Ops
public import Idealize.ShloMosaic.Lib.Routing.OpsSet
public import Idealize.ShloMosaic.Lib.Routing.OpsPair
public import Idealize.ShloMosaic.Lib.Pointwise
public import Idealize.ShloMosaic.Lib.ValueIdx

@[expose] public section

set_option maxRecDepth 16384

noncomputable section

namespace Cert.ReferenceIdeal.Run

open Idealize.ShloMosaic Cert.Held
open Cert.ReferenceIdeal Cert.ReferenceIdeal.Gen

/-- How many members of a finite type satisfy `P`. -/
def cnt {M : ℕ} (P : Fin M → Prop) [DecidablePred P] : ℕ := ∑ e : Fin M, if P e then 1 else 0

/-- Every word of an edge names a node. -/
def Ok (c : VI) : Prop := ∀ e : Fin 320000, (c (ix1 e)).toNat < 10000

/-- The node that an edge's word names. -/
def nd (c : VI) (e : Fin 320000) : Fin 10000 := wix 10000 (c (ix1 e))

theorem nd_val {c : VI} (hc : Ok c) (e : Fin 320000) : (nd c e).val = (c (ix1 e)).toNat := wix_val (hc e)

theorem word_eq {c : VI} (hc : Ok c) (e : Fin 320000) : c (ix1 e) = BitVec.ofNat 32 (nd c e).val := by
  rw [nd_val hc, BitVec.ofNat_toNat, BitVec.setWidth_eq]

/-- A column of words at an edge. -/
theorem col_at (x : VI) (e : Fin 320000) : colI x (ix2 e 0) = x (ix1 e) := by
  unfold colI
  exact Routing.bcCol _ x e

/-- A word that is not negative is itself as an index. -/
theorem wrap_at (n : BitVec 32) (x : VI) (e : Fin 320000) (h : (x (ix1 e)).toNat < 2 ^ 31) : wrapI n x (ix2 e 0) = x (ix1 e) := by
  unfold wrapI
  rw [col_at]
  exact Routing.wrap_of_lt (x (ix1 e)) _ h

theorem node_at {α : Type} (x : S10000.Idx → α) {c : VI} (hc : Ok c) (e : Fin 320000) : nodeAt x c (ix1 e) = x (ix1 (nd c e)) := by
  unfold nodeAt
  refine Routing.gather_take1 _ rfl rfl rfl rfl x _ e (nd c e) ?_ (by decide)
  exact (wrap_at _ _ e (lt_trans (hc e) (by decide))).trans (word_eq hc e)

theorem rows_at (h : FVec Ideal S10000x128 .f32) {c : VI} (hc : Ok c) (e : Fin 320000) (i : Fin 128) : rowsAt h c (ix2 e i) = h (ix2 (nd c e) i) := by
  unfold rowsAt
  refine Routing.gather_row _ rfl rfl rfl rfl rfl h _ e i (nd c e) ?_ (by decide)
  exact (wrap_at _ _ e (lt_trans (hc e) (by decide))).trans (word_eq hc e)

theorem colAt_at (o c : VI) (p b : Fin 320000) (hb : o (ix1 p) = BitVec.ofNat 32 b.val) : colAt o c (ix1 p) = c (ix1 b) := by
  unfold colAt
  refine Routing.gather_take1 _ rfl rfl rfl rfl c _ p b ?_ (by decide)
  refine (wrap_at _ o p ?_).trans hb
  rw [hb, BitVec.toNat_ofNat, Nat.mod_eq_of_lt (by have := b.isLt; omega)]
  have := b.isLt
  omega

/-! ### Where a scatter's updates land -/

theorem start1 (idx : IVec S320000x1 32) (e : Fin 320000) : scatter_S10000_S320000x1_S320000_n_0_0_1.start (ix1 e) idx 0 = (idx (ix2 e 0)).toInt := by
  refine congrArg (fun j => (idx j).toInt) (funext fun b => Fin.ext ?_)
  match b with
  | ⟨0, _⟩ => rfl
  | ⟨1, _⟩ => rfl

theorem window1 (e : Fin 320000) : scatter_S10000_S320000x1_S320000_n_0_0_1.window (ix1 e) 0 = 0 := rfl

/-- An update of a scatter into a number a node lands where its word says. -/
theorem lands1 (idx : IVec S320000x1 32) (e : Fin 320000) (n : Fin 10000) :
    scatter_S10000_S320000x1_S320000_n_0_0_1.resultIdx? (ix1 e) idx = some (ix1 n) ↔ (idx (ix2 e 0)).toInt = n.val := by
  refine (Routing.resultIdx?_ix1 _ (ix1 e) idx n).trans ?_
  rw [start1, window1]
  simp

theorem start2 (idx : IVec S320000x1 32) (e : Fin 320000) (q : Fin 128) : scatter_S10000x128_S320000x1_S320000x128_1_0_0_1.start (ix2 e q) idx 0 = (idx (ix2 e 0)).toInt := by
  refine congrArg (fun j => (idx j).toInt) (funext fun b => Fin.ext ?_)
  match b with
  | ⟨0, _⟩ => rfl
  | ⟨1, _⟩ => rfl

theorem start2' (idx : IVec S320000x1 32) (e : Fin 320000) (q : Fin 128) : scatter_S10000x128_S320000x1_S320000x128_1_0_0_1.start (ix2 e q) idx 1 = 0 := rfl
theorem window2 (e : Fin 320000) (q : Fin 128) : scatter_S10000x128_S320000x1_S320000x128_1_0_0_1.window (ix2 e q) 0 = 0 := rfl
theorem window2' (e : Fin 320000) (q : Fin 128) : scatter_S10000x128_S320000x1_S320000x128_1_0_0_1.window (ix2 e q) 1 = q.val := rfl

/-- An update of a scatter into a row a node lands in the row that its word says. -/
theorem lands2 (idx : IVec S320000x1 32) (e : Fin 320000) (q : Fin 128) (n : Fin 10000) (p : Fin 128) :
    scatter_S10000x128_S320000x1_S320000x128_1_0_0_1.resultIdx? (ix2 e q) idx = some (ix2 n p) ↔ (idx (ix2 e 0)).toInt = n.val ∧ q = p := by
  refine (Routing.resultIdx?_ix2 _ (ix2 e q) idx n p).trans ?_
  rw [start2, start2', window2, window2', Fin.ext_iff]
  omega

/-- A node's word read signed. -/
theorem toInt_iff {c : VI} (hc : Ok c) (e : Fin 320000) (n : Fin 10000) : (c (ix1 e)).toInt = n.val ↔ nd c e = n := by
  have h := hc e
  rw [word_eq hc, StableHlo.Predicate.toInt_ofNat_small _ (by have := (nd c e).isLt; omega), Fin.ext_iff]
  omega

/-! ### The float scatters -/

/-- The nodes' sums: over the edges into each. -/
theorem den_at (x : VF) {c : VI} (hc : Ok c) (n : Fin 10000) : denOf x c (ix1 n) = ∑ e : Fin 320000, if nd c e = n then x (ix1 e) else 0 := by
  unfold denOf
  show Ideal.ofBits .f32 0x00000000#32 + _ = _
  rw [Ideal.ofBits_zero_f32, zero_add, Finset.sum_filter, sum_idx1]
  refine Finset.sum_congr rfl fun e _ => ?_
  have h : (scatter_S10000_S320000x1_S320000_n_0_0_1.resultIdx? (ix1 e) (colI c) = some (ix1 n)) ↔ nd c e = n := by
    rw [lands1, col_at, toInt_iff hc]
  by_cases hh : nd c e = n
  · rw [if_pos hh]; exact if_pos (h.2 hh)
  · rw [if_neg hh]; exact if_neg fun q => hh (h.1 q)

/-- The weighted messages into a node. -/
theorem agg_at (w : VF) (k : IVec S320000 1) (x : FVec Ideal S320000x128 .f32) {c : VI} (hc : Ok c) (n : Fin 10000) (q : Fin 128) :
    aggOf w k x c (ix2 n q) = ∑ e : Fin 320000, if nd c e = n then (w (ix1 e) * uitofp (F := Ideal) .f32 k (ix1 e)) * x (ix2 e q) else 0 := by
  unfold aggOf
  show Ideal.ofBits .f32 0x00000000#32 + _ = _
  rw [Ideal.ofBits_zero_f32, zero_add, Finset.sum_filter, sum_idx2]
  refine Finset.sum_congr rfl fun e _ => ?_
  have h : ∀ p : Fin 128, (scatter_S10000x128_S320000x1_S320000x128_1_0_0_1.resultIdx? (ix2 e p) (colI c) = some (ix2 n q)) ↔ nd c e = n ∧ p = q := fun p => by
    rw [lands2, col_at, toInt_iff hc]
  rw [Finset.sum_eq_single q]
  · by_cases hh : nd c e = n
    · rw [if_pos hh]
      refine (if_pos ((h q).2 ⟨hh, rfl⟩)).trans ?_
      exact congrArg (· * _) (Routing.bcRows _ _ _ e q)
    · rw [if_neg hh]; exact if_neg fun r => hh ((h q).1 r).1
  · intro p _ hp
    exact if_neg fun r => hp ((h p).1 r).2
  · intro hq
    exact absurd (Finset.mem_univ q) hq

/-! ### The counts -/

/-- A list's count as a sum. -/
theorem countP_sum {α : Type} (l : List α) (p : α → Bool) : l.countP p = (l.map fun a => if p a then 1 else 0).sum := by
  induction l with
  | nil => rfl
  | cons a l ih => rw [List.countP_cons, List.map_cons, List.sum_cons, ih, Nat.add_comm]

/-- A count over all positions, in order. -/
theorem countP_cnt {M N : ℕ} (h : M = N) (P : Fin N → Prop) [DecidablePred P] : (List.finRange M).countP (fun n => decide (P (n.cast h))) = cnt P := by
  subst h
  rw [countP_sum]
  unfold cnt
  rw [Fin.sum_univ_def]
  refine congrArg List.sum (List.map_congr_left fun a _ => ?_)
  simp

/-- A node's histogram entry counts its edges. -/
theorem hist_at {c : VI} (hc : Ok c) (n : Fin 10000) : histOf c (ix1 n) = BitVec.ofNat 32 (cnt fun e : Fin 320000 => nd c e = n) := by
  have hmax : ∀ e : Fin 320000, maxsi (allI 0#32) c (ix1 e) = c (ix1 e) := fun e => by
    have h : (c (ix1 e)).toNat < 10000 := hc e
    show IntOp.maxsi 0#32 (c (ix1 e)) = c (ix1 e)
    unfold IntOp.maxsi
    refine if_neg ?_
    rw [BitVec.slt, word_eq hc, StableHlo.Predicate.toInt_ofNat_small _ (by have := (nd c e).isLt; omega), decide_eq_true_eq]
    have h0 : (0#32).toInt = 0 := by decide
    omega
  have hidx : ∀ e : Fin 320000, wrapI 10000#32 (maxsi (allI 0#32) c) (ix2 e 0) = c (ix1 e) := fun e => by
    rw [wrap_at _ _ _ (by rw [hmax]; exact lt_trans (hc e) (by decide)), hmax]
  have hi : ∀ e : Fin 320000, scatter_S10000_S320000x1_S320000_n_0_0_1.resultIdx? (ix1 e) (wrapI 10000#32 (maxsi (allI 0#32) c)) = some (ix1 n) ↔ nd c e = n := fun e => by
    rw [lands1, hidx, toInt_iff hc]
  unfold histOf Host.scatter
  refine (Routing.foldl_count _ (ix1 n) (fun p => decide (nd c (p.cast (Routing.numel1 320000)) = n)) (fun r p => ?_) _ _ 0 ?_).trans ?_
  · have hp : S320000.rowMajor.symm p = ix1 (p.cast (Routing.numel1 320000)) := Routing.symm1 p
    rw [hp]
    have h := hi (p.cast (Routing.numel1 320000))
    generalize scatter_S10000_S320000x1_S320000_n_0_0_1.resultIdx? (ix1 (p.cast (Routing.numel1 320000))) (wrapI 10000#32 (maxsi (allI 0#32) c)) = o at h ⊢
    cases o with
    | none =>
      rw [if_neg fun q => nomatch h.2 (of_decide_eq_true q)]
    | some k =>
      by_cases e : nd c (p.cast (Routing.numel1 320000)) = n
      · have hk : k = ix1 n := Option.some.inj (h.2 e)
        rw [if_pos (decide_eq_true e)]
        subst hk
        exact if_pos rfl
      · rw [if_neg fun q => e (of_decide_eq_true q)]
        exact if_neg fun q => e (h.1 (congrArg some q.symm))
  · rfl
  · rw [Nat.zero_add, countP_cnt (Routing.numel1 320000) (fun e => nd c e = n)]

/-- The edges below a node, counted node by node. -/
theorem count_below (f : Fin 320000 → ℕ) (k : ℕ) : ((List.range k).map fun i => cnt fun e : Fin 320000 => f e = i).sum = cnt fun e : Fin 320000 => f e < k := by
  induction k with
  | zero => exact (Finset.sum_eq_zero fun e _ => if_neg (Nat.not_lt_zero _)).symm
  | succ k ih =>
    rw [List.range_succ, List.map_append, List.sum_append, ih, List.map_singleton, List.sum_singleton]
    unfold cnt
    rw [← Finset.sum_add_distrib]
    refine Finset.sum_congr rfl fun e _ => ?_
    by_cases h1 : f e < k
    · rw [if_pos h1, if_neg (by omega), if_pos (by omega)]
    · by_cases h2 : f e = k
      · rw [if_neg h1, if_pos h2, if_pos (by omega)]
      · rw [if_neg h1, if_neg h2, if_neg (by omega)]

/-- A node's start counts the edges into the nodes before it. -/
theorem start_at {c : VI} (hc : Ok c) (n : Fin 10000) : startOf (histOf c) (ix1 n) = BitVec.ofNat 32 (cnt fun e : Fin 320000 => (nd c e).val < n.val) := by
  unfold startOf
  by_cases h0 : n.val = 0
  · refine (concatenate_pair_apply_left (t := S10000) (s₁ := S1) (s₂ := S9999) 0 _ _ _ _ rfl (ix1 (0 : Fin 1)) ?_).trans ?_
    · intro b
      match b with
      | ⟨0, _⟩ => exact h0.symm
    · have : (cnt fun e : Fin 320000 => (nd c e).val < n.val) = 0 := Finset.sum_eq_zero fun e _ => if_neg (by omega)
      rw [this]
      rfl
  · have hlt : n.val - 1 < 9999 := by omega
    refine (concatenate_pair_apply_right (t := S10000) (s₁ := S1) (s₂ := S9999) 0 _ _ _ _ rfl rfl (ix1 ⟨n.val - 1, hlt⟩) ?_ ?_).trans ?_
    · intro b hb
      match b with
      | ⟨0, _⟩ => exact absurd rfl hb
    · show n.val - 1 + 1 = n.val
      omega
    · refine (Routing.slice1 0 _ _ ⟨n.val - 1, hlt⟩ (by show 0 + (n.val - 1) < 10000; omega)).trans ?_
      refine (Routing.cumsum1 (Nm1 := 9999) rfl (histOf c) (fun i => cnt fun e : Fin 320000 => (nd c e).val = i) (fun i => ?_) _ rfl _ _ _).trans ?_
      · refine (hist_at hc i).trans ?_
        refine congrArg (BitVec.ofNat 32) (Finset.sum_congr rfl fun e _ => ?_)
        by_cases hh : nd c e = i
        · rw [if_pos hh, if_pos (congrArg Fin.val hh)]
        · rw [if_neg hh, if_neg fun q => hh (Fin.ext q)]
      · rw [count_below]
        refine congrArg (BitVec.ofNat 32) (Finset.sum_congr rfl fun e _ => ?_)
        show (if (nd c e).val < 0 + (n.val - 1) + 1 then 1 else 0) = _
        rw [show 0 + (n.val - 1) + 1 = n.val by omega]

/-- Where the order's words name each edge once, an edge is kept if its place in the order is. -/
theorem keep_at (o : VI) (f : IVec S320000 1) (σ : Fin 320000 → Fin 320000) (hσ : Function.Injective σ) (ho : ∀ p, o (ix1 p) = BitVec.ofNat 32 (σ p).val) (p : Fin 320000) :
    keepOf o f (ix1 (σ p)) = f (ix1 p) := by
  have hlt : ∀ p, (σ p).val < 2 ^ 31 := fun p => by have := (σ p).isLt; omega
  have hidx : ∀ i, (wrapI 320000#32 o (ix2 i 0)).toInt = (σ i).val := fun i => by
    rw [wrap_at _ _ _ (by rw [ho, BitVec.toNat_ofNat, Nat.mod_eq_of_lt (by have := hlt i; omega)]; exact hlt i), ho, StableHlo.Predicate.toInt_ofNat_small _ (hlt i)]
  unfold keepOf
  refine (Routing.scatter_set_signed scatter_S320000_S320000x1_S320000_n_0_0_1 rfl rfl rfl _ (wrapI 320000#32 o) f (σ p) (f (ix1 p)) ?_).1 ⟨p, hidx p⟩
  intro i hi
  have hi' := (hidx i).symm.trans hi
  have e : i = p := hσ (Fin.ext (by omega))
  rw [e]
  rfl

end Cert.ReferenceIdeal.Run

end
-- ==== Proof.RefVal.lean ====
/- The reference's messages, scores and largest scores at an element. -/
module

public import proofs.«01_k».proof.Proof.Ops
public import proofs.«01_k».proof.Proof.Spec
public import Idealize.ShloMosaic.Lib.Pointwise.Reduce

@[expose] public section

set_option maxRecDepth 16384

noncomputable section

namespace Cert.ReferenceIdeal.Run

open Idealize.ShloMosaic Cert.Held
open Cert.ReferenceIdeal Cert.ReferenceIdeal.Gen

theorem rows_word (ei : IVec S2x320000 32) (e : Fin 320000) : rowsOf ei (ix1 e) = ei (ix2 0 e) := by
  unfold rowsOf
  pointwise

theorem cols_word (ei : IVec S2x320000 32) (e : Fin 320000) : colsOf ei (ix1 e) = ei (ix2 1 e) := by
  unfold colsOf
  pointwise

variable (h : FVec Ideal S10000x128 .f32) (ea : FVec Ideal S320000x16 .f32) (wa : FVec Ideal S272x4 .f32) (wh : FVec Ideal S128x128 .f32)
  (bh : FVec Ideal S128 .f32) (we : FVec Ideal S16x128 .f32) (be : FVec Ideal S128 .f32) (ei : IVec S2x320000 32) (lb : IVec S10000 32)

theorem bias_at (b : FVec Ideal S128 .f32) (e : Fin 320000) (q : Fin 128) : biasAt b (ix2 e q) = b (ix1 q) := by
  unfold biasAt
  pointwise

/-- A message. -/
theorem msg_at {r : VI} (hr : Ok r) (e : Fin 320000) (q : Fin 128) :
    msgOf h ea wh bh we be r (ix2 e q) = max (((∑ i : Fin 128, h (ix2 (nd r e) i) * wh (ix2 i q)) + bh (ix1 q))
      + ((∑ i : Fin 16, ea (ix2 e i) * we (ix2 i q)) + be (ix1 q))) 0 := by
  have h1 : Host.dotGeneral dot_S320000x128_S128x128_S320000x128_1_0_0_1_n_n none (rowsAt h r) wh (ix2 e q) = ∑ i : Fin 128, h (ix2 (nd r e) i) * wh (ix2 i q) := by
    have : Host.dotGeneral dot_S320000x128_S128x128_S320000x128_1_0_0_1_n_n none (rowsAt h r) wh (ix2 e q) = ∑ i : Fin 128, rowsAt h r (ix2 e i) * wh (ix2 i q) := by pointwise
    rw [this]
    exact Finset.sum_congr rfl fun i _ => by rw [rows_at h hr]
  have h2 : Host.dotGeneral dot_S320000x16_S16x128_S320000x128_1_0_0_1_n_n none ea we (ix2 e q) = ∑ i : Fin 16, ea (ix2 e i) * we (ix2 i q) := by pointwise
  unfold msgOf
  show max ((Host.dotGeneral dot_S320000x128_S128x128_S320000x128_1_0_0_1_n_n none (rowsAt h r) wh (ix2 e q) + biasAt bh (ix2 e q))
    + (Host.dotGeneral dot_S320000x16_S16x128_S320000x128_1_0_0_1_n_n none ea we (ix2 e q) + biasAt be (ix2 e q))) (Ideal.ofBits .f32 0x00000000#32) = _
  rw [h1, h2, bias_at, bias_at, Ideal.ofBits_zero_f32]

/-- The joined row: the source's features, the destination's, the edge's. -/
theorem cat_at {r c : VI} (e : Fin 320000) :
    (∀ i : Fin 128, concatenate S320000x272 1 [⟨S320000x128, rowsAt h r⟩, ⟨S320000x128, rowsAt h c⟩, ⟨S320000x16, ea⟩] concatenates_S320000x128_S320000x128_S320000x16_S320000x272_d1 (ix2 e (⟨i.val, by omega⟩ : Fin 272)) = rowsAt h r (ix2 e i))
    ∧ (∀ i : Fin 128, concatenate S320000x272 1 [⟨S320000x128, rowsAt h r⟩, ⟨S320000x128, rowsAt h c⟩, ⟨S320000x16, ea⟩] concatenates_S320000x128_S320000x128_S320000x16_S320000x272_d1 (ix2 e (⟨128 + i.val, by omega⟩ : Fin 272)) = rowsAt h c (ix2 e i))
    ∧ (∀ i : Fin 16, concatenate S320000x272 1 [⟨S320000x128, rowsAt h r⟩, ⟨S320000x128, rowsAt h c⟩, ⟨S320000x16, ea⟩] concatenates_S320000x128_S320000x128_S320000x16_S320000x272_d1 (ix2 e (⟨256 + i.val, by omega⟩ : Fin 272)) = ea (ix2 e i)) := by
  refine ⟨fun i => ?_, fun i => ?_, fun i => ?_⟩
  · pointwise
  · pointwise
  · pointwise
    rw [dif_neg (by omega), dif_neg (by omega)]
    exact congrArg (fun j => ea (ix2 e j)) (Fin.ext (show 256 + i.val - 128 - 128 = i.val by omega))

/-- A sum of 272 terms in its three parts. -/
theorem sum_272 (f : Fin 272 → EReal) : ∑ i : Fin 272, f i = (∑ i : Fin 128, f ⟨i.val, by omega⟩) + (∑ i : Fin 128, f ⟨128 + i.val, by omega⟩) + ∑ i : Fin 16, f ⟨256 + i.val, by omega⟩ := by
  rw [Fin.sum_univ_add (a := 256) (b := 16) f, Fin.sum_univ_add (a := 128) (b := 128)]
  rfl

/-- A head score before the rectifier. -/
theorem raw_at {r c : VI} (hr : Ok r) (hc : Ok c) (e : Fin 320000) (k : Fin 4) :
    rawOf h ea wa r c (ix2 e k) = (∑ i : Fin 128, h (ix2 (nd r e) i) * wa (ix2 (⟨i.val, by omega⟩ : Fin 272) k))
      + (∑ i : Fin 128, h (ix2 (nd c e) i) * wa (ix2 (⟨128 + i.val, by omega⟩ : Fin 272) k))
      + ∑ i : Fin 16, ea (ix2 e i) * wa (ix2 (⟨256 + i.val, by omega⟩ : Fin 272) k) := by
  unfold rawOf
  obtain ⟨h1, h2, h3⟩ := cat_at h ea (r := r) (c := c) e
  generalize concatenate S320000x272 1 _ _ = x at *
  have hd : Host.dotGeneral dot_S320000x272_S272x4_S320000x4_1_0_0_1_n_n none x wa (ix2 e k) = ∑ i : Fin 272, x (ix2 e i) * wa (ix2 i k) := by pointwise
  rw [hd, sum_272]
  congr 1
  · congr 1
    · exact Finset.sum_congr rfl fun i _ => by rw [h1, rows_at h hr]
    · exact Finset.sum_congr rfl fun i _ => by rw [h2, rows_at h hc]
  · exact Finset.sum_congr rfl fun i _ => by rw [h3]

theorem four : Ideal.ofBits .f32 0x40800000#32 = ((4 : ℝ) : EReal) := by
  simp [Ideal.ofBits, Ideal.ieee, -EReal.coe_mul]; norm_num

theorem quarter : Ideal.ofBits .f32 0x3E800000#32 = ((1 / 4 : ℝ) : EReal) := by
  simp [Ideal.ofBits, Ideal.ieee, -EReal.coe_mul]; norm_num

/-- The mean of the four rectified head scores. -/
theorem mean_at (x : FVec Ideal S320000x4 .f32) (e : Fin 320000) :
    meanOf x (ix1 e) = (∑ k : Fin 4, Spec.leaky (x (ix2 e k))) * Ideal.ofBits .f32 0x3E800000#32 := by
  have hs : ∀ k : Fin 4, select (cmpf (F := Ideal) .oge x (broadcastInDim S320000x4 ![] bcast_S_S320000x4 (constant S_ .f32 0x00000000#32))) x
      (mulf (broadcastInDim S320000x4 ![] bcast_S_S320000x4 (constant S_ .f32 0x3E4CCCCD#32)) x) (ix2 e k) = Spec.leaky (x (ix2 e k)) := by
    intro k
    show Scalar.select (BitVec.ofBool (decide (Ideal.ofBits .f32 0x00000000#32 ≤ x (ix2 e k)))) (x (ix2 e k)) (Ideal.ofBits .f32 0x3E4CCCCD#32 * x (ix2 e k)) = _
    rw [Ideal.ofBits_zero_f32]
    unfold Spec.leaky
    by_cases hx : (0 : EReal) ≤ x (ix2 e k)
    · rw [decide_eq_true hx, if_pos hx]; rfl
    · rw [decide_eq_false hx, if_neg hx]; rfl
  unfold meanOf
  generalize select (cmpf (F := Ideal) .oge x _) x _ = y at *
  have hr : Host.reduceAdd y (constant (F := Ideal) S_ .f32 0x00000000#32) reducesTo_S320000x4_S320000_d1 h_S_ (ix1 e) = ∑ k : Fin 4, y (ix2 e k) := by pointwise
  show Ideal.div (Host.reduceAdd y (constant (F := Ideal) S_ .f32 0x00000000#32) reducesTo_S320000x4_S320000_d1 h_S_ (ix1 e)) (Ideal.ofBits .f32 0x40800000#32) = _
  rw [hr, four, Ideal.div_coe (by norm_num), quarter]
  exact congrArg (fun z : EReal => z * ((1 / 4 : ℝ) : EReal)) (Finset.sum_congr rfl fun k _ => hs k)

/-- A node's row of scores. -/
theorem mem_at (s : VF) {c : VI} (hc : Ok c) (n : Fin 10000) (e : Fin 320000) : memOf s c (ix2 n e) = if nd c e = n then s (ix1 e) else ⊥ := by
  have h1 : memOf s c (ix2 n e) = Scalar.select (BitVec.ofBool (c (ix1 e) == BitVec.ofNat 32 n.val)) (s (ix1 e)) (Ideal.ofBits .f32 0xFF800000#32) := by
    unfold memOf
    have e1 : broadcastInDim S10000x320000 ![0, 1] bcast_S1x320000_S10000x320000_0_1 (broadcastInDim S1x320000 ![1] bcast_S320000_S1x320000_1 c) (ix2 n e) = c (ix1 e) := by pointwise
    have e2 : broadcastInDim S10000x320000 ![0, 1] bcast_S10000x1_S10000x320000_0_1 (broadcastInDim S10000x1 ![0] bcast_S10000_S10000x1_0 (iotaInDim S10000 32 0)) (ix2 n e) = BitVec.ofNat 32 n.val := by pointwise
    have e3 : broadcastInDim S10000x320000 ![0, 1] bcast_S1x320000_S10000x320000_0_1 (broadcastInDim S1x320000 ![1] bcast_S320000_S1x320000_1 s) (ix2 n e) = s (ix1 e) := by pointwise
    rw [← e1, ← e2, ← e3]
    rfl
  have h2 : Ideal.ofBits .f32 0xFF800000#32 = ⊥ := by simp [Ideal.ofBits, Ideal.ieee]
  rw [h1, h2]
  by_cases hn : nd c e = n
  · rw [if_pos hn, word_eq hc, hn, beq_self_eq_true]; rfl
  · have hne : c (ix1 e) ≠ BitVec.ofNat 32 n.val := fun q => hn (by
      rw [← toInt_iff hc, q]
      exact StableHlo.Predicate.toInt_ofNat_small _ (by have := n.isLt; omega))
    rw [if_neg hn, beq_eq_false_iff_ne.2 hne]; rfl

/-- A row's largest entry. -/
theorem max_at (x : FVec Ideal S10000x320000 .f32) (n : Fin 10000) : maxOf x (ix1 n) = Finset.univ.fold max ⊥ fun e : Fin 320000 => (x (ix2 n e) : EReal) := by
  have h2 : Ideal.ofBits .f32 0xFF800000#32 = ⊥ := by simp [Ideal.ofBits, Ideal.ieee]
  unfold maxOf
  rw [← h2]
  refine (Host.reduce_eq_fold (max : EReal → EReal → EReal) x _ _ _ _).trans ?_
  refine (Shape.ReducesTo.fold_fiber_r2_a1 reducesTo_S10000x320000_S10000_d1 (ix1 n) max _ x).trans ?_
  rfl

/-- The largest score of a node into which an edge leads is a real number, where every score is one. -/
theorem max_real (s : VF) {c : VI} (hc : Ok c) (hs : ∀ e, ∃ y : ℝ, s (ix1 e) = (y : EReal)) (e : Fin 320000) : ∃ y : ℝ, maxOf (memOf s c) (ix1 (nd c e)) = (y : EReal) := by
  rw [max_at]
  obtain ⟨y, hy⟩ := hs e
  have hlow : (y : EReal) ≤ Finset.univ.fold max ⊥ fun e' : Fin 320000 => (memOf s c (ix2 (nd c e) e') : EReal) := by
    refine Finset.le_fold_max _ |>.2 (.inr ⟨e, Finset.mem_univ _, ?_⟩)
    rw [mem_at s hc, if_pos rfl, hy]
  have hup : (Finset.univ.fold max ⊥ fun e' : Fin 320000 => (memOf s c (ix2 (nd c e) e') : EReal)) < ⊤ := by
    refine Finset.fold_max_lt _ |>.2 ⟨bot_lt_top, fun e' _ => ?_⟩
    rw [mem_at s hc]
    split
    · obtain ⟨z, hz⟩ := hs e'
      rw [hz]; exact EReal.coe_lt_top z
    · exact bot_lt_top
  exact ⟨_, (EReal.coe_toReal (ne_of_lt hup) (ne_of_gt (lt_of_lt_of_le (EReal.bot_lt_coe y) hlow))).symm⟩

end Cert.ReferenceIdeal.Run

end
-- ==== Proof.Rank.lean ====
/- Places in a sorted order as counts, and the two comparators as one order by word and number. -/
module

public import proofs.«01_k».proof.Proof.Ops
public import Idealize.ShloMosaic.Lib.SortFacts
public import Idealize.ShloMosaic.Lib.Routing.Shapes
public import Mathlib.Data.Prod.Lex
public import Mathlib.Order.Interval.Finset.Fin

@[expose] public section

set_option maxRecDepth 16384

noncomputable section

namespace Cert.ReferenceIdeal.Run

open Idealize.ShloMosaic Cert.Held
open Cert.ReferenceIdeal Cert.ReferenceIdeal.Gen

section Order

variable {K : Type} [LinearOrder K] {M : ℕ} (key : Fin M → K) (R : Fin M → Fin M → Bool) (hR : ∀ a b, R a b = true ↔ key a < key b)
include hR

/-- A sort by a key leaves the keys rising. -/
theorem sorted_le (i j : Fin M) (h : i < j) : key (sortedFrom R i) ≤ key (sortedFrom R j) := by
  have hf : ∀ a b, R a b = false ↔ key b ≤ key a := fun a b => by
    rw [← not_lt, ← hR, Bool.not_eq_true]
  exact (hf _ _).1 (sortedFrom_noInversion R R (fun a b q => (hf b a).2 (le_of_lt ((hR a b).1 q))) (fun _ _ q => q)
    (fun a b c q r => (hf a c).2 (le_trans ((hf b c).1 r) ((hf a b).1 q))) i j h)

/-- If neighbours in the sorted order differ in their key then any two do. -/
theorem key_injective (hadj : ∀ i j : Fin M, i.val + 1 = j.val → key (sortedFrom R i) ≠ key (sortedFrom R j)) : Function.Injective key := by
  have hlt : ∀ i j : Fin M, i < j → key (sortedFrom R i) ≠ key (sortedFrom R j) := by
    intro i j h hij
    have hlt : i.val < j.val := h
    have hi : i.val + 1 < M := lt_of_le_of_lt hlt j.isLt
    refine hadj i ⟨i.val + 1, hi⟩ rfl (le_antisymm (sorted_le key R hR _ _ (Nat.lt_succ_self _)) ?_)
    rw [hij]
    by_cases hj : i.val + 1 = j.val
    · exact le_of_eq (congrArg (fun q => key (sortedFrom R q)) (Fin.ext hj))
    · exact sorted_le key R hR _ _ (show i.val + 1 < j.val by omega)
  intro a b hab
  obtain ⟨i, rfl⟩ := sortedFrom_surjective R a
  obtain ⟨j, rfl⟩ := sortedFrom_surjective R b
  rcases lt_trichotomy i j with h | h | h
  · exact absurd hab (hlt i j h)
  · rw [h]
  · exact absurd hab.symm (hlt j i h)

/-- Where the keys are different, a place in the sorted order is the number of smaller keys. -/
theorem place (hinj : Function.Injective key) (p : Fin M) : p.val = cnt fun e => key e < key (sortedFrom R p) := by
  have hiff : ∀ q : Fin M, key (sortedFrom R q) < key (sortedFrom R p) ↔ q < p := by
    intro q
    refine ⟨fun h => ?_, fun h => lt_of_le_of_ne (sorted_le key R hR q p h) fun e => ?_⟩
    · by_contra hq
      rcases lt_or_eq_of_le (not_lt.1 hq) with h' | h'
      · exact absurd h (not_lt.2 (sorted_le key R hR p q h'))
      · rw [h'] at h
        exact lt_irrefl _ h
    · exact absurd (sortedFrom_injective R (hinj e)) (ne_of_lt h)
  have hb : Function.Bijective (sortedFrom R) := ⟨sortedFrom_injective R, sortedFrom_surjective R⟩
  refine Eq.trans ?_ (Equiv.sum_comp (Equiv.ofBijective _ hb) fun e => if key e < key (sortedFrom R p) then 1 else 0)
  refine Eq.trans ?_ (Finset.sum_congr rfl fun q _ => (if_congr (hiff q) rfl rfl).symm)
  rw [← Finset.card_filter, show Finset.univ.filter (fun q : Fin M => q < p) = Finset.Iio p from by ext; simp, Fin.card_Iio]

end Order

/-! ### The comparators -/

/-- The order by word read signed, then by number. -/
def wkey (a : BitVec 32) (x : EReal) : Int ×ₗ EReal := toLex (a.toInt, x)

theorem wkey_lt (a b : BitVec 32) (x y : EReal) : wkey a x < wkey b y ↔ a.toInt < b.toInt ∨ a.toInt = b.toInt ∧ x < y := Prod.Lex.lt_iff

/-- A number made canonical is itself. -/
theorem canon (x z : EReal) :
    Scalar.select (FloatOps.cmpf (F := Ideal) (φ := .f32) .une x x) z (Scalar.select (FloatOps.cmpf (F := Ideal) (φ := .f32) .oeq x (FloatOps.ofBits (F := Ideal) .f32 0x00000000#32)) (FloatOps.ofBits (F := Ideal) .f32 0x00000000#32) x) = x := by
  have h1 : FloatOps.cmpf (F := Ideal) (φ := .f32) .une x x = 0#1 := by
    show BitVec.ofBool (decide (x ≠ x)) = 0#1
    simp
  rw [h1]
  show Scalar.select (BitVec.ofBool (decide (x = Ideal.ofBits .f32 0x00000000#32))) (Ideal.ofBits .f32 0x00000000#32) x = x
  by_cases h : x = Ideal.ofBits .f32 0x00000000#32
  · rw [decide_eq_true h]; exact h.symm
  · rw [decide_eq_false h]; rfl

/-- One bit from a decision and the bit's meaning. -/
theorem bit_or_and (p q r : Prop) [Decidable p] [Decidable q] [Decidable r] :
    (IntOp.ori (BitVec.ofBool (decide p)) (IntOp.andi (BitVec.ofBool (decide q)) (BitVec.ofBool (decide r))) == 1#1) = true ↔ p ∨ q ∧ r := by
  by_cases hp : p <;> by_cases hq : q <;> by_cases hr : r <;> simp [hp, hq, hr, IntOp.ori, IntOp.andi]

theorem slt_bit (a b : BitVec 32) : IntOp.cmpi .slt a b = BitVec.ofBool (decide (a.toInt < b.toInt)) := rfl

theorem eq_bit (a b : BitVec 32) : IntOp.cmpi .eq a b = BitVec.ofBool (decide (a.toInt = b.toInt)) := by
  show BitVec.ofBool (a == b) = _
  by_cases h : a = b
  · subst h; simp
  · have h2 : ¬ a.toInt = b.toInt := fun q => h (BitVec.eq_of_toInt_eq q)
    rw [beq_eq_false_iff_ne.2 h, decide_eq_false h2]

/-- The reference's comparator is the order by word and number. -/
theorem comparator_lt (a b i j : BitVec 32) (x y : EReal) :
    (comparator_i32_f32_i32_d0 (F := Ideal) (a, x, i) (b, y, j) == 1#1) = true ↔ wkey a x < wkey b y := by
  rw [wkey_lt]
  unfold comparator_i32_f32_i32_d0
  dsimp only
  rw [canon x, canon y, slt_bit, eq_bit]
  exact bit_or_and _ _ _

/-- A sort of two arrays by word and number, at a place. -/
theorem sort2_at {α β : Type} (cmp : α × β → α × β → BitVec 1) (x : S320000.Idx → α) (y : S320000.Idx → β) (p : Fin 320000) :
    (Host.sort2 S320000 0 cmp x y).1 (ix1 p) = x (ix1 (sortedFrom (fun k k' => cmp (x (ix1 k), y (ix1 k)) (x (ix1 k'), y (ix1 k')) == 1#1) p))
    ∧ (Host.sort2 S320000 0 cmp x y).2 (ix1 p) = y (ix1 (sortedFrom (fun k k' => cmp (x (ix1 k), y (ix1 k)) (x (ix1 k'), y (ix1 k')) == 1#1) p)) := by
  have ha : ∀ k : Fin 320000, (ix1 p : S320000.Idx).along (0 : Fin 1) k = ix1 k := fun k =>
    (Shape.Idx.along_rank1 (n := 320000) (ix1 p) k).trans (Routing.ofFin_eq_ix1 k)
  unfold Host.sort2
  rw [dif_pos (show 0 < S320000.rank by decide)]
  constructor
  · refine (congrArg x (ha _)).trans (congrArg (fun R => x (ix1 (sortedFrom R p))) (funext fun k => funext fun k' => ?_))
    exact congrArg₂ (fun i i' => cmp (x i, y i) (x i', y i') == 1#1) (ha k) (ha k')
  · refine (congrArg y (ha _)).trans (congrArg (fun R => y (ix1 (sortedFrom R p))) (funext fun k => funext fun k' => ?_))
    exact congrArg₂ (fun i i' => cmp (x i, y i) (x i', y i') == 1#1) (ha k) (ha k')

/-- The third array of a sort of three, at a place. -/
theorem sort3_at {α β γ : Type} (cmp : α × β × γ → α × β × γ → BitVec 1) (x : S320000.Idx → α) (y : S320000.Idx → β) (z : S320000.Idx → γ) (p : Fin 320000) :
    (Host.sort3 S320000 0 cmp x y z).2.2 (ix1 p)
      = z (ix1 (sortedFrom (fun k k' => cmp (x (ix1 k), y (ix1 k), z (ix1 k)) (x (ix1 k'), y (ix1 k'), z (ix1 k')) == 1#1) p)) := by
  have ha : ∀ k : Fin 320000, (ix1 p : S320000.Idx).along (0 : Fin 1) k = ix1 k := fun k =>
    (Shape.Idx.along_rank1 (n := 320000) (ix1 p) k).trans (Routing.ofFin_eq_ix1 k)
  unfold Host.sort3
  rw [dif_pos (show 0 < S320000.rank by decide)]
  refine (congrArg z (ha _)).trans (congrArg (fun R => z (ix1 (sortedFrom R p))) (funext fun k => funext fun k' => ?_))
  exact congrArg₂ (fun i i' => cmp (x i, y i, z i) (x i', y i', z i') == 1#1) (ha k) (ha k')

/-- The order in which the reference lists the edges. -/
def rankOf (w : VF) (c : VI) : Fin 320000 → Fin 320000 :=
  sortedFrom fun k k' => comparator_i32_f32_i32_d0 (F := Ideal) (c (ix1 k), (-(w (ix1 k)) : EReal), BitVec.ofNat 32 k.val) (c (ix1 k'), (-(w (ix1 k')) : EReal), BitVec.ofNat 32 k'.val) == 1#1

theorem order_at (w : VF) (c : VI) (p : Fin 320000) : orderOf w c (ix1 p) = BitVec.ofNat 32 (rankOf w c p).val := by
  unfold orderOf
  exact sort3_at _ _ _ _ p

end Cert.ReferenceIdeal.Run

end
-- ==== Proof.Keep.lean ====
/- The reference's shares and kept weights at an edge. -/
module

public import proofs.«01_k».proof.Proof.RefVal
public import proofs.«01_k».proof.Proof.Rank

@[expose] public section

set_option maxRecDepth 16384

noncomputable section

namespace Cert.ReferenceIdeal.Run

open Idealize.ShloMosaic Cert.Held
open Cert.ReferenceIdeal Cert.ReferenceIdeal.Gen

/-! ### Real sums and quotients -/

theorem real_sum {ι : Type} (S : Finset ι) (f : ι → ℝ) : ((∑ e ∈ S, f e : ℝ) : EReal) = ∑ e ∈ S, (f e : EReal) := by
  classical
  induction S using Finset.induction_on with
  | empty => simp
  | insert a S ha ih => rw [Finset.sum_insert ha, Finset.sum_insert ha, EReal.coe_add, ih]

theorem real_sum_if {M : ℕ} (P : Fin M → Prop) [DecidablePred P] (f : Fin M → ℝ) : (∑ e : Fin M, if P e then (f e : EReal) else 0) = ((∑ e : Fin M, if P e then f e else 0 : ℝ) : EReal) := by
  rw [real_sum]
  refine Finset.sum_congr rfl fun e _ => ?_
  split
  · rfl
  · rfl

/-- A node's sum of exponentials, over the reals. -/
def rden (x : Fin 320000 → ℝ) (c : VI) (n : Fin 10000) : ℝ := ∑ e : Fin 320000, if nd c e = n then Real.exp (x e) else 0

theorem rden_pos (x : Fin 320000 → ℝ) (c : VI) (e : Fin 320000) : 0 < rden x c (nd c e) := by
  unfold rden
  have h0 : ∀ e' ∈ (Finset.univ : Finset (Fin 320000)), 0 ≤ if nd c e' = nd c e then Real.exp (x e') else 0 := fun e' _ => by
    split
    · exact le_of_lt (Real.exp_pos _)
    · exact le_refl _
  refine lt_of_lt_of_le ?_ (Finset.single_le_sum h0 (Finset.mem_univ e))
  rw [if_pos rfl]
  exact Real.exp_pos _

theorem divf_at (a b : VF) (j : S320000.Idx) : Host.divf a b j = Ideal.div (a j) (b j) := rfl

/-- A share is a quotient. -/
theorem share_div (E : VF) (c : VI) (j : S320000.Idx) : shareOf E c j = Ideal.div (E j) (nodeAt (denOf E c) c j) := by
  unfold shareOf
  exact divf_at _ _ _

variable (s : VF) {c : VI} (hc : Ok c) (x : Fin 320000 → ℝ) (hx : ∀ e, s (ix1 e) = (x e : EReal))
include hc hx

/-- An edge's share is its exponential over its destination's sum of exponentials. -/
theorem share_at (e : Fin 320000) : shareOf (expOf s (maxOf (memOf s c)) c) c (ix1 e) = ((Real.exp (x e) * (1 / rden x c (nd c e)) : ℝ) : EReal) := by
  obtain ⟨μ, hμ⟩ := max_real s hc (fun e => ⟨x e, hx e⟩) e
  generalize maxOf (memOf s c) = m at *
  have he : ∀ e', nd c e' = nd c e → expOf s m c (ix1 e') = ((Real.exp (x e' - μ) : ℝ) : EReal) := fun e' h => by
    show Ideal.exp (s (ix1 e') - nodeAt m c (ix1 e')) = _
    rw [node_at m hc, h, hμ, hx, ← EReal.coe_sub, Ideal.exp_coe]
  generalize expOf s m c = E at *
  have hd : denOf E c (ix1 (nd c e)) = ((rden x c (nd c e) * Real.exp (-μ) : ℝ) : EReal) := by
    rw [den_at E hc]
    unfold rden
    rw [Finset.sum_mul]
    have h1 : ∀ e', (if nd c e' = nd c e then Real.exp (x e') else 0) * Real.exp (-μ) = if nd c e' = nd c e then Real.exp (x e' - μ) else 0 := fun e' => by
      split
      · rw [← Real.exp_add, sub_eq_add_neg]
      · rw [zero_mul]
    rw [Finset.sum_congr rfl fun e' _ => h1 e', ← real_sum_if]
    refine Finset.sum_congr rfl fun e' _ => ?_
    split
    · next h => exact he e' h
    · rfl
  have hpos := rden_pos x c e
  rw [share_div, node_at _ hc, hd, he e rfl, Ideal.div_coe (ne_of_gt (mul_pos hpos (Real.exp_pos _))), ← EReal.coe_mul]
  generalize rden x c (nd c e) = D at *
  have hreal : ∀ y : ℝ, Real.exp (y - μ) * (1 / (D * Real.exp (-μ))) = Real.exp y * (1 / D) := fun y => by
    rw [sub_eq_add_neg, Real.exp_add]
    have := (Real.exp_pos (-μ)).ne'
    have := hpos.ne'
    field_simp
  rw [hreal]

omit hc in
/-- The same share, from the graph's own exponentials. -/
theorem graph_share (g : Spec.Graph) (hd : ∀ e, g.dst e = nd c e) (hs : ∀ e, g.s e = s (ix1 e)) (e : Fin 320000) :
    Ideal.div (g.ex e) (g.den (g.dst e)) = ((Real.exp (x e) * (1 / rden x c (nd c e)) : ℝ) : EReal) := by
  have he : ∀ e', g.ex e' = ((Real.exp (x e') : ℝ) : EReal) := fun e' => by
    unfold Spec.Graph.ex
    rw [hs, hx, Ideal.exp_coe]
  have hden : g.den (g.dst e) = ((rden x c (nd c e) : ℝ) : EReal) := by
    unfold Spec.Graph.den rden
    rw [← real_sum_if]
    refine Finset.sum_congr rfl fun e' _ => ?_
    rw [hd, hd, he]
  rw [hden, he, Ideal.div_coe (ne_of_gt (rden_pos x c e)), ← EReal.coe_mul]

/-- Among the edges of one destination the shares are ordered as the scores. -/
theorem share_lt (e e' : Fin 320000) (h : nd c e = nd c e') :
    (shareOf (expOf s (maxOf (memOf s c)) c) c (ix1 e) : EReal) < shareOf (expOf s (maxOf (memOf s c)) c) c (ix1 e') ↔ x e < x e' := by
  rw [share_at s hc x hx, share_at s hc x hx, h, EReal.coe_lt_coe_iff, mul_lt_mul_iff_of_pos_right (one_div_pos.2 (rden_pos x c e')), Real.exp_lt_exp]

omit hx in
theorem toInt_nd (e : Fin 320000) : (c (ix1 e)).toInt = (nd c e).val := by
  refine (toInt_iff hc e (nd c e)).2 ?_
  rfl

/-- Where word and score tell the edges apart, so do word and share. -/
theorem key_share (hinj : Function.Injective fun e : Fin 320000 => wkey (c (ix1 e)) (s (ix1 e))) :
    Function.Injective fun e : Fin 320000 => wkey (c (ix1 e)) (-(shareOf (expOf s (maxOf (memOf s c)) c) c (ix1 e)) : EReal) := by
  have hl := share_lt s hc x hx
  generalize shareOf (expOf s (maxOf (memOf s c)) c) c = w at *
  intro e e' h
  have h' := toLex.injective h
  have h1 : (c (ix1 e)).toInt = (c (ix1 e')).toInt := congrArg Prod.fst h'
  have h2 : (-(w (ix1 e)) : EReal) = -(w (ix1 e')) := congrArg Prod.snd h'
  have h3 := neg_inj.1 h2
  have hn : nd c e = nd c e' := by
    rw [toInt_nd hc, toInt_nd hc] at h1
    exact Fin.ext (by exact_mod_cast h1)
  have h4 : x e = x e' := le_antisymm
    (not_lt.1 fun q => (ne_of_lt ((hl e' e hn.symm).2 q)) h3.symm)
    (not_lt.1 fun q => (ne_of_lt ((hl e e' hn).2 q)) h3)
  refine hinj ?_
  show wkey (c (ix1 e)) (s (ix1 e)) = wkey (c (ix1 e')) (s (ix1 e'))
  rw [hx, hx, h4]
  unfold wkey
  rw [h1]

/-- How many edges of an edge's destination have a larger score. -/
def larger (c : VI) (x : Fin 320000 → ℝ) (e : Fin 320000) : ℕ := by
  classical exact cnt fun e' => nd c e' = nd c e ∧ x e < x e'

/-- An edge's place in the reference's order: after the edges of smaller destinations and those of its own with a larger score. -/
theorem rank_val (hinj : Function.Injective fun e : Fin 320000 => wkey (c (ix1 e)) (s (ix1 e))) (p : Fin 320000) :
    p.val = (cnt fun e => (nd c e).val < (nd c (rankOf (shareOf (expOf s (maxOf (memOf s c)) c) c) c p)).val)
      + larger c x (rankOf (shareOf (expOf s (maxOf (memOf s c)) c) c) c p) := by
  classical
  have hk := key_share s hc x hx hinj
  have hl := share_lt s hc x hx
  generalize shareOf (expOf s (maxOf (memOf s c)) c) c = w at *
  have hp := place (fun e : Fin 320000 => wkey (c (ix1 e)) (-(w (ix1 e)) : EReal)) _ (fun a b => comparator_lt (c (ix1 a)) (c (ix1 b)) (BitVec.ofNat 32 a.val) (BitVec.ofNat 32 b.val) (-(w (ix1 a)) : EReal) (-(w (ix1 b)) : EReal)) hk p
  refine hp.trans ?_
  change (cnt fun e => wkey (c (ix1 e)) (-(w (ix1 e)) : EReal) < wkey (c (ix1 (rankOf w c p))) (-(w (ix1 (rankOf w c p))) : EReal)) = _
  generalize rankOf w c p = a
  unfold larger cnt
  rw [← Finset.sum_add_distrib]
  refine Finset.sum_congr rfl fun e _ => ?_
  have h1 : (wkey (c (ix1 e)) (-(w (ix1 e)) : EReal) < wkey (c (ix1 a)) (-(w (ix1 a)) : EReal)) ↔ (nd c e).val < (nd c a).val ∨ (nd c e = nd c a ∧ x a < x e) := by
    rw [wkey_lt, toInt_nd hc, toInt_nd hc, EReal.neg_lt_neg_iff]
    refine or_congr (by omega) ⟨fun q => ?_, fun q => ?_⟩
    · have hn : nd c e = nd c a := Fin.ext (by exact_mod_cast q.1)
      exact ⟨hn, (hl a e hn.symm).1 q.2⟩
    · exact ⟨by rw [q.1], (hl a e q.1.symm).2 q.2⟩
  rw [if_congr h1 rfl rfl]
  by_cases ha : (nd c e).val < (nd c a).val
  · have hb : ¬ (nd c e = nd c a ∧ x a < x e) := fun q => by rw [q.1] at ha; exact lt_irrefl _ ha
    rw [if_pos (.inl ha), if_pos ha, if_neg hb]
  · by_cases hb : nd c e = nd c a ∧ x a < x e
    · rw [if_pos (.inr hb), if_neg ha, if_pos hb]
    · rw [if_neg (fun q => q.elim ha hb), if_neg ha, if_neg hb]

/-- A place of the order is among its node's first ten if fewer than ten edges of that node have a larger score. -/
theorem first_at (hinj : Function.Injective fun e : Fin 320000 => wkey (c (ix1 e)) (s (ix1 e))) (p : Fin 320000) :
    firstOf (startOf (histOf c)) (colAt (orderOf (shareOf (expOf s (maxOf (memOf s c)) c) c) c) c) (ix1 p)
      = BitVec.ofBool (decide (larger c x (rankOf (shareOf (expOf s (maxOf (memOf s c)) c) c) c p) < 10)) := by
  have hp := rank_val s hc x hx hinj p
  generalize shareOf (expOf s (maxOf (memOf s c)) c) c = w at *
  have hca : ∀ q, colAt (orderOf w c) c (ix1 q) = c (ix1 (rankOf w c q)) := fun q => colAt_at _ _ _ _ (order_at w c q)
  have hok : Ok (colAt (orderOf w c) c) := fun q => by rw [hca]; exact hc _
  have hnd : nd (colAt (orderOf w c) c) p = nd c (rankOf w c p) := congrArg (wix 10000) (hca p)
  have hpl := p.isLt
  have h1 : BitVec.ofNat 32 p.val - BitVec.ofNat 32 (cnt fun e => (nd c e).val < (nd c (rankOf w c p)).val) = BitVec.ofNat 32 (larger c x (rankOf w c p)) := by
    conv_lhs => rw [hp]
    rw [BitVec.ofNat_add]
    exact add_sub_cancel_left _ _
  show BitVec.ofBool (BitVec.slt (BitVec.ofNat 32 p.val - nodeAt (startOf (histOf c)) (colAt (orderOf w c) c) (ix1 p)) 10#32) = _
  rw [node_at _ hok, hnd, start_at hc, h1, BitVec.slt, StableHlo.Predicate.toInt_ofNat_small _ (by omega)]
  have h10 : (10#32).toInt = 10 := by decide
  rw [h10]
  refine congrArg BitVec.ofBool (decide_eq_decide.2 ?_)
  omega

/-- An edge is kept if fewer than ten edges of its destination have a larger score. -/
theorem kept_at (hinj : Function.Injective fun e : Fin 320000 => wkey (c (ix1 e)) (s (ix1 e))) (e : Fin 320000) :
    keepOf (orderOf (shareOf (expOf s (maxOf (memOf s c)) c) c) c) (firstOf (startOf (histOf c)) (colAt (orderOf (shareOf (expOf s (maxOf (memOf s c)) c) c) c) c)) (ix1 e)
      = BitVec.ofBool (decide (larger c x e < 10)) := by
  have hf := first_at s hc x hx hinj
  generalize shareOf (expOf s (maxOf (memOf s c)) c) c = w at *
  obtain ⟨p, rfl⟩ : ∃ p, rankOf w c p = e := sortedFrom_surjective _ e
  rw [keep_at _ _ (rankOf w c) (sortedFrom_injective _) (order_at w c)]
  exact hf p

omit hc hx in
theorem times_true (y : EReal) : y * (uitofp (F := Ideal) .f32 (fun _ : S320000.Idx => BitVec.ofBool true) (ix1 (0 : Fin 320000)) : EReal) = y := by
  show y * (((1#1 : BitVec 1).toNat : ℝ) : EReal) = y
  simp

omit hc hx in
theorem times_false (y : EReal) : y * (uitofp (F := Ideal) .f32 (fun _ : S320000.Idx => BitVec.ofBool false) (ix1 (0 : Fin 320000)) : EReal) = 0 := by
  show y * (((0#1 : BitVec 1).toNat : ℝ) : EReal) = 0
  simp

omit hc hx in
/-- A number times a decision's bit. -/
theorem times_bit (k : IVec S320000 1) (e : Fin 320000) (P : Prop) [Decidable P] (hk : k (ix1 e) = BitVec.ofBool (decide P)) (y : EReal) :
    y * (uitofp (F := Ideal) .f32 k (ix1 e) : EReal) = if P then y else 0 := by
  have h1 : (uitofp (F := Ideal) .f32 k (ix1 e) : EReal) = uitofp (F := Ideal) .f32 (fun _ : S320000.Idx => BitVec.ofBool (decide P)) (ix1 (0 : Fin 320000)) := by
    rw [← hk]
    rfl
  rw [h1]
  by_cases hP : P
  · rw [if_pos hP, decide_eq_true hP, times_true]
  · rw [if_neg hP, decide_eq_false hP, times_false]

/-- A kept weight is the graph's weight. -/
theorem wk_at (g : Spec.Graph) (hd : ∀ e, g.dst e = nd c e) (hs : ∀ e, g.s e = s (ix1 e))
    (hinj : Function.Injective fun e : Fin 320000 => wkey (c (ix1 e)) (s (ix1 e))) (e : Fin 320000) :
    wkOf (shareOf (expOf s (maxOf (memOf s c)) c) c) (keepOf (orderOf (shareOf (expOf s (maxOf (memOf s c)) c) c) c) (firstOf (startOf (histOf c)) (colAt (orderOf (shareOf (expOf s (maxOf (memOf s c)) c) c) c) c))) (ix1 e)
      = g.wt e := by
  classical
  have hk := kept_at s hc x hx hinj e
  have hw := share_at s hc x hx e
  have hab : g.above (g.dst e) (g.ex e) = larger c x e := by
    unfold Spec.Graph.above larger cnt
    refine Finset.sum_congr rfl fun e' _ => if_congr ?_ rfl rfl
    unfold Spec.Graph.ex
    rw [hd, hd, hs, hs, hx, hx, Ideal.exp_coe, Ideal.exp_coe, EReal.coe_lt_coe_iff, Real.exp_lt_exp]
  unfold Spec.Graph.wt
  rw [hab, graph_share s x hx g hd hs, ← hw]
  exact times_bit _ e _ hk _

end Cert.ReferenceIdeal.Run

end
-- ==== Proof.Meaning.lean ====
/- What the value claim's precondition says: labels, finite scores, and no two edges alike in destination and score. -/
module

public import proofs.«01_k».proof.Proof.Scores
public import proofs.«01_k».proof.Proof.Keep

@[expose] public section

set_option maxRecDepth 65536

noncomputable section

namespace Cert.ReferenceIdeal.Run

open Idealize.ShloMosaic Cert.Held
open Cert.ReferenceIdeal Cert.ReferenceIdeal.Gen

variable (h : FVec Ideal S10000x128 .f32) (ea : FVec Ideal S320000x16 .f32) (wa : FVec Ideal S272x4 .f32) (wh : FVec Ideal S128x128 .f32)
  (bh : FVec Ideal S128 .f32) (we : FVec Ideal S16x128 .f32) (be : FVec Ideal S128 .f32) (ei : IVec S2x320000 32) (lb : IVec S10000 32)

/-- The precondition's comparator is the order by word and number. -/
theorem pre_comparator_lt (a b : BitVec 32) (x y : EReal) :
    (Pre_distinct_scores.comparator_i32_f32_d0 (F := Ideal) (a, x) (b, y) == 1#1) = true ↔ wkey a x < wkey b y := by
  rw [wkey_lt]
  unfold Pre_distinct_scores.comparator_i32_f32_d0
  dsimp only
  rw [canon x, canon y, slt_bit, eq_bit]
  exact bit_or_and _ _ _

/-- The labels' part. -/
theorem pre_labels : (Pre_distinct_scores.fn (F := Ideal) h ea wa wh bh we be ei lb).2.1 = cmpi .sge lb (broadcastInDim S10000 ![] (by decide) (constantI S_ 32 0#32)) := by
  unfold Pre_distinct_scores.fn Pre_distinct_scores.fn_part1 Pre_distinct_scores.fn_part2
  rfl

/-- The scores' part. -/
theorem pre_finite : (Pre_distinct_scores.fn (F := Ideal) h ea wa wh bh we be ei lb).2.2.1
    = cmpf .olt (Host.absf (scoreOf h ea wa (rowsOf ei) (colsOf ei))) (broadcastInDim S320000 ![] bcast_S_S320000 (constant S_ .f32 0x7F800000#32)) := by
  unfold Pre_distinct_scores.fn Pre_distinct_scores.fn_part1 Pre_distinct_scores.fn_part2 Pre_distinct_scores.fn_leaky_relu Pre_distinct_scores.fn_where
  unfold scoreOf meanOf rawOf rowsAt rowsOf colsOf wrapI colI allI
  rfl

/-- The neighbours' part. -/
theorem pre_adjacent : (Pre_distinct_scores.fn (F := Ideal) h ea wa wh bh we be ei lb).2.2.2
    = ori (cmpi .ne (extractStridedSlice Pre_distinct_scores.S319999 ![1] (Host.sort2 S320000 0 (Pre_distinct_scores.comparator_i32_f32_d0 (F := Ideal)) (colsOf ei) (scoreOf h ea wa (rowsOf ei) (colsOf ei))).1 Pre_distinct_scores.Gen.slices_S320000_S319999_1)
        (extractStridedSlice Pre_distinct_scores.S319999 ![0] (Host.sort2 S320000 0 (Pre_distinct_scores.comparator_i32_f32_d0 (F := Ideal)) (colsOf ei) (scoreOf h ea wa (rowsOf ei) (colsOf ei))).1 Pre_distinct_scores.Gen.slices_S320000_S319999_0))
      (cmpf .une (extractStridedSlice Pre_distinct_scores.S319999 ![1] (Host.sort2 S320000 0 (Pre_distinct_scores.comparator_i32_f32_d0 (F := Ideal)) (colsOf ei) (scoreOf h ea wa (rowsOf ei) (colsOf ei))).2 Pre_distinct_scores.Gen.slices_S320000_S319999_1)
        (extractStridedSlice Pre_distinct_scores.S319999 ![0] (Host.sort2 S320000 0 (Pre_distinct_scores.comparator_i32_f32_d0 (F := Ideal)) (colsOf ei) (scoreOf h ea wa (rowsOf ei) (colsOf ei))).2 Pre_distinct_scores.Gen.slices_S320000_S319999_0)) := by
  unfold Pre_distinct_scores.fn Pre_distinct_scores.fn_part1 Pre_distinct_scores.fn_part2 Pre_distinct_scores.fn_leaky_relu Pre_distinct_scores.fn_where
  unfold scoreOf meanOf rawOf rowsAt rowsOf colsOf wrapI colI allI
  rfl

variable (hpre : (Pre_distinct_scores.fn (F := Ideal) h ea wa wh bh we be ei lb).1 = (fun _ => 1#1) ∧ (Pre_distinct_scores.fn (F := Ideal) h ea wa wh bh we be ei lb).2.1 = (fun _ => 1#1)
  ∧ (Pre_distinct_scores.fn (F := Ideal) h ea wa wh bh we be ei lb).2.2.1 = (fun _ => 1#1) ∧ (Pre_distinct_scores.fn (F := Ideal) h ea wa wh bh we be ei lb).2.2.2 = fun _ => 1#1)
include hpre

/-- Every source word names a node. -/
theorem rows_ok : Ok (rowsOf ei) := fun e => by
  rw [rows_word]
  exact Frames.range_snd _ _ _ _ _ _ _ _ _ hpre.1 _

/-- Every destination word names a node. -/
theorem cols_ok : Ok (colsOf ei) := fun e => by
  rw [cols_word]
  exact Frames.range_snd _ _ _ _ _ _ _ _ _ hpre.1 _

omit hpre in
theorem bit_true {b : Bool} (hb : BitVec.ofBool b = 1#1) : b = true := by
  revert b; decide

/-- No label is minus one. -/
theorem label_ne (n : Fin 10000) : lb (ix1 n) ≠ 4294967295#32 := by
  have h1 := congrFun ((pre_labels h ea wa wh bh we be ei lb).symm.trans hpre.2.1) (ix1 n)
  have h2 : BitVec.ofBool ((0#32).sle (lb (ix1 n))) = 1#1 := h1
  have h3 := bit_true h2
  intro q
  rw [q] at h3
  revert h3
  decide

/-- Every score is a real number. -/
theorem score_real (e : Fin 320000) : ∃ y : ℝ, scoreOf h ea wa (rowsOf ei) (colsOf ei) (ix1 e) = (y : EReal) := by
  have h1 := congrFun ((pre_finite h ea wa wh bh we be ei lb).symm.trans hpre.2.2.1) (ix1 e)
  generalize scoreOf h ea wa (rowsOf ei) (colsOf ei) = s at *
  have h2 : BitVec.ofBool (decide (max (s (ix1 e) : EReal) (-(s (ix1 e) : EReal)) < Ideal.ofBits .f32 0x7F800000#32)) = 1#1 := h1
  have h3 := of_decide_eq_true (bit_true h2)
  have h4 : Ideal.ofBits .f32 0x7F800000#32 = ⊤ := by simp [Ideal.ofBits, Ideal.ieee]
  rw [h4, max_lt_iff] at h3
  refine ⟨_, (EReal.coe_toReal (ne_of_lt h3.1) fun q => ?_).symm⟩
  rw [q] at h3
  exact absurd h3.2 (by simp)

omit hpre in
theorem bit_or {p q : Bool} (hb : IntOp.ori (BitVec.ofBool p) (BitVec.ofBool q) = 1#1) : p = true ∨ q = true := by
  revert p q; decide

omit hpre in
theorem slice_at {α : Type} (k : ℕ) (x : S320000.Idx → α) (hs : S320000.Slices ![k] Pre_distinct_scores.S319999) (i : Fin 319999) (hi : k + i.val < 320000) :
    extractStridedSlice Pre_distinct_scores.S319999 ![k] x hs (ix1 i) = x (ix1 ⟨k + i.val, hi⟩) := Routing.slice1 k x hs i hi

/-- No two edges are alike in destination and score. -/
theorem score_distinct : Function.Injective fun e : Fin 320000 => wkey (colsOf ei (ix1 e)) (scoreOf h ea wa (rowsOf ei) (colsOf ei) (ix1 e)) := by
  have h1 := (pre_adjacent h ea wa wh bh we be ei lb).symm.trans hpre.2.2.2
  generalize scoreOf h ea wa (rowsOf ei) (colsOf ei) = s at *
  generalize colsOf ei = c at *
  refine key_injective (fun e : Fin 320000 => wkey (c (ix1 e)) (s (ix1 e))) _
    (fun a b => pre_comparator_lt (c (ix1 a)) (c (ix1 b)) (s (ix1 a)) (s (ix1 b))) fun i j hij hk => ?_
  have hi : i.val < 319999 := by have := j.isLt; omega
  have h2 := congrFun h1 (ix1 (⟨i.val, hi⟩ : Fin 319999))
  have e1 : (⟨1 + i.val, by omega⟩ : Fin 320000) = j := Fin.ext (by show 1 + i.val = j.val; omega)
  have e0 : (⟨0 + i.val, by omega⟩ : Fin 320000) = i := Fin.ext (Nat.zero_add _)
  have hA := fun p => (sort2_at (Pre_distinct_scores.comparator_i32_f32_d0 (F := Ideal)) c s p).1
  have hB := fun p => (sort2_at (Pre_distinct_scores.comparator_i32_f32_d0 (F := Ideal)) c s p).2
  generalize (Host.sort2 S320000 0 (Pre_distinct_scores.comparator_i32_f32_d0 (F := Ideal)) c s) = z at *
  have h3 : IntOp.ori (IntOp.cmpi .ne (extractStridedSlice Pre_distinct_scores.S319999 ![1] z.1 Pre_distinct_scores.Gen.slices_S320000_S319999_1 (ix1 ⟨i.val, hi⟩)) (extractStridedSlice Pre_distinct_scores.S319999 ![0] z.1 Pre_distinct_scores.Gen.slices_S320000_S319999_0 (ix1 ⟨i.val, hi⟩)))
      (BitVec.ofBool (decide (extractStridedSlice Pre_distinct_scores.S319999 ![1] z.2 Pre_distinct_scores.Gen.slices_S320000_S319999_1 (ix1 ⟨i.val, hi⟩) ≠ extractStridedSlice Pre_distinct_scores.S319999 ![0] z.2 Pre_distinct_scores.Gen.slices_S320000_S319999_0 (ix1 ⟨i.val, hi⟩)))) = 1#1 := h2
  rw [slice_at 1 _ _ ⟨i.val, hi⟩ (by show 1 + i.val < 320000; omega), slice_at 0 _ _ ⟨i.val, hi⟩ (by show 0 + i.val < 320000; omega),
    slice_at 1 _ _ ⟨i.val, hi⟩ (by show 1 + i.val < 320000; omega), slice_at 0 _ _ ⟨i.val, hi⟩ (by show 0 + i.val < 320000; omega)] at h3
  dsimp only at h3
  rw [e1, e0, hA, hA, hB, hB] at h3
  have hk' := toLex.injective hk
  have k1 := congrArg Prod.fst hk'
  have k2 := congrArg Prod.snd hk'
  dsimp only at k1 k2
  have k3 := BitVec.eq_of_toInt_eq k1
  rcases bit_or h3 with q | q
  · have := bne_iff_ne.1 q
    exact this k3.symm
  · exact of_decide_eq_true q k2.symm

end Cert.ReferenceIdeal.Run

end
-- ==== Proof.RefOut.lean ====
/- The reference's result is the graph's. -/
module

public import proofs.«01_k».proof.Proof.Keep

@[expose] public section

set_option maxRecDepth 16384

noncomputable section

namespace Cert.ReferenceIdeal.Run

open Idealize.ShloMosaic Idealize.ShloMosaic.TcCoe Idealize.SL.Sem Cert.Held
open Cert.ReferenceIdeal Cert.ReferenceIdeal.Gen

/-- The messages of a mask, where the mask is a decision and the weights and messages are a graph's. -/
theorem agg_part (g : Spec.Graph) {c : VI} (hc : Ok c) (hd : ∀ e, g.dst e = nd c e) (w : VF) (hw : ∀ e, w (ix1 e) = g.wt e)
    (x : FVec Ideal S320000x128 .f32) (hx : ∀ e q, x (ix2 e q) = g.ms e q) (k : IVec S320000 1) (P : Fin 320000 → Prop) [DecidablePred P]
    (hk : ∀ e, k (ix1 e) = BitVec.ofBool (decide (P e))) (n : Fin 10000) (q : Fin 128) : aggOf w k x c (ix2 n q) = g.part P n q := by
  rw [agg_at w k x hc]
  unfold Spec.Graph.part
  refine Finset.sum_congr rfl fun e _ => ?_
  rw [times_bit k e (P e) (hk e), hd, hw, hx]
  by_cases h1 : nd c e = n
  · by_cases h2 : P e
    · rw [if_pos h1, if_pos h2, if_pos ⟨h1, h2⟩]
    · rw [if_pos h1, if_neg h2, if_neg (fun z => h2 z.2), zero_mul]
  · rw [if_neg h1, if_neg (fun z => h1 z.1)]

/-- A mask without edges yields nothing. -/
theorem part_none (g : Spec.Graph) (n : Fin 10000) (q : Fin 128) : g.part (fun _ => False) n q = 0 :=
  Finset.sum_eq_zero fun e _ => if_neg fun z => z.2

/-- The three results side by side, at a column. -/
theorem side_at (x y z : FVec Ideal S10000x128 .f32) (n : Fin 10000) (j : Fin 384) :
    sideOf x y z (ix2 n j) = if h : j.val < 128 then x (ix2 n ⟨j.val, h⟩) else if h : j.val < 256 then y (ix2 n ⟨j.val - 128, by omega⟩) else z (ix2 n ⟨j.val - 256, by omega⟩) := by
  unfold sideOf
  pointwise
  by_cases h1 : j.val < 128
  · rw [dif_pos h1, dif_pos h1]
  · rw [dif_neg h1, dif_neg h1]
    by_cases h2 : j.val < 256
    · rw [dif_pos h2, dif_pos (by omega)]
    · rw [dif_neg h2, dif_neg (by omega)]
      exact congrArg (fun i => z (ix2 n i)) (Fin.ext (by show j.val - 128 - 128 = j.val - 256; omega))

theorem word_ne {a : BitVec 32} {w : BitVec 32} (h : a ≠ w) : IntOp.cmpi .ne a w = 1#1 := by
  show BitVec.ofBool (a != w) = 1#1
  rw [bne_iff_ne.2 h]
  rfl

theorem word_not_eq {a : BitVec 32} {w : BitVec 32} (h : a ≠ w) : IntOp.cmpi .eq a w = 0#1 := by
  show BitVec.ofBool (a == w) = 0#1
  rw [beq_eq_false_iff_ne.2 h]
  rfl

/-- The first mask, where no label is minus one. -/
theorem same_at (a b : VI) (e : Fin 320000) (ha : a (ix1 e) ≠ 4294967295#32) (P : Prop) [Decidable P] (hP : P ↔ a (ix1 e) = b (ix1 e)) :
    sameOf a b (ix1 e) = BitVec.ofBool (decide P) := by
  show IntOp.andi (IntOp.cmpi .eq (a (ix1 e)) (b (ix1 e))) (IntOp.cmpi .ne (a (ix1 e)) 4294967295#32) = _
  rw [word_ne ha]
  by_cases h : P
  · rw [hP.1 h, decide_eq_true h]
    show BitVec.ofBool (b (ix1 e) == b (ix1 e)) &&& 1#1 = _
    rw [beq_self_eq_true]; rfl
  · rw [word_not_eq fun q => h (hP.2 q), decide_eq_false h]; rfl

/-- The second mask, where no label is minus one. -/
theorem diff_at (a b : VI) (e : Fin 320000) (ha : a (ix1 e) ≠ 4294967295#32) (hb : b (ix1 e) ≠ 4294967295#32) (P : Prop) [Decidable P] (hP : P ↔ a (ix1 e) = b (ix1 e)) :
    diffOf a b (ix1 e) = BitVec.ofBool (decide (¬ P)) := by
  show IntOp.andi (IntOp.andi (IntOp.cmpi .ne (a (ix1 e)) (b (ix1 e))) (IntOp.cmpi .ne (a (ix1 e)) 4294967295#32)) (IntOp.cmpi .ne (b (ix1 e)) 4294967295#32) = _
  rw [word_ne ha, word_ne hb]
  by_cases h : P
  · rw [hP.1 h, decide_eq_false (not_not.2 h)]
    show (BitVec.ofBool (b (ix1 e) != b (ix1 e)) &&& 1#1) &&& 1#1 = _
    rw [bne_self_eq_false]; rfl
  · rw [word_ne fun q => h (hP.2 q), decide_eq_true h]; rfl

/-- The third mask, where no label is minus one. -/
theorem unl_at (a b : VI) (e : Fin 320000) (ha : a (ix1 e) ≠ 4294967295#32) (hb : b (ix1 e) ≠ 4294967295#32) :
    ori (cmpi .eq a (allI 4294967295#32)) (cmpi .eq b (broadcastInDim S320000 ![] bcast_S_S320000 (constantI S_ 32 4294967295#32))) (ix1 e) = BitVec.ofBool (decide False) := by
  show IntOp.ori (IntOp.cmpi .eq (a (ix1 e)) 4294967295#32) (IntOp.cmpi .eq (b (ix1 e)) 4294967295#32) = _
  rw [word_not_eq ha, word_not_eq hb]
  rfl

variable (h : FVec Ideal S10000x128 .f32) (ea : FVec Ideal S320000x16 .f32) (wa : FVec Ideal S272x4 .f32) (wh : FVec Ideal S128x128 .f32)
  (bh : FVec Ideal S128 .f32) (we : FVec Ideal S16x128 .f32) (be : FVec Ideal S128 .f32) (ei : IVec S2x320000 32) (lb : IVec S10000 32)

theorem graph_score (hr : Ok (rowsOf ei)) (hc : Ok (colsOf ei)) (e : Fin 320000) :
    (Spec.graph h ea wa wh bh we be ei lb).s e = scoreOf h ea wa (rowsOf ei) (colsOf ei) (ix1 e) := by
  unfold scoreOf
  rw [mean_at]
  refine congrArg (fun z : EReal => z * Ideal.ofBits .f32 0x3E800000#32) (Finset.sum_congr rfl fun k _ => congrArg Spec.leaky ?_)
  rw [raw_at h ea wa hr hc]
  unfold nd
  rw [rows_word, cols_word]

theorem graph_msg (hr : Ok (rowsOf ei)) (e : Fin 320000) (q : Fin 128) :
    msgOf h ea wh bh we be (rowsOf ei) (ix2 e q) = (Spec.graph h ea wa wh bh we be ei lb).ms e q := by
  rw [msg_at h ea wh bh we be hr]
  unfold nd
  rw [rows_word]
  rfl

theorem graph_dst (e : Fin 320000) : (Spec.graph h ea wa wh bh we be ei lb).dst e = nd (colsOf ei) e := by
  unfold nd
  rw [cols_word]
  rfl

theorem graph_src (e : Fin 320000) : (Spec.graph h ea wa wh bh we be ei lb).src e = nd (rowsOf ei) e := by
  unfold nd
  rw [rows_word]
  rfl

/-- The reference's kept weights as a function of the scores and destinations. -/
def keptW (s : VF) (c : VI) : VF :=
  wkOf (shareOf (expOf s (maxOf (memOf s c)) c) c) (keepOf (orderOf (shareOf (expOf s (maxOf (memOf s c)) c) c) c) (firstOf (startOf (histOf c)) (colAt (orderOf (shareOf (expOf s (maxOf (memOf s c)) c) c) c) c)))

/-- The reference's result is the graph's, where the indices are in range, the scores real and apart, and no label is minus one. -/
theorem ref_out (hr : Ok (rowsOf ei)) (hc : Ok (colsOf ei)) (hl : ∀ n : Fin 10000, lb (ix1 n) ≠ 4294967295#32)
    (hs : ∀ e : Fin 320000, ∃ y : ℝ, scoreOf h ea wa (rowsOf ei) (colsOf ei) (ix1 e) = (y : EReal))
    (hinj : Function.Injective fun e : Fin 320000 => wkey (colsOf ei (ix1 e)) (scoreOf h ea wa (rowsOf ei) (colsOf ei) (ix1 e))) (n : Fin 10000) (j : Fin 384) :
    sideOf (aggOf (keptW (scoreOf h ea wa (rowsOf ei) (colsOf ei)) (colsOf ei)) (sameOf (nodeAt lb (rowsOf ei)) (nodeAt lb (colsOf ei))) (msgOf h ea wh bh we be (rowsOf ei)) (colsOf ei))
      (aggOf (keptW (scoreOf h ea wa (rowsOf ei) (colsOf ei)) (colsOf ei)) (diffOf (nodeAt lb (rowsOf ei)) (nodeAt lb (colsOf ei))) (msgOf h ea wh bh we be (rowsOf ei)) (colsOf ei))
      (aggOf (keptW (scoreOf h ea wa (rowsOf ei) (colsOf ei)) (colsOf ei))
        (ori (cmpi .eq (nodeAt lb (rowsOf ei)) (allI 4294967295#32)) (cmpi .eq (nodeAt lb (colsOf ei)) (broadcastInDim S320000 ![] bcast_S_S320000 (constantI S_ 32 4294967295#32))))
        (msgOf h ea wh bh we be (rowsOf ei)) (colsOf ei)) (ix2 n j)
      = (Spec.graph h ea wa wh bh we be ei lb).out n j := by
  classical
  choose x hx using hs
  have hd := graph_dst h ea wa wh bh we be ei lb
  have hsr := graph_src h ea wa wh bh we be ei lb
  have hsc := graph_score h ea wa wh bh we be ei lb hr hc
  have hm := graph_msg h ea wa wh bh we be ei lb hr
  have hlab : ∀ n, (Spec.graph h ea wa wh bh we be ei lb).lab n = lb (ix1 n) := fun _ => rfl
  generalize Spec.graph h ea wa wh bh we be ei lb = g at *
  generalize scoreOf h ea wa (rowsOf ei) (colsOf ei) = s at *
  generalize msgOf h ea wh bh we be (rowsOf ei) = ms at *
  generalize rowsOf ei = r at *
  generalize colsOf ei = c at *
  have hw : ∀ e, keptW s c (ix1 e) = g.wt e := fun e => by
    unfold keptW
    exact wk_at s hc x hx g hd hsc hinj e
  generalize keptW s c = w at *
  have hR : ∀ e, nodeAt lb r (ix1 e) = lb (ix1 (nd r e)) := node_at lb hr
  have hC : ∀ e, nodeAt lb c (ix1 e) = lb (ix1 (nd c e)) := node_at lb hc
  generalize nodeAt lb r = a at *
  generalize nodeAt lb c = b at *
  have ha : ∀ e, a (ix1 e) ≠ 4294967295#32 := fun e => by rw [hR]; exact hl _
  have hb : ∀ e, b (ix1 e) ≠ 4294967295#32 := fun e => by rw [hC]; exact hl _
  have hP : ∀ e, g.same e ↔ a (ix1 e) = b (ix1 e) := fun e => by
    unfold Spec.Graph.same
    rw [hlab, hlab, hsr, hd, hR, hC]
  have p1 := agg_part g hc hd w hw ms hm (sameOf a b) g.same fun e => same_at a b e (ha e) (g.same e) (hP e)
  have p2 := agg_part g hc hd w hw ms hm (diffOf a b) (fun e => ¬ g.same e) fun e => diff_at a b e (ha e) (hb e) (g.same e) (hP e)
  have p3 := agg_part g hc hd w hw ms hm (ori (cmpi .eq a (allI 4294967295#32)) (cmpi .eq b (broadcastInDim S320000 ![] bcast_S_S320000 (constantI S_ 32 4294967295#32)))) (fun _ => False) fun e => unl_at a b e (ha e) (hb e)
  rw [side_at]
  unfold Spec.Graph.out
  by_cases h1 : j.val < 128
  · rw [dif_pos h1, dif_pos h1]
    exact p1 n _
  · rw [dif_neg h1, dif_neg h1]
    by_cases h2 : j.val < 256
    · rw [dif_pos h2, dif_pos h2]
      exact p2 n _
    · rw [dif_neg h2, dif_neg h2]
      exact (p3 n _).trans (part_none g n _)

variable (m : (ℓ : Loc nD τ sig) → Buf (Elt Ideal) ℓ) (d : Dev nD)

/-- The result buffer as a function of the arguments. -/
theorem result_eq : U4 m d main_v168 =
    sideOf (aggOf (keptW (scoreOf (A m d main_arg0) (A m d main_arg1) (A m d main_arg2) (rowsOf (A m d main_arg7)) (colsOf (A m d main_arg7))) (colsOf (A m d main_arg7))) (sameOf (nodeAt (A m d main_arg8) (rowsOf (A m d main_arg7))) (nodeAt (A m d main_arg8) (colsOf (A m d main_arg7)))) (msgOf (A m d main_arg0) (A m d main_arg1) (A m d main_arg3) (A m d main_arg4) (A m d main_arg5) (A m d main_arg6) (rowsOf (A m d main_arg7))) (colsOf (A m d main_arg7)))
      (aggOf (keptW (scoreOf (A m d main_arg0) (A m d main_arg1) (A m d main_arg2) (rowsOf (A m d main_arg7)) (colsOf (A m d main_arg7))) (colsOf (A m d main_arg7))) (diffOf (nodeAt (A m d main_arg8) (rowsOf (A m d main_arg7))) (nodeAt (A m d main_arg8) (colsOf (A m d main_arg7)))) (msgOf (A m d main_arg0) (A m d main_arg1) (A m d main_arg3) (A m d main_arg4) (A m d main_arg5) (A m d main_arg6) (rowsOf (A m d main_arg7))) (colsOf (A m d main_arg7)))
      (aggOf (keptW (scoreOf (A m d main_arg0) (A m d main_arg1) (A m d main_arg2) (rowsOf (A m d main_arg7)) (colsOf (A m d main_arg7))) (colsOf (A m d main_arg7)))
        (ori (cmpi .eq (nodeAt (A m d main_arg8) (rowsOf (A m d main_arg7))) (allI 4294967295#32)) (cmpi .eq (nodeAt (A m d main_arg8) (colsOf (A m d main_arg7))) (broadcastInDim S320000 ![] bcast_S_S320000 (constantI S_ 32 4294967295#32))))
        (msgOf (A m d main_arg0) (A m d main_arg1) (A m d main_arg3) (A m d main_arg4) (A m d main_arg5) (A m d main_arg6) (rowsOf (A m d main_arg7))) (colsOf (A m d main_arg7))) := by
  obtain ⟨a1, a2, a3, a4, a5, a6, a7⟩ := stage1 m d
  obtain ⟨b1, b2, b3, b4, b5, b6, b7, b8, b9⟩ := stage2 m d a6
  have b10 := stage2s m d
  obtain ⟨c1, c2, c3, c4, c5, c6, c7, c8⟩ := stage3 m d b3 b5
  rw [stage4, c1, c2, c3, c4, c5, c6, c7, c8, b10, b4, b2, b1, b6, b7, b8, b9, a5, a4, a1, a2, a3, a7]
  rfl

end Cert.ReferenceIdeal.Run

end
-- ==== Proof.Algebraic.lean ====
/- The value claim: both runs leave the graph's result. -/
module

public import proofs.«01_k».proof.Proof.KVal
public import proofs.«01_k».proof.Proof.Meaning
public import proofs.«01_k».proof.Proof.RefOut

@[expose] public section

set_option maxRecDepth 65536

noncomputable section

namespace Cert.Frames

open Idealize.ShloMosaic Idealize.ShloMosaic.TcCoe Idealize.SL.Sem

/-- The reference's result at an element, from arguments that satisfy the precondition. -/
theorem reference_out (m : (ℓ : Loc ReferenceIdeal.nD ReferenceIdeal.τ ReferenceIdeal.sig) → Buf (Elt Ideal) ℓ) (d : Dev ReferenceIdeal.nD)
    (x0 : FVec Ideal ReferenceIdeal.S10000x128 .f32) (x1 : FVec Ideal ReferenceIdeal.S320000x16 .f32) (x2 : FVec Ideal ReferenceIdeal.S272x4 .f32)
    (x3 : FVec Ideal ReferenceIdeal.S128x128 .f32) (x4 : FVec Ideal ReferenceIdeal.S128 .f32) (x5 : FVec Ideal ReferenceIdeal.S16x128 .f32)
    (x6 : FVec Ideal ReferenceIdeal.S128 .f32) (x7 : IVec ReferenceIdeal.S2x320000 32) (x8 : IVec ReferenceIdeal.S10000 32)
    (e0 : ReferenceIdeal.Run.A m d ReferenceIdeal.main_arg0 = x0) (e1 : ReferenceIdeal.Run.A m d ReferenceIdeal.main_arg1 = x1) (e2 : ReferenceIdeal.Run.A m d ReferenceIdeal.main_arg2 = x2)
    (e3 : ReferenceIdeal.Run.A m d ReferenceIdeal.main_arg3 = x3) (e4 : ReferenceIdeal.Run.A m d ReferenceIdeal.main_arg4 = x4) (e5 : ReferenceIdeal.Run.A m d ReferenceIdeal.main_arg5 = x5)
    (e6 : ReferenceIdeal.Run.A m d ReferenceIdeal.main_arg6 = x6) (e7 : ReferenceIdeal.Run.A m d ReferenceIdeal.main_arg7 = x7) (e8 : ReferenceIdeal.Run.A m d ReferenceIdeal.main_arg8 = x8)
    (hpre : (Pre_distinct_scores.fn (F := Ideal) x0 x1 x2 x3 x4 x5 x6 x7 x8).1 = (fun _ => 1#1) ∧ (Pre_distinct_scores.fn (F := Ideal) x0 x1 x2 x3 x4 x5 x6 x7 x8).2.1 = (fun _ => 1#1)
      ∧ (Pre_distinct_scores.fn (F := Ideal) x0 x1 x2 x3 x4 x5 x6 x7 x8).2.2.1 = (fun _ => 1#1) ∧ (Pre_distinct_scores.fn (F := Ideal) x0 x1 x2 x3 x4 x5 x6 x7 x8).2.2.2 = fun _ => 1#1)
    (n : Fin 10000) (j : Fin 384) :
    (ReferenceIdeal.Run.U4 m d ReferenceIdeal.main_v168 : ReferenceIdeal.S10000x384.Idx → EReal) (ix2 n j) = (Spec.graph x0 x1 x2 x3 x4 x5 x6 x7 x8).out n j := by
  subst e0 e1 e2 e3 e4 e5 e6 e7 e8
  rw [ReferenceIdeal.Run.result_eq]
  exact ReferenceIdeal.Run.ref_out _ _ _ _ _ _ _ _ _ (ReferenceIdeal.Run.rows_ok _ _ _ _ _ _ _ _ _ hpre) (ReferenceIdeal.Run.cols_ok _ _ _ _ _ _ _ _ _ hpre)
    (ReferenceIdeal.Run.label_ne _ _ _ _ _ _ _ _ _ hpre) (ReferenceIdeal.Run.score_real _ _ _ _ _ _ _ _ _ hpre) (ReferenceIdeal.Run.score_distinct _ _ _ _ _ _ _ _ _ hpre) n j

/-- The value claim. -/
theorem algebraic : Cert.algebraic_KernelIdeal_ReferenceIdeal_pre_distinct_scores := by
  intro m g m' g' hpre hargs
  have hin := inRange hpre
  refine ⟨fun c => KernelIdeal.Run.W6 m c KernelIdeal.main_v15, ?_, ?_⟩
  · refine θ_run_mono (KernelIdeal.Run.run_value (F := Ideal) m g hin) fun r hr c => ⟨hr.2 c, hr.1.1 c⟩
  · refine θ_run_mono (ReferenceIdeal.Run.run_value (F := Ideal) m' g') fun r hr c => ⟨(hr.2 c).trans ?_, hr.1.1 c⟩
    obtain ⟨a0, a1, a2, a3, a4, a5, a6, a7, a8⟩ := hargs c
    have hv : ∀ (n : Fin 10000) (j : Fin 384), (ReferenceIdeal.Run.U4 m' c ReferenceIdeal.main_v168 : ReferenceIdeal.S10000x384.Idx → EReal) (ix2 n j)
        = (KernelIdeal.Run.W6 m c KernelIdeal.main_v15 : KernelIdeal.S10000x384.Idx → EReal) (ix2 n j) := fun n j =>
      (reference_out m' c _ _ _ _ _ _ _ _ _ a0 a1 a2 a3 a4 a5 a6 a7 a8 (hpre c) n j).trans (KernelIdeal.Run.out_val m c hin n j).symm
    refine funext fun (i : ReferenceIdeal.S10000x384.Idx) => ?_
    have hi : i = ix2 (i 0) (i 1) := funext fun b => by
      match b with
      | ⟨0, _⟩ => rfl
      | ⟨1, _⟩ => rfl
    rw [hi]
    exact hv (i 0) (i 1)

end Cert.Frames

end
-- ==== Proof.lean ====
/- The proof of the claim: each part is a theorem of its own module. -/
module

public import proofs.«01_k».proof.Defs
public import proofs.«01_k».proof.Proof.Frames
public import proofs.«01_k».proof.Proof.Scores
public import proofs.«01_k».proof.Proof.Algebraic

@[expose] public section

noncomputable section

namespace Cert.Proof

/-- The claim: the frames, that the idealization rewrites nothing, and that kernel and reference leave the same result. -/
theorem claim : Cert.Claim :=
  ⟨Cert.Kernel.Gen.facts, Cert.KernelIdeal.Gen.facts, Cert.ReferenceIdeal.Gen.facts, Cert.Pre_indices_in_range.Gen.facts, Cert.Pre_distinct_scores.Gen.facts,
    Cert.Frames.kernel, Cert.Frames.kernelIdeal, Cert.Frames.kernelIdeal_scores, Cert.Frames.reference, Cert.Frames.reference_scores, trivial, Cert.Frames.algebraic⟩

end Cert.Proof

end
